-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  IdealRules.named_const.Statement Cert.KernelIdeal.κ "qscale" .f32 0x3E16C740#32 (((Real.sqrt 96)⁻¹ * (Real.log 2)⁻¹ : ℝ) : EReal)
  ∧ IdealRules.named_const.Statement Cert.KernelIdeal.κ "mask" .f32 0xFF7F0000#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v78) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v70_0)) (v1 : (c : Dev Cert.Kernel4Ideal.nD) → Buf (Elt Ideal) ((c.tc : Thread Cert.Kernel4Ideal.nD Cert.Kernel4Ideal.τ).loc Cert.Kernel4Ideal.main_v70_1)) (v2 : (c : Dev Cert.Kernel4Ideal.nD) → Buf (Elt Ideal) ((c.tc : Thread Cert.Kernel4Ideal.nD Cert.Kernel4Ideal.τ).loc Cert.Kernel4Ideal.main_v70_2)) (v3 : (c : Dev Cert.Kernel4Ideal.nD) → Buf (Elt Ideal) ((c.tc : Thread Cert.Kernel4Ideal.nD Cert.Kernel4Ideal.τ).loc Cert.Kernel4Ideal.main_v70_3)) (v4 : (c : Dev Cert.Kernel4Ideal.nD) → Buf (Elt Ideal) ((c.tc : Thread Cert.Kernel4Ideal.nD Cert.Kernel4Ideal.τ).loc Cert.Kernel4Ideal.main_v70_4)) (v5 : (c : Dev Cert.Kernel4Ideal.nD) → Buf (Elt Ideal) ((c.tc : Thread Cert.Kernel4Ideal.nD Cert.Kernel4Ideal.τ).loc Cert.Kernel4Ideal.main_v70_5)) (v6 : (c : Dev Cert.Kernel4Ideal.nD) → Buf (Elt Ideal) ((c.tc : Thread Cert.Kernel4Ideal.nD Cert.Kernel4Ideal.τ).loc Cert.Kernel4Ideal.main_v70_6)) (v7 : (c : Dev Cert.Kernel4Ideal.nD) → Buf (Elt Ideal) ((c.tc : Thread Cert.Kernel4Ideal.nD Cert.Kernel4Ideal.τ).loc Cert.Kernel4Ideal.main_v70_7)) (v8 : (c : Dev Cert.Kernel4Ideal.nD) → Buf (Elt Ideal) ((c.tc : Thread Cert.Kernel4Ideal.nD Cert.Kernel4Ideal.τ).loc Cert.Kernel4Ideal.main_v70_8)) (v9 : (c : Dev Cert.Kernel4Ideal.nD) → Buf (Elt Ideal) ((c.tc : Thread Cert.Kernel4Ideal.nD Cert.Kernel4Ideal.τ).loc Cert.Kernel4Ideal.main_v70_9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v70_0) = v0 c
          ∧ r.2.mem ((c.tc : Thread Cert.Kernel4Ideal.nD Cert.Kernel4Ideal.τ).loc Cert.Kernel4Ideal.main_v70_1) = v1 c
          ∧ r.2.mem ((c.tc : Thread Cert.Kernel4Ideal.nD Cert.Kernel4Ideal.τ).loc Cert.Kernel4Ideal.main_v70_2) = v2 c
          ∧ r.2.mem ((c.tc : Thread Cert.Kernel4Ideal.nD Cert.Kernel4Ideal.τ).loc Cert.Kernel4Ideal.main_v70_3) = v3 c
          ∧ r.2.mem ((c.tc : Thread Cert.Kernel4Ideal.nD Cert.Kernel4Ideal.τ).loc Cert.Kernel4Ideal.main_v70_4) = v4 c
          ∧ r.2.mem ((c.tc : Thread Cert.Kernel4Ideal.nD Cert.Kernel4Ideal.τ).loc Cert.Kernel4Ideal.main_v70_5) = v5 c
          ∧ r.2.mem ((c.tc : Thread Cert.Kernel4Ideal.nD Cert.Kernel4Ideal.τ).loc Cert.Kernel4Ideal.main_v70_6) = v6 c
          ∧ r.2.mem ((c.tc : Thread Cert.Kernel4Ideal.nD Cert.Kernel4Ideal.τ).loc Cert.Kernel4Ideal.main_v70_7) = v7 c
          ∧ r.2.mem ((c.tc : Thread Cert.Kernel4Ideal.nD Cert.Kernel4Ideal.τ).loc Cert.Kernel4Ideal.main_v70_8) = v8 c
          ∧ r.2.mem ((c.tc : Thread Cert.Kernel4Ideal.nD Cert.Kernel4Ideal.τ).loc Cert.Kernel4Ideal.main_v70_9) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v159) = v0 c
          ∧ r.2.mem ((c.tc : Thread Cert.Reference4Ideal.nD Cert.Reference4Ideal.τ).loc Cert.Reference4Ideal.main_v161) = v1 c
          ∧ r.2.mem ((c.tc : Thread Cert.Reference4Ideal.nD Cert.Reference4Ideal.τ).loc Cert.Reference4Ideal.main_v163) = v2 c
          ∧ r.2.mem ((c.tc : Thread Cert.Reference4Ideal.nD Cert.Reference4Ideal.τ).loc Cert.Reference4Ideal.main_v164) = v3 c
          ∧ r.2.mem ((c.tc : Thread Cert.Reference4Ideal.nD Cert.Reference4Ideal.τ).loc Cert.Reference4Ideal.main_v165) = v4 c
          ∧ r.2.mem ((c.tc : Thread Cert.Reference4Ideal.nD Cert.Reference4Ideal.τ).loc Cert.Reference4Ideal.main_v168) = v5 c
          ∧ r.2.mem ((c.tc : Thread Cert.Reference4Ideal.nD Cert.Reference4Ideal.τ).loc Cert.Reference4Ideal.main_v169) = v6 c
          ∧ r.2.mem ((c.tc : Thread Cert.Reference4Ideal.nD Cert.Reference4Ideal.τ).loc Cert.Reference4Ideal.main_v171) = v7 c
          ∧ r.2.mem ((c.tc : Thread Cert.Reference4Ideal.nD Cert.Reference4Ideal.τ).loc Cert.Reference4Ideal.main_v172) = v8 c
          ∧ r.2.mem ((c.tc : Thread Cert.Reference4Ideal.nD Cert.Reference4Ideal.τ).loc Cert.Reference4Ideal.main_v173) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S16x8x2048x128 : Shape := ⟨4, ![16, 8, 2048, 128]⟩
abbrev S16x4x2048x128 : Shape := ⟨4, ![16, 4, 2048, 128]⟩
abbrev S_ : Shape := ⟨0, ![]⟩

class Facts : Prop where
  bitsLt_bf16_f32 : FTy.bits .bf16 < FTy.bits .f32
  bcast_S_S16x8x2048x128 : S_.BroadcastsInDim S16x8x2048x128 (![] : Fin 0 → Fin S16x8x2048x128.rank)

variable [Facts]

def fn {F : FTy → Type} [FloatOps F] (main_arg0 : FVec F S16x8x2048x128 .bf16) (main_arg1 : FVec F S16x8x2048x128 .bf16) (main_arg2 : FVec F S16x4x2048x128 .bf16) : IVec S16x8x2048x128 1 × IVec S16x8x2048x128 1 :=
  let main_v0 : FVec F S16x8x2048x128 .f32 := (extf .f32 · bitsLt_bf16_f32) main_arg0
  let main_v1 : FVec F S16x8x2048x128 .f32 := Host.absf main_v0
  let main_cst : FVec F S_ .f32 := constant S_ .f32 0x7F800000#32
  let main_v2 : FVec F S16x8x2048x128 .f32 := broadcastInDim S16x8x2048x128 ![] bcast_S_S16x8x2048x128 main_cst
  let main_v3 : IVec S16x8x2048x128 1 := cmpf .olt main_v1 main_v2
  let main_v4 : FVec F S16x8x2048x128 .f32 := (extf .f32 · bitsLt_bf16_f32) main_arg1
  let main_v5 : FVec F S16x8x2048x128 .f32 := Host.absf main_v4
  let main_cst_0 : FVec F S_ .f32 := constant S_ .f32 0x7F800000#32
  let main_v6 : FVec F S16x8x2048x128 .f32 := broadcastInDim S16x8x2048x128 ![] bcast_S_S16x8x2048x128 main_cst_0
  let main_v7 : IVec S16x8x2048x128 1 := cmpf .olt main_v5 main_v6
  (main_v3, main_v7)
-- ==== Kernel.lean ====
abbrev S16x8x2048x128 : Shape := ⟨4, ![16, 8, 2048, 128]⟩
abbrev S16x4x2048x128 : Shape := ⟨4, ![16, 4, 2048, 128]⟩
abbrev S16x2048x512 : Shape := ⟨3, ![16, 2048, 512]⟩
abbrev S1x8x512x128 : Shape := ⟨4, ![1, 8, 512, 128]⟩
abbrev S1x8x2048x128 : Shape := ⟨4, ![1, 8, 2048, 128]⟩
abbrev S1x4x2048x128 : Shape := ⟨4, ![1, 4, 2048, 128]⟩
abbrev S1x512x512 : Shape := ⟨3, ![1, 512, 512]⟩
abbrev S1x1x512x128 : Shape := ⟨4, ![1, 1, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x512x128 : Shape := ⟨3, ![1, 512, 128]⟩

abbrev nBuf : Space → Nat
  | .hbm => 4
  | .vmem => 8
  | .smem => 0
  | _ => 0

abbrev bufTy : (tb : Table) → Fin (tcTables nBuf tb) → BufTy
  | .hbm, ⟨0, _⟩ => ⟨S16x8x2048x128, .bf16⟩
  | .hbm, ⟨1, _⟩ => ⟨S16x8x2048x128, .bf16⟩
  | .hbm, ⟨2, _⟩ => ⟨S16x4x2048x128, .bf16⟩
  | .hbm, ⟨3, _⟩ => ⟨S16x2048x512, .bf16⟩
  | .local _ .vmem, ⟨0, _⟩ => ⟨S1x8x512x128, .bf16⟩
  | .local _ .vmem, ⟨1, _⟩ => ⟨S1x8x512x128, .bf16⟩
  | .local _ .vmem, ⟨2, _⟩ => ⟨S1x8x2048x128, .bf16⟩
  | .local _ .vmem, ⟨3, _⟩ => ⟨S1x8x2048x128, .bf16⟩
  | .local _ .vmem, ⟨4, _⟩ => ⟨S1x4x2048x128, .bf16⟩
  | .local _ .vmem, ⟨5, _⟩ => ⟨S1x4x2048x128, .bf16⟩
  | .local _ .vmem, ⟨6, _⟩ => ⟨S1x512x512, .bf16⟩
  | .local _ .vmem, ⟨7, _⟩ => ⟨S1x512x512, .bf16⟩
  | _, _ => ⟨S16x8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 4], ![false, false, false]⟩

def k0_mult1 (i : grid0.Coords) : BitVec 32 :=
  let arg2 : BitVec 32 := BitVec.ofNat 32 (i 2).val
  let c512_i32 : BitVec 32 := 512#32
  let v48 : BitVec 32 := Scalar.muli arg2 c512_i32
  v48
def k0_off1 (i : grid0.Coords) : Fin 4 → Nat :=
  let c0_31 : Index := 0#32
  let c0_32 : Index := 0#32
  let arg2 : BitVec 32 := BitVec.ofNat 32 (i 2).val
  let c512_i32 : BitVec 32 := 512#32
  let v48 : BitVec 32 := Scalar.muli arg2 c512_i32
  let v49 : BitVec 32 := v48
  let v50 : Index := Scalar.indexCast v49
  let c0_33 : Index := 0#32
  ![0, 0, v50.toNat, 0]
def k0_off2 (i : grid0.Coords) : Fin 4 → Nat :=
  let c0_35 : Index := 0#32
  let c0_36 : Index := 0#32
  let arg2 : BitVec 32 := BitVec.ofNat 32 (i 2).val
  let c512_i32 : BitVec 32 := 512#32
  let v48 : BitVec 32 := Scalar.muli arg2 c512_i32
  let v49 : BitVec 32 := v48
  let v54 : Index := Scalar.indexCast v49
  let c0_37 : Index := 0#32
  ![0, 0, v54.toNat, 0]
def k0_mult2 (i : grid0.Coords) : BitVec 32 :=
  let arg2 : BitVec 32 := BitVec.ofNat 32 (i 2).val
  let c512_i32_42 : BitVec 32 := 512#32
  let v71 : BitVec 32 := Scalar.muli arg2 c512_i32_42
  v71
def k0_off3 (i : grid0.Coords) : Fin 4 → Nat :=
  let c0_43 : Index := 0#32
  let c1_44 : Index := 1#32
  let arg2 : BitVec 32 := BitVec.ofNat 32 (i 2).val
  let c512_i32_42 : BitVec 32 := 512#32
  let v71 : BitVec 32 := Scalar.muli arg2 c512_i32_42
  let v72 : BitVec 32 := v71
  let v73 : Index := Scalar.indexCast v72
  let c0_45 : Index := 0#32
  ![0, 1, v73.toNat, 0]
def k0_mult3 (i : grid0.Coords) : BitVec 32 :=
  let arg2 : BitVec 32 := BitVec.ofNat 32 (i 2).val
  let c512_i32_54 : BitVec 32 := 512#32
  let v94 : BitVec 32 := Scalar.muli arg2 c512_i32_54
  v94
def k0_off4 (i : grid0.Coords) : Fin 4 → Nat :=
  let c0_55 : Index := 0#32
  let c2_56 : Index := 2#32
  let arg2 : BitVec 32 := BitVec.ofNat 32 (i 2).val
  let c512_i32_54 : BitVec 32 := 512#32
  let v94 : BitVec 32 := Scalar.muli arg2 c512_i32_54
  let v95 : BitVec 32 := v94
  let v96 : Index := Scalar.indexCast v95
  let c0_57 : Index := 0#32
  ![0, 2, v96.toNat, 0]
def k0_off5 (i : grid0.Coords) : Fin 4 → Nat :=
  let c0_59 : Index := 0#32
  let c1_60 : Index := 1#32
  let arg2 : BitVec 32 := BitVec.ofNat 32 (i 2).val
  let c512_i32_54 : BitVec 32 := 512#32
  let v94 : BitVec 32 := Scalar.muli arg2 c512_i32_54
  let v95 : BitVec 32 := v94
  let v100 : Index := Scalar.indexCast v95
  let c0_61 : Index := 0#32
  ![0, 1, v100.toNat, 0]
def k0_mult4 (i : grid0.Coords) : BitVec 32 :=
  let arg2 : BitVec 32 := BitVec.ofNat 32 (i 2).val
  let c512_i32_66 : BitVec 32 := 512#32
  let v117 : BitVec 32 := Scalar.muli arg2 c512_i32_66
  v117
def k0_off6 (i : grid0.Coords) : Fin 4 → Nat :=
  let c0_67 : Index := 0#32
  let c3_68 : Index := 3#32
  let arg2 : BitVec 32 := BitVec.ofNat 32 (i 2).val
  let c512_i32_66 : BitVec 32 := 512#32
  let v117 : BitVec 32 := Scalar.muli arg2 c512_i32_66
  let v118 : BitVec 32 := v117
  let v119 : Index := Scalar.indexCast v118
  let c0_69 : Index := 0#32
  ![0, 3, v119.toNat, 0]
def k0_mult5 (i : grid0.Coords) : BitVec 32 :=
  let arg2 : BitVec 32 := BitVec.ofNat 32 (i 2).val
  let c512_i32_78 : BitVec 32 := 512#32
  let v140 : BitVec 32 := Scalar.muli arg2 c512_i32_78
  v140
def k0_off7 (i : grid0.Coords) : Fin 4 → Nat :=
  let c0_79 : Index := 0#32
  let c4_80 : Index := 4#32
  let arg2 : BitVec 32 := BitVec.ofNat 32 (i 2).val
  let c512_i32_78 : BitVec 32 := 512#32
  let v140 : BitVec 32 := Scalar.muli arg2 c512_i32_78
  let v141 : BitVec 32 := v140
  let v142 : Index := Scalar.indexCast v141
  let c0_81 : Index := 0#32
  ![0, 4, v142.toNat, 0]
def k0_off8 (i : grid0.Coords) : Fin 4 → Nat :=
  let c0_83 : Index := 0#32
  let c2_84 : Index := 2#32
  let arg2 : BitVec 32 := BitVec.ofNat 32 (i 2).val
  let c512_i32_78 : BitVec 32 := 512#32
  let v140 : BitVec 32 := Scalar.muli arg2 c512_i32_78
  let v141 : BitVec 32 := v140
  let v146 : Index := Scalar.indexCast v141
  let c0_85 : Index := 0#32
  ![0, 2, v146.toNat, 0]
def k0_mult6 (i : grid0.Coords) : BitVec 32 :=
  let arg2 : BitVec 32 := BitVec.ofNat 32 (i 2).val
  let c512_i32_90 : BitVec 32 := 512#32
  let v163 : BitVec 32 := Scalar.muli arg2 c512_i32_90
  v163
def k0_off9 (i : grid0.Coords) : Fin 4 → Nat :=
  let c0_91 : Index := 0#32
  let c5_92 : Index := 5#32
  let arg2 : BitVec 32 := BitVec.ofNat 32 (i 2).val
  let c512_i32_90 : BitVec 32 := 512#32
  let v163 : BitVec 32 := Scalar.muli arg2 c512_i32_90
  let v164 : BitVec 32 := v163
  let v165 : Index := Scalar.indexCast v164
  let c0_93 : Index := 0#32
  ![0, 5, v165.toNat, 0]
def k0_mult7 (i : grid0.Coords) : BitVec 32 :=
  let arg2 : BitVec 32 := BitVec.ofNat 32 (i 2).val
  let c512_i32_102 : BitVec 32 := 512#32
  let v186 : BitVec 32 := Scalar.muli arg2 c512_i32_102
  v186
def k0_off10 (i : grid0.Coords) : Fin 4 → Nat :=
  let c0_103 : Index := 0#32
  let c6_104 : Index := 6#32
  let arg2 : BitVec 32 := BitVec.ofNat 32 (i 2).val
  let c512_i32_102 : BitVec 32 := 512#32
  let v186 : BitVec 32 := Scalar.muli arg2 c512_i32_102
  let v187 : BitVec 32 := v186
  let v188 : Index := Scalar.indexCast v187
  let c0_105 : Index := 0#32
  ![0, 6, v188.toNat, 0]
def k0_off11 (i : grid0.Coords) : Fin 4 → Nat :=
  let c0_107 : Index := 0#32
  let c3_108 : Index := 3#32
  let arg2 : BitVec 32 := BitVec.ofNat 32 (i 2).val
  let c512_i32_102 : BitVec 32 := 512#32
  let v186 : BitVec 32 := Scalar.muli arg2 c512_i32_102
  let v187 : BitVec 32 := v186
  let v192 : Index := Scalar.indexCast v187
  let c0_109 : Index := 0#32
  ![0, 3, v192.toNat, 0]
def k0_mult8 (i : grid0.Coords) : BitVec 32 :=
  let arg2 : BitVec 32 := BitVec.ofNat 32 (i 2).val
  let c512_i32_114 : BitVec 32 := 512#32
  let v209 : BitVec 32 := Scalar.muli arg2 c512_i32_114
  v209
def k0_off12 (i : grid0.Coords) : Fin 4 → Nat :=
  let c0_115 : Index := 0#32
  let c7_116 : Index := 7#32
  let arg2 : BitVec 32 := BitVec.ofNat 32 (i 2).val
  let c512_i32_114 : BitVec 32 := 512#32
  let v209 : BitVec 32 := Scalar.muli arg2 c512_i32_114
  let v210 : BitVec 32 := v209
  let v211 : Index := Scalar.indexCast v210
  let c0_117 : Index := 0#32
  ![0, 7, v211.toNat, 0]
@[reducible] def k0_t1_loop (i : grid0.Coords) : Scf.Loop 32 :=
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_126 : BitVec 32 := 1#32
  ⟨c0_i32, v236, c1_i32_126⟩
def k0_mult9 (i : grid0.Coords) (k0_t1 : Fin (k0_t1_loop i).trips) : BitVec 32 :=
  let c0_i32 : BitVec 32 := 0#32
  let c1_i32_126 : BitVec 32 := 1#32
  let arg7 : BitVec 32 := Scf.iv c0_i32 c1_i32_126 k0_t1
  let c512_i32_140 : BitVec 32 := 512#32
  let v287 : BitVec 32 := Scalar.muli arg7 c512_i32_140
  v287
def k0_off13 (i : grid0.Coords) (k0_t1 : Fin (k0_t1_loop i).trips) : Fin 4 → Nat :=
  let c0_141 : Index := 0#32
  let c0_142 : Index := 0#32
  let c0_i32 : BitVec 32 := 0#32
  let c1_i32_126 : BitVec 32 := 1#32
  let arg7 : BitVec 32 := Scf.iv c0_i32 c1_i32_126 k0_t1
  let c512_i32_140 : BitVec 32 := 512#32
  let v287 : BitVec 32 := Scalar.muli arg7 c512_i32_140
  let v288 : BitVec 32 := v287
  let v289 : Index := Scalar.indexCast v288
  let c0_143 : Index := 0#32
  ![0, 0, v289.toNat, 0]
def k0_off14 (i : grid0.Coords) (k0_t1 : Fin (k0_t1_loop i).trips) : Fin 4 → Nat :=
  let c0_145 : Index := 0#32
  let c0_146 : Index := 0#32
  let c0_i32 : BitVec 32 := 0#32
  let c1_i32_126 : BitVec 32 := 1#32
  let arg7 : BitVec 32 := Scf.iv c0_i32 c1_i32_126 k0_t1
  let c512_i32_140 : BitVec 32 := 512#32
  let v287 : BitVec 32 := Scalar.muli arg7 c512_i32_140
  let v288 : BitVec 32 := v287
  let v293 : Index := Scalar.indexCast v288
  let c0_147 : Index := 0#32
  ![0, 0, v293.toNat, 0]
def k0_mult10 (i : grid0.Coords) (k0_t1 : Fin (k0_t1_loop i).trips) : BitVec 32 :=
  let c0_i32 : BitVec 32 := 0#32
  let c1_i32_126 : BitVec 32 := 1#32
  let arg7 : BitVec 32 := Scf.iv c0_i32 c1_i32_126 k0_t1
  let c512_i32_151 : BitVec 32 := 512#32
  let v313 : BitVec 32 := Scalar.muli arg7 c512_i32_151
  v313
def k0_off15 (i : grid0.Coords) (k0_t1 : Fin (k0_t1_loop i).trips) : Fin 4 → Nat :=
  let c0_152 : Index := 0#32
  let c1_153 : Index := 1#32
  let c0_i32 : BitVec 32 := 0#32
  let c1_i32_126 : BitVec 32 := 1#32
  let arg7 : BitVec 32 := Scf.iv c0_i32 c1_i32_126 k0_t1
  let c512_i32_151 : BitVec 32 := 512#32
  let v313 : BitVec 32 := Scalar.muli arg7 c512_i32_151
  let v314 : BitVec 32 := v313
  let v315 : Index := Scalar.indexCast v314
  let c0_154 : Index := 0#32
  ![0, 1, v315.toNat, 0]
def k0_mult11 (i : grid0.Coords) (k0_t1 : Fin (k0_t1_loop i).trips) : BitVec 32 :=
  let c0_i32 : BitVec 32 := 0#32
  let c1_i32_126 : BitVec 32 := 1#32
  let arg7 : BitVec 32 := Scf.iv c0_i32 c1_i32_126 k0_t1
  let c512_i32_162 : BitVec 32 := 512#32
  let v339 : BitVec 32 := Scalar.muli arg7 c512_i32_162
  v339
def k0_off16 (i : grid0.Coords) (k0_t1 : Fin (k0_t1_loop i).trips) : Fin 4 → Nat :=
  let c0_163 : Index := 0#32
  let c2_164 : Index := 2#32
  let c0_i32 : BitVec 32 := 0#32
  let c1_i32_126 : BitVec 32 := 1#32
  let arg7 : BitVec 32 := Scf.iv c0_i32 c1_i32_126 k0_t1
  let c512_i32_162 : BitVec 32 := 512#32
  let v339 : BitVec 32 := Scalar.muli arg7 c512_i32_162
  let v340 : BitVec 32 := v339
  let v341 : Index := Scalar.indexCast v340
  let c0_165 : Index := 0#32
  ![0, 2, v341.toNat, 0]
def k0_off17 (i : grid0.Coords) (k0_t1 : Fin (k0_t1_loop i).trips) : Fin 4 → Nat :=
  let c0_167 : Index := 0#32
  let c1_168 : Index := 1#32
  let c0_i32 : BitVec 32 := 0#32
  let c1_i32_126 : BitVec 32 := 1#32
  let arg7 : BitVec 32 := Scf.iv c0_i32 c1_i32_126 k0_t1
  let c512_i32_162 : BitVec 32 := 512#32
  let v339 : BitVec 32 := Scalar.muli arg7 c512_i32_162
  let v340 : BitVec 32 := v339
  let v345 : Index := Scalar.indexCast v340
  let c0_169 : Index := 0#32
  ![0, 1, v345.toNat, 0]
def k0_mult12 (i : grid0.Coords) (k0_t1 : Fin (k0_t1_loop i).trips) : BitVec 32 :=
  let c0_i32 : BitVec 32 := 0#32
  let c1_i32_126 : BitVec 32 := 1#32
  let arg7 : BitVec 32 := Scf.iv c0_i32 c1_i32_126 k0_t1
  let c512_i32_173 : BitVec 32 := 512#32
  let v365 : BitVec 32 := Scalar.muli arg7 c512_i32_173
  v365
def k0_off18 (i : grid0.Coords) (k0_t1 : Fin (k0_t1_loop i).trips) : Fin 4 → Nat :=
  let c0_174 : Index := 0#32
  let c3_175 : Index := 3#32
  let c0_i32 : BitVec 32 := 0#32
  let c1_i32_126 : BitVec 32 := 1#32
  let arg7 : BitVec 32 := Scf.iv c0_i32 c1_i32_126 k0_t1
  let c512_i32_173 : BitVec 32 := 512#32
  let v365 : BitVec 32 := Scalar.muli arg7 c512_i32_173
  let v366 : BitVec 32 := v365
  let v367 : Index := Scalar.indexCast v366
  let c0_176 : Index := 0#32
  ![0, 3, v367.toNat, 0]
def k0_mult13 (i : grid0.Coords) (k0_t1 : Fin (k0_t1_loop i).trips) : BitVec 32 :=
  let c0_i32 : BitVec 32 := 0#32
  let c1_i32_126 : BitVec 32 := 1#32
  let arg7 : BitVec 32 := Scf.iv c0_i32 c1_i32_126 k0_t1
  let c512_i32_184 : BitVec 32 := 512#32
  let v391 : BitVec 32 := Scalar.muli arg7 c512_i32_184
  v391
def k0_off19 (i : grid0.Coords) (k0_t1 : Fin (k0_t1_loop i).trips) : Fin 4 → Nat :=
  let c0_185 : Index := 0#32
  let c4_186 : Index := 4#32
  let c0_i32 : BitVec 32 := 0#32
  let c1_i32_126 : BitVec 32 := 1#32
  let arg7 : BitVec 32 := Scf.iv c0_i32 c1_i32_126 k0_t1
  let c512_i32_184 : BitVec 32 := 512#32
  let v391 : BitVec 32 := Scalar.muli arg7 c512_i32_184
  let v392 : BitVec 32 := v391
  let v393 : Index := Scalar.indexCast v392
  let c0_187 : Index := 0#32
  ![0, 4, v393.toNat, 0]
def k0_off20 (i : grid0.Coords) (k0_t1 : Fin (k0_t1_loop i).trips) : Fin 4 → Nat :=
  let c0_189 : Index := 0#32
  let c2_190 : Index := 2#32
  let c0_i32 : BitVec 32 := 0#32
  let c1_i32_126 : BitVec 32 := 1#32
  let arg7 : BitVec 32 := Scf.iv c0_i32 c1_i32_126 k0_t1
  let c512_i32_184 : BitVec 32 := 512#32
  let v391 : BitVec 32 := Scalar.muli arg7 c512_i32_184
  let v392 : BitVec 32 := v391
  let v397 : Index := Scalar.indexCast v392
  let c0_191 : Index := 0#32
  ![0, 2, v397.toNat, 0]
def k0_mult14 (i : grid0.Coords) (k0_t1 : Fin (k0_t1_loop i).trips) : BitVec 32 :=
  let c0_i32 : BitVec 32 := 0#32
  let c1_i32_126 : BitVec 32 := 1#32
  let arg7 : BitVec 32 := Scf.iv c0_i32 c1_i32_126 k0_t1
  let c512_i32_195 : BitVec 32 := 512#32
  let v417 : BitVec 32 := Scalar.muli arg7 c512_i32_195
  v417
def k0_off21 (i : grid0.Coords) (k0_t1 : Fin (k0_t1_loop i).trips) : Fin 4 → Nat :=
  let c0_196 : Index := 0#32
  let c5_197 : Index := 5#32
  let c0_i32 : BitVec 32 := 0#32
  let c1_i32_126 : BitVec 32 := 1#32
  let arg7 : BitVec 32 := Scf.iv c0_i32 c1_i32_126 k0_t1
  let c512_i32_195 : BitVec 32 := 512#32
  let v417 : BitVec 32 := Scalar.muli arg7 c512_i32_195
  let v418 : BitVec 32 := v417
  let v419 : Index := Scalar.indexCast v418
  let c0_198 : Index := 0#32
  ![0, 5, v419.toNat, 0]
def k0_mult15 (i : grid0.Coords) (k0_t1 : Fin (k0_t1_loop i).trips) : BitVec 32 :=
  let c0_i32 : BitVec 32 := 0#32
  let c1_i32_126 : BitVec 32 := 1#32
  let arg7 : BitVec 32 := Scf.iv c0_i32 c1_i32_126 k0_t1
  let c512_i32_206 : BitVec 32 := 512#32
  let v443 : BitVec 32 := Scalar.muli arg7 c512_i32_206
  v443
def k0_off22 (i : grid0.Coords) (k0_t1 : Fin (k0_t1_loop i).trips) : Fin 4 → Nat :=
  let c0_207 : Index := 0#32
  let c6_208 : Index := 6#32
  let c0_i32 : BitVec 32 := 0#32
  let c1_i32_126 : BitVec 32 := 1#32
  let arg7 : BitVec 32 := Scf.iv c0_i32 c1_i32_126 k0_t1
  let c512_i32_206 : BitVec 32 := 512#32
  let v443 : BitVec 32 := Scalar.muli arg7 c512_i32_206
  let v444 : BitVec 32 := v443
  let v445 : Index := Scalar.indexCast v444
  let c0_209 : Index := 0#32
  ![0, 6, v445.toNat, 0]
def k0_off23 (i : grid0.Coords) (k0_t1 : Fin (k0_t1_loop i).trips) : Fin 4 → Nat :=
  let c0_211 : Index := 0#32
  let c3_212 : Index := 3#32
  let c0_i32 : BitVec 32 := 0#32
  let c1_i32_126 : BitVec 32 := 1#32
  let arg7 : BitVec 32 := Scf.iv c0_i32 c1_i32_126 k0_t1
  let c512_i32_206 : BitVec 32 := 512#32
  let v443 : BitVec 32 := Scalar.muli arg7 c512_i32_206
  let v444 : BitVec 32 := v443
  let v449 : Index := Scalar.indexCast v444
  let c0_213 : Index := 0#32
  ![0, 3, v449.toNat, 0]
def k0_mult16 (i : grid0.Coords) (k0_t1 : Fin (k0_t1_loop i).trips) : BitVec 32 :=
  let c0_i32 : BitVec 32 := 0#32
  let c1_i32_126 : BitVec 32 := 1#32
  let arg7 : BitVec 32 := Scf.iv c0_i32 c1_i32_126 k0_t1
  let c512_i32_217 : BitVec 32 := 512#32
  let v469 : BitVec 32 := Scalar.muli arg7 c512_i32_217
  v469
def k0_off24 (i : grid0.Coords) (k0_t1 : Fin (k0_t1_loop i).trips) : Fin 4 → Nat :=
  let c0_218 : Index := 0#32
  let c7_219 : Index := 7#32
  let c0_i32 : BitVec 32 := 0#32
  let c1_i32_126 : BitVec 32 := 1#32
  let arg7 : BitVec 32 := Scf.iv c0_i32 c1_i32_126 k0_t1
  let c512_i32_217 : BitVec 32 := 512#32
  let v469 : BitVec 32 := Scalar.muli arg7 c512_i32_217
  let v470 : BitVec 32 := v469
  let v471 : Index := Scalar.indexCast v470
  let c0_220 : Index := 0#32
  ![0, 7, v471.toNat, 0]
@[reducible] def k0_t2_loop (i : grid0.Coords) : Scf.Loop 32 :=
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let v233 : BitVec 32 := Scalar.addi c0_i32 v232
  let c1_i32_127 : BitVec 32 := 1#32
  ⟨v236, v233, c1_i32_127⟩
def k0_mult17 (i : grid0.Coords) (k0_t2 : Fin (k0_t2_loop i).trips) : BitVec 32 :=
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_140 : BitVec 32 := 512#32
  let v287 : BitVec 32 := Scalar.muli arg7 c512_i32_140
  v287
def k0_off25 (i : grid0.Coords) (k0_t2 : Fin (k0_t2_loop i).trips) : Fin 4 → Nat :=
  let c0_141 : Index := 0#32
  let c0_142 : Index := 0#32
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_140 : BitVec 32 := 512#32
  let v287 : BitVec 32 := Scalar.muli arg7 c512_i32_140
  let v288 : BitVec 32 := v287
  let v289 : Index := Scalar.indexCast v288
  let c0_143 : Index := 0#32
  ![0, 0, v289.toNat, 0]
def k0_off26 (i : grid0.Coords) (k0_t2 : Fin (k0_t2_loop i).trips) : Fin 4 → Nat :=
  let c0_145 : Index := 0#32
  let c0_146 : Index := 0#32
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_140 : BitVec 32 := 512#32
  let v287 : BitVec 32 := Scalar.muli arg7 c512_i32_140
  let v288 : BitVec 32 := v287
  let v293 : Index := Scalar.indexCast v288
  let c0_147 : Index := 0#32
  ![0, 0, v293.toNat, 0]
def k0_mult18 (i : grid0.Coords) (k0_t2 : Fin (k0_t2_loop i).trips) : BitVec 32 :=
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_151 : BitVec 32 := 512#32
  let v313 : BitVec 32 := Scalar.muli arg7 c512_i32_151
  v313
def k0_off27 (i : grid0.Coords) (k0_t2 : Fin (k0_t2_loop i).trips) : Fin 4 → Nat :=
  let c0_152 : Index := 0#32
  let c1_153 : Index := 1#32
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_151 : BitVec 32 := 512#32
  let v313 : BitVec 32 := Scalar.muli arg7 c512_i32_151
  let v314 : BitVec 32 := v313
  let v315 : Index := Scalar.indexCast v314
  let c0_154 : Index := 0#32
  ![0, 1, v315.toNat, 0]
def k0_mult19 (i : grid0.Coords) (k0_t2 : Fin (k0_t2_loop i).trips) : BitVec 32 :=
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_162 : BitVec 32 := 512#32
  let v339 : BitVec 32 := Scalar.muli arg7 c512_i32_162
  v339
def k0_off28 (i : grid0.Coords) (k0_t2 : Fin (k0_t2_loop i).trips) : Fin 4 → Nat :=
  let c0_163 : Index := 0#32
  let c2_164 : Index := 2#32
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_162 : BitVec 32 := 512#32
  let v339 : BitVec 32 := Scalar.muli arg7 c512_i32_162
  let v340 : BitVec 32 := v339
  let v341 : Index := Scalar.indexCast v340
  let c0_165 : Index := 0#32
  ![0, 2, v341.toNat, 0]
def k0_off29 (i : grid0.Coords) (k0_t2 : Fin (k0_t2_loop i).trips) : Fin 4 → Nat :=
  let c0_167 : Index := 0#32
  let c1_168 : Index := 1#32
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_162 : BitVec 32 := 512#32
  let v339 : BitVec 32 := Scalar.muli arg7 c512_i32_162
  let v340 : BitVec 32 := v339
  let v345 : Index := Scalar.indexCast v340
  let c0_169 : Index := 0#32
  ![0, 1, v345.toNat, 0]
def k0_mult20 (i : grid0.Coords) (k0_t2 : Fin (k0_t2_loop i).trips) : BitVec 32 :=
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_173 : BitVec 32 := 512#32
  let v365 : BitVec 32 := Scalar.muli arg7 c512_i32_173
  v365
def k0_off30 (i : grid0.Coords) (k0_t2 : Fin (k0_t2_loop i).trips) : Fin 4 → Nat :=
  let c0_174 : Index := 0#32
  let c3_175 : Index := 3#32
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_173 : BitVec 32 := 512#32
  let v365 : BitVec 32 := Scalar.muli arg7 c512_i32_173
  let v366 : BitVec 32 := v365
  let v367 : Index := Scalar.indexCast v366
  let c0_176 : Index := 0#32
  ![0, 3, v367.toNat, 0]
def k0_mult21 (i : grid0.Coords) (k0_t2 : Fin (k0_t2_loop i).trips) : BitVec 32 :=
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_184 : BitVec 32 := 512#32
  let v391 : BitVec 32 := Scalar.muli arg7 c512_i32_184
  v391
def k0_off31 (i : grid0.Coords) (k0_t2 : Fin (k0_t2_loop i).trips) : Fin 4 → Nat :=
  let c0_185 : Index := 0#32
  let c4_186 : Index := 4#32
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_184 : BitVec 32 := 512#32
  let v391 : BitVec 32 := Scalar.muli arg7 c512_i32_184
  let v392 : BitVec 32 := v391
  let v393 : Index := Scalar.indexCast v392
  let c0_187 : Index := 0#32
  ![0, 4, v393.toNat, 0]
def k0_off32 (i : grid0.Coords) (k0_t2 : Fin (k0_t2_loop i).trips) : Fin 4 → Nat :=
  let c0_189 : Index := 0#32
  let c2_190 : Index := 2#32
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_184 : BitVec 32 := 512#32
  let v391 : BitVec 32 := Scalar.muli arg7 c512_i32_184
  let v392 : BitVec 32 := v391
  let v397 : Index := Scalar.indexCast v392
  let c0_191 : Index := 0#32
  ![0, 2, v397.toNat, 0]
def k0_mult22 (i : grid0.Coords) (k0_t2 : Fin (k0_t2_loop i).trips) : BitVec 32 :=
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_195 : BitVec 32 := 512#32
  let v417 : BitVec 32 := Scalar.muli arg7 c512_i32_195
  v417
def k0_off33 (i : grid0.Coords) (k0_t2 : Fin (k0_t2_loop i).trips) : Fin 4 → Nat :=
  let c0_196 : Index := 0#32
  let c5_197 : Index := 5#32
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_195 : BitVec 32 := 512#32
  let v417 : BitVec 32 := Scalar.muli arg7 c512_i32_195
  let v418 : BitVec 32 := v417
  let v419 : Index := Scalar.indexCast v418
  let c0_198 : Index := 0#32
  ![0, 5, v419.toNat, 0]
def k0_mult23 (i : grid0.Coords) (k0_t2 : Fin (k0_t2_loop i).trips) : BitVec 32 :=
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_206 : BitVec 32 := 512#32
  let v443 : BitVec 32 := Scalar.muli arg7 c512_i32_206
  v443
def k0_off34 (i : grid0.Coords) (k0_t2 : Fin (k0_t2_loop i).trips) : Fin 4 → Nat :=
  let c0_207 : Index := 0#32
  let c6_208 : Index := 6#32
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_206 : BitVec 32 := 512#32
  let v443 : BitVec 32 := Scalar.muli arg7 c512_i32_206
  let v444 : BitVec 32 := v443
  let v445 : Index := Scalar.indexCast v444
  let c0_209 : Index := 0#32
  ![0, 6, v445.toNat, 0]
def k0_off35 (i : grid0.Coords) (k0_t2 : Fin (k0_t2_loop i).trips) : Fin 4 → Nat :=
  let c0_211 : Index := 0#32
  let c3_212 : Index := 3#32
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_206 : BitVec 32 := 512#32
  let v443 : BitVec 32 := Scalar.muli arg7 c512_i32_206
  let v444 : BitVec 32 := v443
  let v449 : Index := Scalar.indexCast v444
  let c0_213 : Index := 0#32
  ![0, 3, v449.toNat, 0]
def k0_mult24 (i : grid0.Coords) (k0_t2 : Fin (k0_t2_loop i).trips) : BitVec 32 :=
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_217 : BitVec 32 := 512#32
  let v469 : BitVec 32 := Scalar.muli arg7 c512_i32_217
  v469
def k0_off36 (i : grid0.Coords) (k0_t2 : Fin (k0_t2_loop i).trips) : Fin 4 → Nat :=
  let c0_218 : Index := 0#32
  let c7_219 : Index := 7#32
  let c0_i32 : BitVec 32 := 0#32
  let arg2 : BitVec 32 := BitVec.ofNat 32 (i 2).val
  let v232 : BitVec 32 := Scalar.subi arg2 c0_i32
  let c1_i32 : BitVec 32 := 1#32
  let v234 : BitVec 32 := Scalar.divsi v232 c1_i32
  let v235 : BitVec 32 := Scalar.muli v234 c1_i32
  let v236 : BitVec 32 := Scalar.addi c0_i32 v235
  let c1_i32_127 : BitVec 32 := 1#32
  let arg7 : BitVec 32 := Scf.iv v236 c1_i32_127 k0_t2
  let c512_i32_217 : BitVec 32 := 512#32
  let v469 : BitVec 32 := Scalar.muli arg7 c512_i32_217
  let v470 : BitVec 32 := v469
  let v471 : Index := Scalar.indexCast v470
  let c0_220 : Index := 0#32
  ![0, 7, v471.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | "qscale" => some (((Real.sqrt 96)⁻¹ * (Real.log 2)⁻¹ : ℝ) : EReal)
  | _ => none
-- ==== ReferenceIdeal.lean ====
abbrev S16x8x2048x128 : Shape := ⟨4, ![16, 8, 2048, 128]⟩
abbrev S16x4x2048x128 : Shape := ⟨4, ![16, 4, 2048, 128]⟩
abbrev S16x8x2048x2048 : Shape := ⟨4, ![16, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S16x8x2048 : Shape := ⟨3, ![16, 8, 2048]⟩
abbrev S16x8x2048x1 : Shape := ⟨4, ![16, 8, 2048, 1]⟩
abbrev S16x4x2048x2x64 : Shape := ⟨5, ![16, 4, 2048, 2, 64]⟩
abbrev S16x4x2x2048x64 : Shape := ⟨5, ![16, 4, 2, 2048, 64]⟩
abbrev S16x8x2048x64 : Shape := ⟨4, ![16, 8, 2048, 64]⟩
abbrev S16x8x64x2048 : Shape := ⟨4, ![16, 8, 64, 2048]⟩
abbrev S16x2048x8x64 : Shape := ⟨4, ![16, 2048, 8, 64]⟩
abbrev S16x2048x512 : Shape := ⟨3, ![16, 2048, 512]⟩

abbrev nBuf : Space → Nat
  | .hbm => 43
  | .vmem => 0
  | .smem => 0
  | _ => 0

abbrev bufTy : (tb : Table) → Fin (tcTables nBuf tb) → BufTy
  | .hbm, ⟨0, _⟩ => ⟨S16x8x2048x128, .bf16⟩
  | .hbm, ⟨1, _⟩ => ⟨S16x8x2048x128, .bf16⟩
  | .hbm, ⟨2, _⟩ => ⟨S16x4x2048x128, .bf16⟩
  | .hbm, ⟨3, _⟩ => ⟨S16x8x2048x128, .f32⟩
  | .hbm, ⟨4, _⟩ => ⟨S16x8x2048x128, .f32⟩
  | .hbm, ⟨5, _⟩ => ⟨S16x4x2048x128, .f32⟩
  | .hbm, ⟨6, _⟩ => ⟨S16x8x2048x2048, .f32⟩
  | .hbm, ⟨7, _⟩ => ⟨S_, .f32⟩
  | .hbm, ⟨8, _⟩ => ⟨S_, .f32⟩
  | .hbm, ⟨9, _⟩ => ⟨S16x8x2048x2048, .f32⟩
  | .hbm, ⟨10, _⟩ => ⟨S16x8x2048x2048, .f32⟩
  | .hbm, ⟨11, _⟩ => ⟨S2048, .i32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .f32⟩
  | .hbm, ⟨18, _⟩ => ⟨S_, .f32⟩
  | .hbm, ⟨19, _⟩ => ⟨S16x8x2048x2048, .i1⟩
  | .hbm, ⟨20, _⟩ => ⟨S16x8x2048x2048, .f32⟩
  | .hbm, ⟨21, _⟩ => ⟨S16x8x2048x2048, .f32⟩
  | .hbm, ⟨22, _⟩ => ⟨S_, .f32⟩
  | .hbm, ⟨23, _⟩ => ⟨S16x8x2048, .f32⟩
  | .hbm, ⟨24, _⟩ => ⟨S_, .f32⟩
  | .hbm, ⟨25, _⟩ => ⟨S16x8x2048, .f32⟩
  | .hbm, ⟨26, _⟩ => ⟨S16x8x2048, .f32⟩
  | .hbm, ⟨27, _⟩ => ⟨S16x8x2048x1, .f32⟩
  | .hbm, ⟨28, _⟩ => ⟨S16x8x2048x2048, .f32⟩
  | .hbm, ⟨29, _⟩ => ⟨S16x8x2048x2048, .f32⟩
  | .hbm, ⟨30, _⟩ => ⟨S16x8x2048x2048, .f32⟩
  | .hbm, ⟨31, _⟩ => ⟨S_, .f32⟩
  | .hbm, ⟨32, _⟩ => ⟨S16x8x2048, .f32⟩
  | .hbm, ⟨33, _⟩ => ⟨S16x8x2048x1, .f32⟩
  | .hbm, ⟨34, _⟩ => ⟨S16x8x2048x2048, .f32⟩
  | .hbm, ⟨35, _⟩ => ⟨S16x8x2048x2048, .f32⟩
  | .hbm, ⟨36, _⟩ => ⟨S16x4x2048x2x64, .f32⟩
  | .hbm, ⟨37, _⟩ => ⟨S16x4x2x2048x64, .f32⟩
  | .hbm, ⟨38, _⟩ => ⟨S16x8x2048x64, .f32⟩
  | .hbm, ⟨39, _⟩ => ⟨S16x8x64x2048, .f32⟩
  | .hbm, ⟨40, _⟩ => ⟨S16x2048x8x64, .f32⟩
  | .hbm, ⟨41, _⟩ => ⟨S16x2048x512, .f32⟩
  | .hbm, ⟨42, _⟩ => ⟨S16x2048x512, .bf16⟩
  | _, _ => ⟨S16x8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel2.lean ====
abbrev S32768x1024 : Shape := ⟨2, ![32768, 1024]⟩
abbrev S16x9216 : Shape := ⟨2, ![16, 9216]⟩
abbrev S32768x512 : Shape := ⟨2, ![32768, 512]⟩
abbrev S128 : Shape := ⟨1, ![128]⟩
abbrev S2048x512 : Shape := ⟨2, ![2048, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S16x1x9216 : Shape := ⟨3, ![16, 1, 9216]⟩
abbrev S1x128 : Shape := ⟨2, ![1, 128]⟩
abbrev S1x1024 : Shape := ⟨2, ![1, 1024]⟩
abbrev S1x1x1024 : Shape := ⟨3, ![1, 1, 1024]⟩
abbrev S1x1x3072 : Shape := ⟨3, ![1, 1, 3072]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 25
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S16x9216, .f32⟩
  | .hbm, ⟨2, _⟩ => ⟨S32768x512, .bf16⟩
  | .hbm, ⟨3, _⟩ => ⟨S32768x512, .f32⟩
  | .hbm, ⟨4, _⟩ => ⟨S32768x512, .f32⟩
  | .hbm, ⟨5, _⟩ => ⟨S128, .f32⟩
  | .hbm, ⟨6, _⟩ => ⟨S2048x512, .bf16⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S512x1024, .f32⟩
  | .hbm, ⟨14, _⟩ => ⟨S512x1024, .bf16⟩
  | .hbm, ⟨15, _⟩ => ⟨S512x1024, .f32⟩
  | .hbm, ⟨16, _⟩ => ⟨S512x1024, .bf16⟩
  | .hbm, ⟨17, _⟩ => ⟨S16x1x9216, .f32⟩
  | .hbm, ⟨18, _⟩ => ⟨S1024x2816, .bf16⟩
  | .hbm, ⟨19, _⟩ => ⟨S1024x2816, .bf16⟩
  | .hbm, ⟨20, _⟩ => ⟨S2816x1024, .bf16⟩
  | .hbm, ⟨21, _⟩ => ⟨S1x128, .f32⟩
  | .hbm, ⟨22, _⟩ => ⟨S1x1024, .f32⟩
  | .hbm, ⟨23, _⟩ => ⟨S1x1024, .f32⟩
  | .hbm, ⟨24, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x3072, .f32⟩
  | .local _ .vmem, ⟨5, _⟩ => ⟨S1x1x3072, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x128, .f32⟩
  | .local _ .vmem, ⟨13, _⟩ => ⟨S2048x512, .bf16⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1024x2816, .bf16⟩
  | .local _ .vmem, ⟨18, _⟩ => ⟨S1024x2816, .bf16⟩
  | .local _ .vmem, ⟨19, _⟩ => ⟨S2816x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S32768x1024 : Shape := ⟨2, ![32768, 1024]⟩
abbrev S16x9216 : Shape := ⟨2, ![16, 9216]⟩
abbrev S32768x512 : Shape := ⟨2, ![32768, 512]⟩
abbrev S128 : Shape := ⟨1, ![128]⟩
abbrev S2048x512 : Shape := ⟨2, ![2048, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S16x2048x1024 : Shape := ⟨3, ![16, 2048, 1024]⟩
abbrev S16x1x9216 : Shape := ⟨3, ![16, 1, 9216]⟩
abbrev S16x1x1024 : Shape := ⟨3, ![16, 1, 1024]⟩
abbrev S16x2048x4x128 : Shape := ⟨4, ![16, 2048, 4, 128]⟩
abbrev S_ : Shape := ⟨0, ![]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S16x2048x512 : Shape := ⟨3, ![16, 2048, 512]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩

abbrev nBuf : Space → Nat
  | .hbm => 119
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x9216, .f32⟩
  | .hbm, ⟨2, _⟩ => ⟨S32768x512, .bf16⟩
  | .hbm, ⟨3, _⟩ => ⟨S32768x512, .f32⟩
  | .hbm, ⟨4, _⟩ => ⟨S32768x512, .f32⟩
  | .hbm, ⟨5, _⟩ => ⟨S128, .f32⟩
  | .hbm, ⟨6, _⟩ => ⟨S2048x512, .bf16⟩
  | .hbm, ⟨7, _⟩ => ⟨S1024x1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S16x2048x1024, .f32⟩
  | .hbm, ⟨14, _⟩ => ⟨S16x1x9216, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S16x1x1024, .f32⟩
  | .hbm, ⟨21, _⟩ => ⟨S16x1x1024, .f32⟩
  | .hbm, ⟨22, _⟩ => ⟨S16x1x1024, .f32⟩
  | .hbm, ⟨23, _⟩ => ⟨S16x1x1024, .f32⟩
  | .hbm, ⟨24, _⟩ => ⟨S16x2048x4x128, .f32⟩
  | .hbm, ⟨25, _⟩ => ⟨S16x2048x4x128, .f32⟩
  | .hbm, ⟨26, _⟩ => ⟨S_, .f32⟩
  | .hbm, ⟨27, _⟩ => ⟨S16x2048x4, .f32⟩
  | .hbm, ⟨28, _⟩ => ⟨S16x2048x4x1, .f32⟩
  | .hbm, ⟨29, _⟩ => ⟨S_, .f32⟩
  | .hbm, ⟨30, _⟩ => ⟨S16x2048x4x1, .f32⟩
  | .hbm, ⟨31, _⟩ => ⟨S16x2048x4x1, .f32⟩
  | .hbm, ⟨32, _⟩ => ⟨S_, .f32⟩
  | .hbm, ⟨33, _⟩ => ⟨S16x2048x4x1, .f32⟩
  | .hbm, ⟨34, _⟩ => ⟨S16x2048x4x1, .f32⟩
  | .hbm, ⟨35, _⟩ => ⟨S16x2048x4x1, .f32⟩
  | .hbm, ⟨36, _⟩ => ⟨S16x2048x4x128, .f32⟩
  | .hbm, ⟨37, _⟩ => ⟨S16x2048x4x128, .f32⟩
  | .hbm, ⟨38, _⟩ => ⟨S1x1x1x128, .f32⟩
  | .hbm, ⟨39, _⟩ => ⟨S16x2048x4x128, .f32⟩
  | .hbm, ⟨40, _⟩ => ⟨S16x2048x4x128, .f32⟩
  | .hbm, ⟨41, _⟩ => ⟨S16x2048x4x128, .f32⟩
  | .hbm, ⟨42, _⟩ => ⟨S16x2048x4x128, .f32⟩
  | .hbm, ⟨43, _⟩ => ⟨S16x2048x4x128, .f32⟩
  | .hbm, ⟨44, _⟩ => ⟨S_, .f32⟩
  | .hbm, ⟨45, _⟩ => ⟨S16x2048x4x128, .f32⟩
  | .hbm, ⟨46, _⟩ => ⟨S16x2048x4x128, .f32⟩
  | .hbm, ⟨47, _⟩ => ⟨S_, .f32⟩
  | .hbm, ⟨48, _⟩ => ⟨S16x2048x4x128, .f32⟩
  | .hbm, ⟨49, _⟩ => ⟨S16x2048x4x128, .f32⟩
  | .hbm, ⟨50, _⟩ => ⟨S16x2048x4x128, .f32⟩
  | .hbm, ⟨51, _⟩ => ⟨S16x2048x4x128, .f32⟩
  | .hbm, ⟨52, _⟩ => ⟨S32768x512, .f32⟩
  | .hbm, ⟨53, _⟩ => ⟨S16x2048x512, .f32⟩
  | .hbm, ⟨54, _⟩ => ⟨S16x2048x512, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S_, .f32⟩
  | .hbm, ⟨62, _⟩ => ⟨S16x2048, .f32⟩
  | .hbm, ⟨63, _⟩ => ⟨S16x2048x1, .f32⟩
  | .hbm, ⟨64, _⟩ => ⟨S_, .f32⟩
  | .hbm, ⟨65, _⟩ => ⟨S16x2048x1, .f32⟩
  | .hbm, ⟨66, _⟩ => ⟨S16x2048x1, .f32⟩
  | .hbm, ⟨67, _⟩ => ⟨S_, .f32⟩
  | .hbm, ⟨68, _⟩ => ⟨S16x2048x1, .f32⟩
  | .hbm, ⟨69, _⟩ => ⟨S16x2048x1, .f32⟩
  | .hbm, ⟨70, _⟩ => ⟨S16x2048x1, .f32⟩
  | .hbm, ⟨71, _⟩ => ⟨S16x2048x1024, .f32⟩
  | .hbm, ⟨72, _⟩ => ⟨S16x2048x1024, .f32⟩
  | .hbm, ⟨73, _⟩ => ⟨S1x1x1024, .f32⟩
  | .hbm, ⟨74, _⟩ => ⟨S16x2048x1024, .f32⟩
  | .hbm, ⟨75, _⟩ => ⟨S16x2048x1024, .f32⟩
  | .hbm, ⟨76, _⟩ => ⟨S_, .f32⟩
  | .hbm, ⟨77, _⟩ => ⟨S16x1x1024, .f32⟩
  | .hbm, ⟨78, _⟩ => ⟨S16x1x1024, .f32⟩
  | .hbm, ⟨79, _⟩ => ⟨S16x2048x1024, .f32⟩
  | .hbm, ⟨80, _⟩ => ⟨S16x2048x1024, .f32⟩
  | .hbm, ⟨81, _⟩ => ⟨S16x2048x1024, .f32⟩
  | .hbm, ⟨82, _⟩ => ⟨S16x2048x1024, .f32⟩
  | .hbm, ⟨83, _⟩ => ⟨S_, .f32⟩
  | .hbm, ⟨84, _⟩ => ⟨S16x1x1024, .f32⟩
  | .hbm, ⟨85, _⟩ => ⟨S16x1x1024, .f32⟩
  | .hbm, ⟨86, _⟩ => ⟨S16x2048x2816, .f32⟩
  | .hbm, ⟨87, _⟩ => ⟨S16x2048x2816, .f32⟩
  | .hbm, ⟨88, _⟩ => ⟨S16x2048x2816, .f32⟩
  | .hbm, ⟨89, _⟩ => ⟨S_, .f32⟩
  | .hbm, ⟨90, _⟩ => ⟨S16x2048x2816, .f32⟩
  | .hbm, ⟨91, _⟩ => ⟨S16x2048x2816, .f32⟩
  | .hbm, ⟨92, _⟩ => ⟨S_, .f32⟩
  | .hbm, ⟨93, _⟩ => ⟨S16x2048x2816, .f32⟩
  | .hbm, ⟨94, _⟩ => ⟨S16x2048x2816, .f32⟩
  | .hbm, ⟨95, _⟩ => ⟨S16x2048x2816, .f32⟩
  | .hbm, ⟨96, _⟩ => ⟨S16x2048x2816, .f32⟩
  | .hbm, ⟨97, _⟩ => ⟨S16x2048x2816, .f32⟩
  | .hbm, ⟨98, _⟩ => ⟨S16x2048x1024, .f32⟩
  | .hbm, ⟨99, _⟩ => ⟨S16x2048x1024, .f32⟩
  | .hbm, ⟨100, _⟩ => ⟨S16x2048x1024, .f32⟩
  | .hbm, ⟨101, _⟩ => ⟨S16x2048x1024, .f32⟩
  | .hbm, ⟨102, _⟩ => ⟨S16x2048x1024, .f32⟩
  | .hbm, ⟨103, _⟩ => ⟨S_, .f32⟩
  | .hbm, ⟨104, _⟩ => ⟨S16x2048, .f32⟩
  | .hbm, ⟨105, _⟩ => ⟨S16x2048x1, .f32⟩
  | .hbm, ⟨106, _⟩ => ⟨S_, .f32⟩
  | .hbm, ⟨107, _⟩ => ⟨S16x2048x1, .f32⟩
  | .hbm, ⟨108, _⟩ => ⟨S16x2048x1, .f32⟩
  | .hbm, ⟨109, _⟩ => ⟨S_, .f32⟩
  | .hbm, ⟨110, _⟩ => ⟨S16x2048x1, .f32⟩
  | .hbm, ⟨111, _⟩ => ⟨S16x2048x1, .f32⟩
  | .hbm, ⟨112, _⟩ => ⟨S16x2048x1, .f32⟩
  | .hbm, ⟨113, _⟩ => ⟨S16x2048x1024, .f32⟩
  | .hbm, ⟨114, _⟩ => ⟨S16x2048x1024, .f32⟩
  | .hbm, ⟨115, _⟩ => ⟨S1x1x1024, .f32⟩
  | .hbm, ⟨116, _⟩ => ⟨S16x2048x1024, .f32⟩
  | .hbm, ⟨117, _⟩ => ⟨S16x2048x1024, .f32⟩
  | .hbm, ⟨118, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_2 : Ref sig .tc := ⟨.hbm, 61, rfl⟩
abbrev main_v37 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_6 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call1_v0 : Ref sig .tc := ⟨.hbm, 87, rfl⟩
abbrev main_call1_v1 : Ref sig .tc := ⟨.hbm, 88, rfl⟩
abbrev main_call1_cst : Ref sig .tc := ⟨.hbm, 89, rfl⟩
abbrev main_call1_v2 : Ref sig .tc := ⟨.hbm, 90, rfl⟩
abbrev main_call1_v3 : Ref sig .tc := ⟨.hbm, 91, rfl⟩
abbrev main_call1_cst_0 : Ref sig .tc := ⟨.hbm, 92, rfl⟩
abbrev main_call1_v4 : Ref sig .tc := ⟨.hbm, 93, rfl⟩
abbrev main_call1_v5 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_7 : Ref sig .tc := ⟨.hbm, 103, rfl⟩
abbrev main_v66 : Ref sig .tc := ⟨.hbm, 104, rfl⟩
abbrev main_v67 : Ref sig .tc := ⟨.hbm, 105, rfl⟩
abbrev main_cst_8 : Ref sig .tc := ⟨.hbm, 106, rfl⟩
abbrev main_v68 : Ref sig .tc := ⟨.hbm, 107, rfl⟩
abbrev main_v69 : Ref sig .tc := ⟨.hbm, 108, rfl⟩
abbrev main_cst_9 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x9216 : Shape := ⟨2, ![16, 9216]⟩
abbrev S1024 : Shape := ⟨1, ![1024]⟩
abbrev S1024x2816 : Shape := ⟨2, ![1024, 2816]⟩
abbrev S2816x1024 : Shape := ⟨2, ![2816, 1024]⟩
abbrev S16x1x9216 : Shape := ⟨3, ![16, 1, 9216]⟩
abbrev S32768x1024 : Shape := ⟨2, ![32768, 1024]⟩
abbrev S1x1024 : Shape := ⟨2, ![1, 1024]⟩
abbrev S1024x1024 : Shape := ⟨2, ![1024, 1024]⟩
abbrev S1x1x3072 : Shape := ⟨3, ![1, 1, 3072]⟩
abbrev S1x1x1024 : Shape := ⟨3, ![1, 1, 1024]⟩
abbrev S1024x1 : Shape := ⟨2, ![1024, 1]⟩
abbrev S1024x768 : Shape := ⟨2, ![1024, 768]⟩
abbrev S768x1024 : Shape := ⟨2, ![768, 1024]⟩

abbrev nBuf : Space → Nat
  | .hbm => 13
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S16x9216, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16x1x9216, .f32⟩
  | .hbm, ⟨7, _⟩ => ⟨S32768x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1024x1024, .f32⟩
  | .local _ .vmem, ⟨9, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16x2048x1024 : Shape := ⟨3, ![16, 2048, 1024]⟩
abbrev S16x9216 : Shape := ⟨2, ![16, 9216]⟩
abbrev S1024 : Shape := ⟨1, ![1024]⟩
abbrev S1024x2816 : Shape := ⟨2, ![1024, 2816]⟩
abbrev S2816x1024 : Shape := ⟨2, ![2816, 1024]⟩
abbrev S16x1x9216 : Shape := ⟨3, ![16, 1, 9216]⟩
abbrev S16x1x1024 : Shape := ⟨3, ![16, 1, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩
abbrev S32768x1024 : Shape := ⟨2, ![32768, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x9216, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S16x1x9216, .f32⟩
  | .hbm, ⟨7, _⟩ => ⟨S16x1x1024, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x2048x1024, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x1024, .f32⟩
  | .hbm, ⟨28, _⟩ => ⟨S16x2048x1024, .f32⟩
  | .hbm, ⟨29, _⟩ => ⟨S1x1x1024, .f32⟩
  | .hbm, ⟨30, _⟩ => ⟨S16x2048x1024, .f32⟩
  | .hbm, ⟨31, _⟩ => ⟨S16x2048x1024, .f32⟩
  | .hbm, ⟨32, _⟩ => ⟨S_, .f32⟩
  | .hbm, ⟨33, _⟩ => ⟨S16x1x1024, .f32⟩
  | .hbm, ⟨34, _⟩ => ⟨S16x1x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x1x1024, .f32⟩
  | .hbm, ⟨41, _⟩ => ⟨S16x1x1024, .f32⟩
  | .hbm, ⟨42, _⟩ => ⟨S16x2048x2816, .f32⟩
  | .hbm, ⟨43, _⟩ => ⟨S16x2048x2816, .f32⟩
  | .hbm, ⟨44, _⟩ => ⟨S16x2048x2816, .f32⟩
  | .hbm, ⟨45, _⟩ => ⟨S_, .f32⟩
  | .hbm, ⟨46, _⟩ => ⟨S16x2048x2816, .f32⟩
  | .hbm, ⟨47, _⟩ => ⟨S16x2048x2816, .f32⟩
  | .hbm, ⟨48, _⟩ => ⟨S_, .f32⟩
  | .hbm, ⟨49, _⟩ => ⟨S16x2048x2816, .f32⟩
  | .hbm, ⟨50, _⟩ => ⟨S16x2048x2816, .f32⟩
  | .hbm, ⟨51, _⟩ => ⟨S16x2048x2816, .f32⟩
  | .hbm, ⟨52, _⟩ => ⟨S16x2048x2816, .f32⟩
  | .hbm, ⟨53, _⟩ => ⟨S16x2048x2816, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Kernel4.lean ====
abbrev S32768x1024 : Shape := ⟨2, ![32768, 1024]⟩
abbrev S16x9216 : Shape := ⟨2, ![16, 9216]⟩
abbrev S1024 : Shape := ⟨1, ![1024]⟩
abbrev S1024x2224 : Shape := ⟨2, ![1024, 2224]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S16x256 : Shape := ⟨2, ![16, 256]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S2048x80 : Shape := ⟨2, ![2048, 80]⟩
abbrev S2048x48 : Shape := ⟨2, ![2048, 48]⟩
abbrev S2048x0 : Shape := ⟨2, ![2048, 0]⟩
abbrev S2048x96 : Shape := ⟨2, ![2048, 96]⟩
abbrev S2048x112 : Shape := ⟨2, ![2048, 112]⟩
abbrev S2048x768 : Shape := ⟨2, ![2048, 768]⟩
abbrev S16x1x9216 : Shape := ⟨3, ![16, 1, 9216]⟩
abbrev S1024x384 : Shape := ⟨2, ![1024, 384]⟩
abbrev S1024x256 : Shape := ⟨2, ![1024, 256]⟩
abbrev S1024x32 : Shape := ⟨2, ![1024, 32]⟩
abbrev S1024x512 : Shape := ⟨2, ![1024, 512]⟩
abbrev S1024x16 : Shape := ⟨2, ![1024, 16]⟩
abbrev S1024x48 : Shape := ⟨2, ![1024, 48]⟩
abbrev S1024x128 : Shape := ⟨2, ![1024, 128]⟩
abbrev S1024x2304 : Shape := ⟨2, ![1024, 2304]⟩
abbrev S384x8x128 : Shape := ⟨3, ![384, 8, 128]⟩
abbrev S384x1024 : Shape := ⟨2, ![384, 1024]⟩
abbrev S256x8x64 : Shape := ⟨3, ![256, 8, 64]⟩
abbrev S256x1024 : Shape := ⟨2, ![256, 1024]⟩
abbrev S256x512 : Shape := ⟨2, ![256, 512]⟩
abbrev S256x1536 : Shape := ⟨2, ![256, 1536]⟩
abbrev S128x256 : Shape := ⟨2, ![128, 256]⟩
abbrev S1x1024 : Shape := ⟨2, ![1, 1024]⟩
abbrev S1x384 : Shape := ⟨2, ![1, 384]⟩
abbrev S1x256 : Shape := ⟨2, ![1, 256]⟩
abbrev S16x8x2048x128 : Shape := ⟨4, ![16, 8, 2048, 128]⟩
abbrev S16x4x2048x128 : Shape := ⟨4, ![16, 4, 2048, 128]⟩
abbrev S32768x256 : Shape := ⟨2, ![32768, 256]⟩
abbrev S32768x32 : Shape := ⟨2, ![32768, 32]⟩
abbrev S32768x512 : Shape := ⟨2, ![32768, 512]⟩
abbrev S512x1024 : Shape := ⟨2, ![512, 1024]⟩
abbrev S1x1x3072 : Shape := ⟨3, ![1, 1, 3072]⟩
abbrev S512x768 : Shape := ⟨2, ![512, 768]⟩
abbrev S1x8x512x128 : Shape := ⟨4, ![1, 8, 512, 128]⟩
abbrev S1x4x512x128 : Shape := ⟨4, ![1, 4, 512, 128]⟩
abbrev S512x256 : Shape := ⟨2, ![512, 256]⟩
abbrev S512x32 : Shape := ⟨2, ![512, 32]⟩
abbrev S512x512 : Shape := ⟨2, ![512, 512]⟩
abbrev S1x1x1024 : Shape := ⟨3, ![1, 1, 1024]⟩
abbrev S512 : Shape := ⟨1, ![512]⟩
abbrev S512x1 : Shape := ⟨2, ![512, 1]⟩
abbrev S512x2304 : Shape := ⟨2, ![512, 2304]⟩
abbrev S512x128 : Shape := ⟨2, ![512, 128]⟩
abbrev S512x384 : Shape := ⟨2, ![512, 384]⟩
abbrev S1x1x512x128 : Shape := ⟨4, ![1, 1, 512, 128]⟩
abbrev S512x1536 : Shape := ⟨2, ![512, 1536]⟩

abbrev nBuf : Space → Nat
  | .hbm => 115
  | .vmem => 34
  | .smem => 0
  | _ => 0

abbrev bufTy : (tb : Table) → Fin (tcTables nBuf tb) → BufTy
  | .hbm, ⟨0, _⟩ => ⟨S32768x1024, .f32⟩
  | .hbm, ⟨1, _⟩ => ⟨S16x9216, .f32⟩
  | .hbm, ⟨2, _⟩ => ⟨S1024, .f32⟩
  | .hbm, ⟨3, _⟩ => ⟨S1024x2224, .f32⟩
  | .hbm, ⟨4, _⟩ => ⟨S384, .f32⟩
  | .hbm, ⟨5, _⟩ => ⟨S384x8x96, .f32⟩
  | .hbm, ⟨6, _⟩ => ⟨S256, .f32⟩
  | .hbm, ⟨7, _⟩ => ⟨S256x8x128, .f32⟩
  | .hbm, ⟨8, _⟩ => ⟨S16x256, .f32⟩
  | .hbm, ⟨9, _⟩ => ⟨S256, .f32⟩
  | .hbm, ⟨10, _⟩ => ⟨S2048, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S2048x1, .f32⟩
  | .hbm, ⟨26, _⟩ => ⟨S1x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S2048x16, .f32⟩
  | .hbm, ⟨31, _⟩ => ⟨S2048x16, .f32⟩
  | .hbm, ⟨32, _⟩ => ⟨S_, .f32⟩
  | .hbm, ⟨33, _⟩ => ⟨S2048x64, .f32⟩
  | .hbm, ⟨34, _⟩ => ⟨S_, .f32⟩
  | .hbm, ⟨35, _⟩ => ⟨S2048x32, .f32⟩
  | .hbm, ⟨36, _⟩ => ⟨S2048x128, .f32⟩
  | .hbm, ⟨37, _⟩ => ⟨S_, .f32⟩
  | .hbm, ⟨38, _⟩ => ⟨S2048x80, .f32⟩
  | .hbm, ⟨39, _⟩ => ⟨S_, .f32⟩
  | .hbm, ⟨40, _⟩ => ⟨S2048x32, .f32⟩
  | .hbm, ⟨41, _⟩ => ⟨S2048x128, .f32⟩
  | .hbm, ⟨42, _⟩ => ⟨S_, .f32⟩
  | .hbm, ⟨43, _⟩ => ⟨S2048x64, .f32⟩
  | .hbm, ⟨44, _⟩ => ⟨S2048x16, .f32⟩
  | .hbm, ⟨45, _⟩ => ⟨S_, .f32⟩
  | .hbm, ⟨46, _⟩ => ⟨S2048x48, .f32⟩
  | .hbm, ⟨47, _⟩ => ⟨S2048x128, .f32⟩
  | .hbm, ⟨48, _⟩ => ⟨S_, .f32⟩
  | .hbm, ⟨49, _⟩ => ⟨S2048x0, .f32⟩
  | .hbm, ⟨50, _⟩ => ⟨S_, .f32⟩
  | .hbm, ⟨51, _⟩ => ⟨S2048x96, .f32⟩
  | .hbm, ⟨52, _⟩ => ⟨S2048x128, .f32⟩
  | .hbm, ⟨53, _⟩ => ⟨S_, .f32⟩
  | .hbm, ⟨54, _⟩ => ⟨S2048x16, .f32⟩
  | .hbm, ⟨55, _⟩ => ⟨S_, .f32⟩
  | .hbm, ⟨56, _⟩ => ⟨S2048x96, .f32⟩
  | .hbm, ⟨57, _⟩ => ⟨S2048x128, .f32⟩
  | .hbm, ⟨58, _⟩ => ⟨S_, .f32⟩
  | .hbm, ⟨59, _⟩ => ⟨S2048x0, .f32⟩
  | .hbm, ⟨60, _⟩ => ⟨S2048x16, .f32⟩
  | .hbm, ⟨61, _⟩ => ⟨S_, .f32⟩
  | .hbm, ⟨62, _⟩ => ⟨S2048x112, .f32⟩
  | .hbm, ⟨63, _⟩ => ⟨S2048x128, .f32⟩
  | .hbm, ⟨64, _⟩ => ⟨S2048x768, .f32⟩
  | .hbm, ⟨65, _⟩ => ⟨S16x1x9216, .f32⟩
  | .hbm, ⟨66, _⟩ => ⟨S1024x384, .f32⟩
  | .hbm, ⟨67, _⟩ => ⟨S1024x256, .f32⟩
  | .hbm, ⟨68, _⟩ => ⟨S1024x32, .f32⟩
  | .hbm, ⟨69, _⟩ => ⟨S1024x256, .f32⟩
  | .hbm, ⟨70, _⟩ => ⟨S1024x256, .f32⟩
  | .hbm, ⟨71, _⟩ => ⟨S1024x512, .f32⟩
  | .hbm, ⟨72, _⟩ => ⟨S1024x16, .f32⟩
  | .hbm, ⟨73, _⟩ => ⟨S1024x512, .f32⟩
  | .hbm, ⟨74, _⟩ => ⟨S1024x48, .f32⟩
  | .hbm, ⟨75, _⟩ => ⟨S_, .i32⟩
  | .hbm, ⟨76, _⟩ => ⟨S_, .f32⟩
  | .hbm, ⟨77, _⟩ => ⟨S1024x128, .f32⟩
  | .hbm, ⟨78, _⟩ => ⟨S_, .f32⟩
  | .hbm, ⟨79, _⟩ => ⟨S1024x256, .f32⟩
  | .hbm, ⟨80, _⟩ => ⟨S1024x256, .f32⟩
  | .hbm, ⟨81, _⟩ => ⟨S1024x2304, .f32⟩
  | .hbm, ⟨82, _⟩ => ⟨S1024x2304, .bf16⟩
  | .hbm, ⟨83, _⟩ => ⟨S_, .i32⟩
  | .hbm, ⟨84, _⟩ => ⟨S_, .f32⟩
  | .hbm, ⟨85, _⟩ => ⟨S384x8x128, .f32⟩
  | .hbm, ⟨86, _⟩ => ⟨S384x1024, .f32⟩
  | .hbm, ⟨87, _⟩ => ⟨S384x1024, .bf16⟩
  | .hbm, ⟨88, _⟩ => ⟨S256x8x64, .f32⟩
  | .hbm, ⟨89, _⟩ => ⟨S_, .i32⟩
  | .hbm, ⟨90, _⟩ => ⟨S_, .f32⟩
  | .hbm, ⟨91, _⟩ => ⟨S256x8x128, .f32⟩
  | .hbm, ⟨92, _⟩ => ⟨S256x8x64, .f32⟩
  | .hbm, ⟨93, _⟩ => ⟨S256x1024, .f32⟩
  | .hbm, ⟨94, _⟩ => ⟨S256x512, .f32⟩
  | .hbm, ⟨95, _⟩ => ⟨S256x1536, .f32⟩
  | .hbm, ⟨96, _⟩ => ⟨S256x1536, .bf16⟩
  | .hbm, ⟨97, _⟩ => ⟨S_, .i32⟩
  | .hbm, ⟨98, _⟩ => ⟨S_, .f32⟩
  | .hbm, ⟨99, _⟩ => ⟨S128x256, .f32⟩
  | .hbm, ⟨100, _⟩ => ⟨S128x256, .bf16⟩
  | .hbm, ⟨101, _⟩ => ⟨S1x1024, .f32⟩
  | .hbm, ⟨102, _⟩ => ⟨S1x384, .f32⟩
  | .hbm, ⟨103, _⟩ => ⟨S1x256, .f32⟩
  | .hbm, ⟨104, _⟩ => ⟨S1x256, .f32⟩
  | .hbm, ⟨105, _⟩ => ⟨S16x8x2048x128, .bf16⟩
  | .hbm, ⟨106, _⟩ => ⟨S16x8x2048x128, .bf16⟩
  | .hbm, ⟨107, _⟩ => ⟨S16x4x2048x128, .bf16⟩
  | .hbm, ⟨108, _⟩ => ⟨S32768x256, .f32⟩
  | .hbm, ⟨109, _⟩ => ⟨S32768x32, .f32⟩
  | .hbm, ⟨110, _⟩ => ⟨S32768x256, .f32⟩
  | .hbm, ⟨111, _⟩ => ⟨S32768x256, .f32⟩
  | .hbm, ⟨112, _⟩ => ⟨S32768x512, .bf16⟩
  | .hbm, ⟨113, _⟩ => ⟨S32768x256, .f32⟩
  | .hbm, ⟨114, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x2304, .bf16⟩
  | .local _ .vmem, ⟨6, _⟩ => ⟨S1x384, .f32⟩
  | .local _ .vmem, ⟨7, _⟩ => ⟨S384x1024, .bf16⟩
  | .local _ .vmem, ⟨8, _⟩ => ⟨S1x256, .f32⟩
  | .local _ .vmem, ⟨9, _⟩ => ⟨S256x1536, .bf16⟩
  | .local _ .vmem, ⟨10, _⟩ => ⟨S128x256, .bf16⟩
  | .local _ .vmem, ⟨11, _⟩ => ⟨S1x256, .f32⟩
  | .local _ .vmem, ⟨12, _⟩ => ⟨S512x768, .f32⟩
  | .local _ .vmem, ⟨13, _⟩ => ⟨S512x768, .f32⟩
  | .local _ .vmem, ⟨14, _⟩ => ⟨S1x8x512x128, .bf16⟩
  | .local _ .vmem, ⟨15, _⟩ => ⟨S1x8x512x128, .bf16⟩
  | .local _ .vmem, ⟨16, _⟩ => ⟨S1x8x512x128, .bf16⟩
  | .local _ .vmem, ⟨17, _⟩ => ⟨S1x8x512x128, .bf16⟩
  | .local _ .vmem, ⟨18, _⟩ => ⟨S1x4x512x128, .bf16⟩
  | .local _ .vmem, ⟨19, _⟩ => ⟨S1x4x512x128, .bf16⟩
  | .local _ .vmem, ⟨20, _⟩ => ⟨S512x256, .f32⟩
  | .local _ .vmem, ⟨21, _⟩ => ⟨S512x256, .f32⟩
  | .local _ .vmem, ⟨22, _⟩ => ⟨S512x32, .f32⟩
  | .local _ .vmem, ⟨23, _⟩ => ⟨S512x32, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | .local _ .vmem, ⟨28, _⟩ => ⟨S512x512, .bf16⟩
  | .local _ .vmem, ⟨29, _⟩ => ⟨S512x512, .bf16⟩
  | .local _ .vmem, ⟨30, _⟩ => ⟨S512x256, .f32⟩
  | .local _ .vmem, ⟨31, _⟩ => ⟨S512x256, .f32⟩
  | .local _ .vmem, ⟨32, _⟩ => ⟨S512x512, .f32⟩
  | .local _ .vmem, ⟨33, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_cst_9 : Ref sig .tc := ⟨.hbm, 48, rfl⟩
abbrev main_v28 : Ref sig .tc := ⟨.hbm, 49, rfl⟩
abbrev main_cst_10 : Ref sig .tc := ⟨.hbm, 50, rfl⟩
abbrev main_v29 : Ref sig .tc := ⟨.hbm, 51, rfl⟩
abbrev main_v30 : Ref sig .tc := ⟨.hbm, 52, rfl⟩
abbrev main_cst_11 : Ref sig .tc := ⟨.hbm, 53, rfl⟩
abbrev main_v31 : Ref sig .tc := ⟨.hbm, 54, rfl⟩
abbrev main_cst_12 : Ref sig .tc := ⟨.hbm, 55, rfl⟩
abbrev main_v32 : Ref sig .tc := ⟨.hbm, 56, rfl⟩
abbrev main_v33 : Ref sig .tc := ⟨.hbm, 57, rfl⟩
abbrev main_cst_13 : Ref sig .tc := ⟨.hbm, 58, rfl⟩
abbrev main_v34 : Ref sig .tc := ⟨.hbm, 59, rfl⟩
abbrev main_v35 : Ref sig .tc := ⟨.hbm, 60, rfl⟩
abbrev main_cst_14 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c : Ref sig .tc := ⟨.hbm, 75, rfl⟩
abbrev main_call0_v0 : Ref sig .tc := ⟨.hbm, 76, rfl⟩
abbrev main_v49 : Ref sig .tc := ⟨.hbm, 77, rfl⟩
abbrev main_cst_15 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_16 : Ref sig .tc := ⟨.hbm, 83, rfl⟩
abbrev main_call1_v0 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_17 : Ref sig .tc := ⟨.hbm, 89, rfl⟩
abbrev main_call2_v0 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_18 : Ref sig .tc := ⟨.hbm, 97, rfl⟩
abbrev main_call3_v0 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70_0 : Ref sig .tc := ⟨.hbm, 105, rfl⟩
abbrev main_v70_1 : Ref sig .tc := ⟨.hbm, 106, rfl⟩
abbrev main_v70_2 : Ref sig .tc := ⟨.hbm, 107, rfl⟩
abbrev main_v70_3 : Ref sig .tc := ⟨.hbm, 108, rfl⟩
abbrev main_v70_4 : Ref sig .tc := ⟨.hbm, 109, rfl⟩
abbrev main_v70_5 : Ref sig .tc := ⟨.hbm, 110, rfl⟩
abbrev main_v70_6 : Ref sig .tc := ⟨.hbm, 111, rfl⟩
abbrev main_v70_7 : Ref sig .tc := ⟨.hbm, 112, rfl⟩
abbrev main_v70_8 : Ref sig .tc := ⟨.hbm, 113, rfl⟩
abbrev main_v70_9 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_13 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference4Ideal.lean ====
abbrev S32768x1024 : Shape := ⟨2, ![32768, 1024]⟩
abbrev S16x9216 : Shape := ⟨2, ![16, 9216]⟩
abbrev S1024 : Shape := ⟨1, ![1024]⟩
abbrev S1024x2224 : Shape := ⟨2, ![1024, 2224]⟩
abbrev S384 : Shape := ⟨1, ![384]⟩
abbrev S384x8x96 : Shape := ⟨3, ![384, 8, 96]⟩
abbrev S256 : Shape := ⟨1, ![256]⟩
abbrev S256x8x128 : Shape := ⟨3, ![256, 8, 128]⟩
abbrev S16x256 : Shape := ⟨2, ![16, 256]⟩
abbrev S2048 : Shape := ⟨1, ![2048]⟩
abbrev S16x1x9216 : Shape := ⟨3, ![16, 1, 9216]⟩
abbrev S16x1x1024 : Shape := ⟨3, ![16, 1, 1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2224 : Shape := ⟨3, ![16, 2048, 2224]⟩
abbrev S16x2048x384 : Shape := ⟨3, ![16, 2048, 384]⟩
abbrev S16x2048x256 : Shape := ⟨3, ![16, 2048, 256]⟩
abbrev S16x2048x32 : Shape := ⟨3, ![16, 2048, 32]⟩
abbrev S16x2048x512 : Shape := ⟨3, ![16, 2048, 512]⟩
abbrev S16x2048x16 : Shape := ⟨3, ![16, 2048, 16]⟩
abbrev S1x1x384 : Shape := ⟨3, ![1, 1, 384]⟩
abbrev S16x2048x8x96 : Shape := ⟨4, ![16, 2048, 8, 96]⟩
abbrev S1x1x256 : Shape := ⟨3, ![1, 1, 256]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x16 : Shape := ⟨3, ![1, 2048, 16]⟩
abbrev S16x2048x8x128 : Shape := ⟨4, ![16, 2048, 8, 128]⟩
abbrev S16x2048x8x32 : Shape := ⟨4, ![16, 2048, 8, 32]⟩
abbrev S16x2048x8x64 : Shape := ⟨4, ![16, 2048, 8, 64]⟩
abbrev S2048x1x16 : Shape := ⟨3, ![2048, 1, 16]⟩
abbrev S16x2048x8x16 : Shape := ⟨4, ![16, 2048, 8, 16]⟩
abbrev S1x2048x1x16 : Shape := ⟨4, ![1, 2048, 1, 16]⟩
abbrev S16x2048x1x32 : Shape := ⟨4, ![16, 2048, 1, 32]⟩
abbrev S16x2048x4x128 : Shape := ⟨4, ![16, 2048, 4, 128]⟩
abbrev S16x8x2048x128 : Shape := ⟨4, ![16, 8, 2048, 128]⟩
abbrev S16x4x2048x128 : Shape := ⟨4, ![16, 4, 2048, 128]⟩
abbrev S32768x256 : Shape := ⟨2, ![32768, 256]⟩
abbrev S32768x32 : Shape := ⟨2, ![32768, 32]⟩
abbrev S32768x512 : Shape := ⟨2, ![32768, 512]⟩

abbrev nBuf : Space → Nat
  | .hbm => 220
  | .vmem => 0
  | .smem => 0
  | _ => 0

abbrev hbmTy0_0 (i : Nat) : BufTy := match i % 128 with
  | 0 => ⟨S32768x1024, .f32⟩
  | 1 => ⟨S16x9216, .f32⟩
  | 2 => ⟨S1024, .f32⟩
  | 3 => ⟨S1024x2224, .f32⟩
  | 4 => ⟨S384, .f32⟩
  | 5 => ⟨S384x8x96, .f32⟩
  | 6 => ⟨S256, .f32⟩
  | 7 => ⟨S256x8x128, .f32⟩
  | 8 => ⟨S16x256, .f32⟩
  | 9 => ⟨S256, .f32⟩
  | 10 => ⟨S2048, .f32⟩
  | 11 => ⟨S16x1x9216, .f32⟩
  | 12 => ⟨S16x1x1024, .f32⟩
  | 13 => ⟨S16x1x1024, .f32⟩
  | 14 => ⟨S16x1x1024, .f32⟩
  | 15 => ⟨S16x1x1024, .f32⟩
  | 16 => ⟨S16x1x1024, .f32⟩
  | 17 => ⟨S16x1x1024, .f32⟩
  | 18 => ⟨S16x1x1024, .f32⟩
  | 19 => ⟨S16x1x1024, .f32⟩
  | 20 => ⟨S16x1x1024, .f32⟩
  | 21 => ⟨S16x2048x1024, .f32⟩
  | 22 => ⟨S16x2048x1024, .f32⟩
  | 23 => ⟨S_, .f32⟩
  | 24 => ⟨S16x2048, .f32⟩
  | 25 => ⟨S16x2048x1, .f32⟩
  | 26 => ⟨S_, .f32⟩
  | 27 => ⟨S16x2048x1, .f32⟩
  | 28 => ⟨S16x2048x1, .f32⟩
  | 29 => ⟨S_, .f32⟩
  | 30 => ⟨S16x2048x1, .f32⟩
  | 31 => ⟨S16x2048x1, .f32⟩
  | 32 => ⟨S16x2048x1, .f32⟩
  | 33 => ⟨S16x2048x1024, .f32⟩
  | 34 => ⟨S16x2048x1024, .f32⟩
  | 35 => ⟨S1x1x1024, .f32⟩
  | 36 => ⟨S16x2048x1024, .f32⟩
  | 37 => ⟨S16x2048x1024, .f32⟩
  | 38 => ⟨S_, .f32⟩
  | 39 => ⟨S16x1x1024, .f32⟩
  | 40 => ⟨S16x1x1024, .f32⟩
  | 41 => ⟨S16x2048x1024, .f32⟩
  | 42 => ⟨S16x2048x1024, .f32⟩
  | 43 => ⟨S16x2048x1024, .f32⟩
  | 44 => ⟨S16x2048x1024, .f32⟩
  | 45 => ⟨S16x2048x2224, .f32⟩
  | 46 => ⟨S16x2048x384, .f32⟩
  | 47 => ⟨S16x2048x256, .f32⟩
  | 48 => ⟨S16x2048x32, .f32⟩
  | 49 => ⟨S16x2048x256, .f32⟩
  | 50 => ⟨S16x2048x256, .f32⟩
  | 51 => ⟨S16x2048x512, .f32⟩
  | 52 => ⟨S16x2048x16, .f32⟩
  | 53 => ⟨S16x2048x512, .f32⟩
  | 54 => ⟨S16x2048x384, .f32⟩
  | 55 => ⟨S_, .f32⟩
  | 56 => ⟨S16x2048, .f32⟩
  | 57 => ⟨S16x2048x1, .f32⟩
  | 58 => ⟨S_, .f32⟩
  | 59 => ⟨S16x2048x1, .f32⟩
  | 60 => ⟨S16x2048x1, .f32⟩
  | 61 => ⟨S_, .f32⟩
  | 62 => ⟨S16x2048x1, .f32⟩
  | 63 => ⟨S16x2048x1, .f32⟩
  | 64 => ⟨S16x2048x1, .f32⟩
  | 65 => ⟨S16x2048x384, .f32⟩
  | 66 => ⟨S16x2048x384, .f32⟩
  | 67 => ⟨S1x1x384, .f32⟩
  | 68 => ⟨S16x2048x384, .f32⟩
  | 69 => ⟨S16x2048x384, .f32⟩
  | 70 => ⟨S16x2048x8x96, .f32⟩
  | 71 => ⟨S16x2048x256, .f32⟩
  | 72 => ⟨S_, .f32⟩
  | 73 => ⟨S16x2048, .f32⟩
  | 74 => ⟨S16x2048x1, .f32⟩
  | 75 => ⟨S_, .f32⟩
  | 76 => ⟨S16x2048x1, .f32⟩
  | 77 => ⟨S16x2048x1, .f32⟩
  | 78 => ⟨S_, .f32⟩
  | 79 => ⟨S16x2048x1, .f32⟩
  | 80 => ⟨S16x2048x1, .f32⟩
  | 81 => ⟨S16x2048x1, .f32⟩
  | 82 => ⟨S16x2048x256, .f32⟩
  | 83 => ⟨S16x2048x256, .f32⟩
  | 84 => ⟨S1x1x256, .f32⟩
  | 85 => ⟨S16x2048x256, .f32⟩
  | 86 => ⟨S16x2048x256, .f32⟩
  | 87 => ⟨S16, .f32⟩
  | 88 => ⟨S_, .f32⟩
  | 89 => ⟨S16, .f32⟩
  | 90 => ⟨S16, .f32⟩
  | 91 => ⟨S_, .f32⟩
  | 92 => ⟨S16, .f32⟩
  | 93 => ⟨S16, .f32⟩
  | 94 => ⟨S16, .f32⟩
  | 95 => ⟨S_, .f32⟩
  | 96 => ⟨S16, .f32⟩
  | 97 => ⟨S16, .f32⟩
  | 98 => ⟨S_, .f32⟩
  | 99 => ⟨S16, .f32⟩
  | 100 => ⟨S16, .f32⟩
  | 101 => ⟨S2048x1, .f32⟩
  | 102 => ⟨S1x16, .f32⟩
  | 103 => ⟨S2048x16, .f32⟩
  | 104 => ⟨S2048x16, .f32⟩
  | 105 => ⟨S2048x16, .f32⟩
  | 106 => ⟨S16x2048x16, .f32⟩
  | 107 => ⟨S16x2048x16, .f32⟩
  | 108 => ⟨S2048x16, .f32⟩
  | 109 => ⟨S1x2048x16, .f32⟩
  | 110 => ⟨S16x2048x16, .f32⟩
  | 111 => ⟨S16x2048x16, .f32⟩
  | 112 => ⟨S2048x16, .f32⟩
  | 113 => ⟨S1x2048x16, .f32⟩
  | 114 => ⟨S16x2048x16, .f32⟩
  | 115 => ⟨S16x2048x16, .f32⟩
  | 116 => ⟨S16x2048x16, .f32⟩
  | 117 => ⟨S2048x16, .f32⟩
  | 118 => ⟨S1x2048x16, .f32⟩
  | 119 => ⟨S16x2048x16, .f32⟩
  | 120 => ⟨S16x2048x16, .f32⟩
  | 121 => ⟨S2048x16, .f32⟩
  | 122 => ⟨S1x2048x16, .f32⟩
  | 123 => ⟨S16x2048x16, .f32⟩
  | 124 => ⟨S16x2048x16, .f32⟩
  | 125 => ⟨S16x2048x16, .f32⟩
  | 126 => ⟨S16x2048x32, .f32⟩
  | 127 => ⟨S16x2048x8x128, .f32⟩
  | _ => ⟨S32768x1024, .f32⟩

abbrev hbmTy0_1 (i : Nat) : BufTy := match i % 128 with
  | 0 => ⟨S_, .f32⟩
  | 1 => ⟨S16x2048x8x32, .f32⟩
  | 2 => ⟨S16x2048x8x64, .f32⟩
  | 3 => ⟨S16x2048x8x32, .f32⟩
  | 4 => ⟨S16, .f32⟩
  | 5 => ⟨S_, .f32⟩
  | 6 => ⟨S16, .f32⟩
  | 7 => ⟨S16, .f32⟩
  | 8 => ⟨S_, .f32⟩
  | 9 => ⟨S16, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S2048x1, .f32⟩
  | 19 => ⟨S1x16, .f32⟩
  | 20 => ⟨S2048x16, .f32⟩
  | 21 => ⟨S2048x16, .f32⟩
  | 22 => ⟨S2048x16, .f32⟩
  | 23 => ⟨S2048x1x16, .f32⟩
  | 24 => ⟨S16x2048x8x16, .f32⟩
  | 25 => ⟨S16x2048x8x16, .f32⟩
  | 26 => ⟨S2048x1x16, .f32⟩
  | 27 => ⟨S1x2048x1x16, .f32⟩
  | 28 => ⟨S16x2048x8x16, .f32⟩
  | 29 => ⟨S16x2048x8x16, .f32⟩
  | 30 => ⟨S2048x1x16, .f32⟩
  | 31 => ⟨S1x2048x1x16, .f32⟩
  | 32 => ⟨S16x2048x8x16, .f32⟩
  | 33 => ⟨S16x2048x8x16, .f32⟩
  | 34 => ⟨S16x2048x8x16, .f32⟩
  | 35 => ⟨S2048x1x16, .f32⟩
  | 36 => ⟨S1x2048x1x16, .f32⟩
  | 37 => ⟨S16x2048x8x16, .f32⟩
  | 38 => ⟨S16x2048x8x16, .f32⟩
  | 39 => ⟨S2048x1x16, .f32⟩
  | 40 => ⟨S1x2048x1x16, .f32⟩
  | 41 => ⟨S16x2048x8x16, .f32⟩
  | 42 => ⟨S16x2048x8x16, .f32⟩
  | 43 => ⟨S16x2048x8x16, .f32⟩
  | 44 => ⟨S16x2048x8x32, .f32⟩
  | 45 => ⟨S16x2048x8x128, .f32⟩
  | 46 => ⟨S16x2048x1x32, .f32⟩
  | 47 => ⟨S16x2048x8x32, .f32⟩
  | 48 => ⟨S16x2048x8x64, .f32⟩
  | 49 => ⟨S16x2048x8x128, .f32⟩
  | 50 => ⟨S16x2048x8x64, .f32⟩
  | 51 => ⟨S16x2048x4x128, .f32⟩
  | 52 => ⟨S16x2048x256, .f32⟩
  | 53 => ⟨S1x1x256, .f32⟩
  | 54 => ⟨S16x2048x256, .f32⟩
  | 55 => ⟨S16x2048x256, .f32⟩
  | 56 => ⟨S16x2048x256, .f32⟩
  | 57 => ⟨S_, .f32⟩
  | 58 => ⟨S16x2048x256, .f32⟩
  | 59 => ⟨S16x2048x256, .f32⟩
  | 60 => ⟨S16x2048x256, .f32⟩
  | 61 => ⟨S16x2048x256, .f32⟩
  | 62 => ⟨S16x2048x256, .i1⟩
  | 63 => ⟨S16x2048x256, .f32⟩
  | 64 => ⟨S16x2048x256, .f32⟩
  | 65 => ⟨S16x2048x256, .f32⟩
  | 66 => ⟨S16x2048x256, .f32⟩
  | 67 => ⟨S16x2048x256, .f32⟩
  | 68 => ⟨S16x2048x256, .f32⟩
  | 69 => ⟨S16x2048x256, .f32⟩
  | 70 => ⟨S16x2048x256, .f32⟩
  | 71 => ⟨S16x2048x256, .f32⟩
  | 72 => ⟨S_, .f32⟩
  | 73 => ⟨S16x2048x256, .f32⟩
  | 74 => ⟨S16x2048x256, .f32⟩
  | 75 => ⟨S16x8x2048x128, .f32⟩
  | 76 => ⟨S16x8x2048x128, .bf16⟩
  | 77 => ⟨S16x8x2048x128, .f32⟩
  | 78 => ⟨S16x8x2048x128, .bf16⟩
  | 79 => ⟨S16x4x2048x128, .f32⟩
  | 80 => ⟨S16x4x2048x128, .bf16⟩
  | 81 => ⟨S32768x256, .f32⟩
  | 82 => ⟨S32768x32, .f32⟩
  | 83 => ⟨S_, .f32⟩
  | 84 => ⟨S16x2048x256, .f32⟩
  | 85 => ⟨S16x2048x256, .f32⟩
  | 86 => ⟨S32768x256, .f32⟩
  | 87 => ⟨S32768x256, .f32⟩
  | 88 => ⟨S32768x512, .f32⟩
  | 89 => ⟨S32768x512, .bf16⟩
  | 90 => ⟨S32768x256, .f32⟩
  | 91 => ⟨S32768x512, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_6 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_9 : Ref sig .tc := ⟨.hbm, 88, rfl⟩
abbrev main_v68 : Ref sig .tc := ⟨.hbm, 89, rfl⟩
abbrev main_v69 : Ref sig .tc := ⟨.hbm, 90, rfl⟩
abbrev main_cst_10 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_11 : Ref sig .tc := ⟨.hbm, 95, rfl⟩
abbrev main_v73 : Ref sig .tc := ⟨.hbm, 96, rfl⟩
abbrev main_v74 : Ref sig .tc := ⟨.hbm, 97, rfl⟩
abbrev main_cst_12 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_cst_13 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_14 : Ref sig .tc := ⟨.hbm, 133, rfl⟩
abbrev main_v108 : Ref sig .tc := ⟨.hbm, 134, rfl⟩
abbrev main_v109 : Ref sig .tc := ⟨.hbm, 135, rfl⟩
abbrev main_cst_15 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_16 : Ref sig .tc := ⟨.hbm, 140, rfl⟩
abbrev main_v113 : Ref sig .tc := ⟨.hbm, 141, rfl⟩
abbrev main_v114 : Ref sig .tc := ⟨.hbm, 142, rfl⟩
abbrev main_cst_17 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_call0_v0 : Ref sig .tc := ⟨.hbm, 184, rfl⟩
abbrev main_call0_call0_cst : Ref sig .tc := ⟨.hbm, 185, rfl⟩
abbrev main_call0_call0_v0 : Ref sig .tc := ⟨.hbm, 186, rfl⟩
abbrev main_call0_call0_v1 : Ref sig .tc := ⟨.hbm, 187, rfl⟩
abbrev main_call0_call0_v2 : Ref sig .tc := ⟨.hbm, 188, rfl⟩
abbrev main_call0_call0_v3 : Ref sig .tc := ⟨.hbm, 189, rfl⟩
abbrev main_call0_call0_v4 : Ref sig .tc := ⟨.hbm, 190, rfl⟩
abbrev main_call0_call0_v5 : Ref sig .tc := ⟨.hbm, 191, rfl⟩
abbrev main_call0_call0_v6 : Ref sig .tc := ⟨.hbm, 192, rfl⟩
abbrev main_call0_call0_v7 : Ref sig .tc := ⟨.hbm, 193, rfl⟩
abbrev main_call0_call0_v8 : Ref sig .tc := ⟨.hbm, 194, rfl⟩
abbrev main_call0_call0_v9 : Ref sig .tc := ⟨.hbm, 195, rfl⟩
abbrev main_call0_call0_v10 : Ref sig .tc := ⟨.hbm, 196, rfl⟩
abbrev main_call0_call0_v11 : Ref sig .tc := ⟨.hbm, 197, rfl⟩
abbrev main_call0_v1 : Ref sig .tc := ⟨.hbm, 198, rfl⟩
abbrev main_v155 : Ref sig .tc := ⟨.hbm, 199, rfl⟩
abbrev main_cst_18 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_cst_19 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩

abbrev nD : Nat := 1
abbrev τ : Topo := Topo.v7x

variable {F : FTy → Type} [FloatOps F]
-- ==== Proof.Heads.lean ====
/-
  The kernel's work for one head, once for all eight: the first block of keys and values (`initH`, the diagonal block
  with its mask), one further block (`stepH`), and the state after `n` further blocks (`hst`). The generated trip of
  the loop is `stepH` of each head, and the loop's carried value is `hst` of each head.
-/
module

public import proofs.«01_k».proof.Proof.Gen.KernelIdeal.Value
public import Idealize.ShloMosaic.Lib.Pipeline.ValueKit
public import Idealize.ShloMosaic.Lib.Pointwise

@[expose] public section

set_option maxRecDepth 16384
set_option maxHeartbeats 4000000

noncomputable section

namespace Cert.KernelIdeal.Attn

open Cert.KernelIdeal Cert.KernelIdeal.Gen Idealize.ShloMosaic Idealize.ShloMosaic.TcCoe Idealize.SL.Sem

variable {F : FTy → Type} [FloatOps F] [Named F]

/-- A head's running state: row maxima, row sums, weighted values. -/
abbrev HS (F : FTy → Type) : Type := FVec F S512x1 .f32 × FVec F S512x1 .f32 × FVec F S512x128 .f32

/-- One further block of keys `kb` and values `vb`. -/
def stepH (q : FVec F S512x128 .bf16) (kb vb : Vec F S1x1x512x128 .bf16) (s : HS F) : HS F :=
  (k0_pay4 q s.1 kb, k0_pay7 q s.1 s.2.1 kb, k0_pay8 q s.1 s.2.2 kb vb)

/-- The diagonal block of keys `kb` and values `vb`, with the causal mask. -/
def initH (q : FVec F S512x128 .bf16) (kb vb : Vec F S1x1x512x128 .bf16) : HS F :=
  (k0_pay119 q kb, k0_pay121 (k0_pay120 q kb), k0_pay122 (k0_pay117 vb) (k0_pay120 q kb))

/-- The eight heads' states as the loop carries them. -/
def pack (s : Fin 8 → HS F) : FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 :=
  ((s 0).1, (s 0).2.1, (s 0).2.2, (s 1).1, (s 1).2.1, (s 1).2.2, (s 2).1, (s 2).2.1, (s 2).2.2, (s 3).1, (s 3).2.1, (s 3).2.2, (s 4).1, (s 4).2.1, (s 4).2.2, (s 5).1, (s 5).2.1, (s 5).2.2, (s 6).1, (s 6).2.1, (s 6).2.2, (s 7).1, (s 7).2.1, (s 7).2.2)

/-- The block of 512 rows from row `512 * j` of head `h` of the keys. -/
def kblk (x : Vec F S1x8x2048x128 .bf16) (h : Fin 8) (j : ℕ) : Vec F S1x1x512x128 .bf16 := fun y =>
  x (ix4 0 h ⟨(512 * j + (y 2).val) % 2048, Nat.mod_lt _ (by decide)⟩ (y 3))

/-- The block of 512 rows from row `512 * j` of pair `p` of the values. -/
def vblk (x : Vec F S1x4x2048x128 .bf16) (p : Fin 4) (j : ℕ) : Vec F S1x1x512x128 .bf16 := fun y =>
  x (ix4 0 p ⟨(512 * j + (y 2).val) % 2048, Nat.mod_lt _ (by decide)⟩ (y 3))

/-- The pair head `h` belongs to. -/
def pr (h : Fin 8) : Fin 4 := ⟨h.val / 2, by omega⟩

/-- A head's state after the diagonal block `d` and the first `n` blocks. -/
def hst (q : FVec F S512x128 .bf16) (kb vb : ℕ → Vec F S1x1x512x128 .bf16) (d : ℕ) : ℕ → HS F
  | 0 => initH q (kb d) (vb d)
  | n + 1 => stepH q (kb n) (vb n) (hst q kb vb d n)

/-- One trip of the loop is one step of every head, on the blocks it reads. -/
theorem trip_raw (𝒱 : Variants) (c : Dev nD) (bd : Option 𝒱.V) (i : grid0.Coords) (arg3 : Memref sig .tc .vmem S1x8x512x128 .bf16) (harg3 : arg3.IsWhole) (arg4 : Memref sig .tc .vmem S1x8x2048x128 .bf16) (harg4 : arg4.IsWhole) (arg5 : Memref sig .tc .vmem S1x4x2048x128 .bf16) (harg5 : arg5.IsWhole) (arg6 : Memref sig .tc .vmem S1x512x512 .bf16) (harg6 : arg6.IsWhole) (arg2 : BitVec 32)
    (v5 v11 v17 v23 v29 v35 v41 v47 : FVec F S512x128 .bf16) (v63 v68 : FVec F S512x1 .f32) (v70 : FVec F S512x128 .f32) (v86 v91 : FVec F S512x1 .f32) (v93 : FVec F S512x128 .f32) (v109 v114 : FVec F S512x1 .f32) (v116 : FVec F S512x128 .f32) (v132 v137 : FVec F S512x1 .f32) (v139 : FVec F S512x128 .f32) (v155 v160 : FVec F S512x1 .f32) (v162 : FVec F S512x128 .f32) (v178 v183 : FVec F S512x1 .f32) (v185 : FVec F S512x128 .f32) (v201 v206 : FVec F S512x1 .f32) (v208 : FVec F S512x128 .f32) (v217 : FVec F S512x128 .bf16) (v222 : FVec F S512x512 .f32)
    (X4 : BufTy.Contents (Elt F) arg4.view.ty) (X5 : BufTy.Contents (Elt F) arg5.view.ty) (k : Fin (k0_t1_loop i).trips) (s : Fin 8 → HS F) :
    tripR_k0_t1 𝒱 c bd i arg3 harg3 arg4 harg4 arg5 harg5 arg6 harg6 arg2 v5 v11 v17 v23 v29 v35 v41 v47 v63 v68 v70 v86 v91 v93 v109 v114 v116 v132 v137 v139 v155 v160 v162 v178 v183 v185 v201 v206 v208 v217 v222 X4 X5 k (pack s) = pack (fun h => match h with
      | 0 => stepH v5 (arg4.view.readAt (Elt F) (Rect.unit (s := S1x8x2048x128) (k0_off13 i k) S1x1x512x128.size (k0_off13_inb i k)) X4) (arg5.view.readAt (Elt F) (Rect.unit (s := S1x4x2048x128) (k0_off14 i k) S1x1x512x128.size (k0_off14_inb i k)) X5) (s 0)
      | 1 => stepH v11 (arg4.view.readAt (Elt F) (Rect.unit (s := S1x8x2048x128) (k0_off15 i k) S1x1x512x128.size (k0_off15_inb i k)) X4) (arg5.view.readAt (Elt F) (Rect.unit (s := S1x4x2048x128) (k0_off14 i k) S1x1x512x128.size (k0_off14_inb i k)) X5) (s 1)
      | 2 => stepH v17 (arg4.view.readAt (Elt F) (Rect.unit (s := S1x8x2048x128) (k0_off16 i k) S1x1x512x128.size (k0_off16_inb i k)) X4) (arg5.view.readAt (Elt F) (Rect.unit (s := S1x4x2048x128) (k0_off17 i k) S1x1x512x128.size (k0_off17_inb i k)) X5) (s 2)
      | 3 => stepH v23 (arg4.view.readAt (Elt F) (Rect.unit (s := S1x8x2048x128) (k0_off18 i k) S1x1x512x128.size (k0_off18_inb i k)) X4) (arg5.view.readAt (Elt F) (Rect.unit (s := S1x4x2048x128) (k0_off17 i k) S1x1x512x128.size (k0_off17_inb i k)) X5) (s 3)
      | 4 => stepH v29 (arg4.view.readAt (Elt F) (Rect.unit (s := S1x8x2048x128) (k0_off19 i k) S1x1x512x128.size (k0_off19_inb i k)) X4) (arg5.view.readAt (Elt F) (Rect.unit (s := S1x4x2048x128) (k0_off20 i k) S1x1x512x128.size (k0_off20_inb i k)) X5) (s 4)
      | 5 => stepH v35 (arg4.view.readAt (Elt F) (Rect.unit (s := S1x8x2048x128) (k0_off21 i k) S1x1x512x128.size (k0_off21_inb i k)) X4) (arg5.view.readAt (Elt F) (Rect.unit (s := S1x4x2048x128) (k0_off20 i k) S1x1x512x128.size (k0_off20_inb i k)) X5) (s 5)
      | 6 => stepH v41 (arg4.view.readAt (Elt F) (Rect.unit (s := S1x8x2048x128) (k0_off22 i k) S1x1x512x128.size (k0_off22_inb i k)) X4) (arg5.view.readAt (Elt F) (Rect.unit (s := S1x4x2048x128) (k0_off23 i k) S1x1x512x128.size (k0_off23_inb i k)) X5) (s 6)
      | 7 => stepH v47 (arg4.view.readAt (Elt F) (Rect.unit (s := S1x8x2048x128) (k0_off24 i k) S1x1x512x128.size (k0_off24_inb i k)) X4) (arg5.view.readAt (Elt F) (Rect.unit (s := S1x4x2048x128) (k0_off23 i k) S1x1x512x128.size (k0_off23_inb i k)) X5) (s 7)) := by
  unfold tripR_k0_t1 trip_k0_t1
  rfl

end Cert.KernelIdeal.Attn

end
-- ==== Proof.Pieces.lean ====
/-
  The four blocks a grid point stores, as the run leaves them: each from the states the two loops end with, the first
  of them started at every head's diagonal block.
-/
module

public import proofs.«01_k».proof.Proof.Heads
public import Idealize.ShloMosaic.Lib.Pipeline.ValueKit
public import Idealize.ShloMosaic.Lib.Pointwise

@[expose] public section

set_option maxRecDepth 400000
set_option maxHeartbeats 4000000

noncomputable section

namespace Cert.KernelIdeal.Attn

open Cert.KernelIdeal Cert.KernelIdeal.Gen Idealize.ShloMosaic Idealize.ShloMosaic.TcCoe Idealize.SL.Sem

variable {F : FTy → Type} [FloatOps F] [Named F]

/-- The heads' queries as the kernel loads and scales them. -/
def rawQ (arg3 : Memref sig .tc .vmem S1x8x512x128 .bf16) (harg3 : arg3.IsWhole) (x0 : Vec F S1x8x512x128 .bf16) : Fin 8 → FVec F S512x128 .bf16 :=
  (fun h : Fin 8 => match h with
      | 0 => k0_pay109 (arg3.view.readAt (Elt F) (Rect.unit (s := S1x8x512x128) ![0, 0, 0, 0] S1x1x512x128.size inb_S1x8x512x128_S1x1x512x128_0_0_0_0) (harg3.unread x0))
      | 1 => k0_pay109 (arg3.view.readAt (Elt F) (Rect.unit (s := S1x8x512x128) ![0, 1, 0, 0] S1x1x512x128.size inb_S1x8x512x128_S1x1x512x128_0_1_0_0) (harg3.unread x0))
      | 2 => k0_pay109 (arg3.view.readAt (Elt F) (Rect.unit (s := S1x8x512x128) ![0, 2, 0, 0] S1x1x512x128.size inb_S1x8x512x128_S1x1x512x128_0_2_0_0) (harg3.unread x0))
      | 3 => k0_pay109 (arg3.view.readAt (Elt F) (Rect.unit (s := S1x8x512x128) ![0, 3, 0, 0] S1x1x512x128.size inb_S1x8x512x128_S1x1x512x128_0_3_0_0) (harg3.unread x0))
      | 4 => k0_pay109 (arg3.view.readAt (Elt F) (Rect.unit (s := S1x8x512x128) ![0, 4, 0, 0] S1x1x512x128.size inb_S1x8x512x128_S1x1x512x128_0_4_0_0) (harg3.unread x0))
      | 5 => k0_pay109 (arg3.view.readAt (Elt F) (Rect.unit (s := S1x8x512x128) ![0, 5, 0, 0] S1x1x512x128.size inb_S1x8x512x128_S1x1x512x128_0_5_0_0) (harg3.unread x0))
      | 6 => k0_pay109 (arg3.view.readAt (Elt F) (Rect.unit (s := S1x8x512x128) ![0, 6, 0, 0] S1x1x512x128.size inb_S1x8x512x128_S1x1x512x128_0_6_0_0) (harg3.unread x0))
      | 7 => k0_pay109 (arg3.view.readAt (Elt F) (Rect.unit (s := S1x8x512x128) ![0, 7, 0, 0] S1x1x512x128.size inb_S1x8x512x128_S1x1x512x128_0_7_0_0) (harg3.unread x0)))

/-- The heads' states after the diagonal block, on the blocks as the kernel loads them. -/
def rawS (i : grid0.Coords) (arg4 : Memref sig .tc .vmem S1x8x2048x128 .bf16) (harg4 : arg4.IsWhole) (arg5 : Memref sig .tc .vmem S1x4x2048x128 .bf16) (harg5 : arg5.IsWhole) (x1 : Vec F S1x8x2048x128 .bf16) (x2 : Vec F S1x4x2048x128 .bf16) (q : Fin 8 → FVec F S512x128 .bf16) : Fin 8 → HS F :=
  (fun h : Fin 8 => match h with
      | 0 => initH (q 0) (arg4.view.readAt (Elt F) (Rect.unit (s := S1x8x2048x128) (k0_off1 i) S1x1x512x128.size (k0_off1_inb i)) (harg4.unread x1)) (arg5.view.readAt (Elt F) (Rect.unit (s := S1x4x2048x128) (k0_off2 i) S1x1x512x128.size (k0_off2_inb i)) (harg5.unread x2))
      | 1 => initH (q 1) (arg4.view.readAt (Elt F) (Rect.unit (s := S1x8x2048x128) (k0_off3 i) S1x1x512x128.size (k0_off3_inb i)) (harg4.unread x1)) (arg5.view.readAt (Elt F) (Rect.unit (s := S1x4x2048x128) (k0_off2 i) S1x1x512x128.size (k0_off2_inb i)) (harg5.unread x2))
      | 2 => initH (q 2) (arg4.view.readAt (Elt F) (Rect.unit (s := S1x8x2048x128) (k0_off4 i) S1x1x512x128.size (k0_off4_inb i)) (harg4.unread x1)) (arg5.view.readAt (Elt F) (Rect.unit (s := S1x4x2048x128) (k0_off5 i) S1x1x512x128.size (k0_off5_inb i)) (harg5.unread x2))
      | 3 => initH (q 3) (arg4.view.readAt (Elt F) (Rect.unit (s := S1x8x2048x128) (k0_off6 i) S1x1x512x128.size (k0_off6_inb i)) (harg4.unread x1)) (arg5.view.readAt (Elt F) (Rect.unit (s := S1x4x2048x128) (k0_off5 i) S1x1x512x128.size (k0_off5_inb i)) (harg5.unread x2))
      | 4 => initH (q 4) (arg4.view.readAt (Elt F) (Rect.unit (s := S1x8x2048x128) (k0_off7 i) S1x1x512x128.size (k0_off7_inb i)) (harg4.unread x1)) (arg5.view.readAt (Elt F) (Rect.unit (s := S1x4x2048x128) (k0_off8 i) S1x1x512x128.size (k0_off8_inb i)) (harg5.unread x2))
      | 5 => initH (q 5) (arg4.view.readAt (Elt F) (Rect.unit (s := S1x8x2048x128) (k0_off9 i) S1x1x512x128.size (k0_off9_inb i)) (harg4.unread x1)) (arg5.view.readAt (Elt F) (Rect.unit (s := S1x4x2048x128) (k0_off8 i) S1x1x512x128.size (k0_off8_inb i)) (harg5.unread x2))
      | 6 => initH (q 6) (arg4.view.readAt (Elt F) (Rect.unit (s := S1x8x2048x128) (k0_off10 i) S1x1x512x128.size (k0_off10_inb i)) (harg4.unread x1)) (arg5.view.readAt (Elt F) (Rect.unit (s := S1x4x2048x128) (k0_off11 i) S1x1x512x128.size (k0_off11_inb i)) (harg5.unread x2))
      | 7 => initH (q 7) (arg4.view.readAt (Elt F) (Rect.unit (s := S1x8x2048x128) (k0_off12 i) S1x1x512x128.size (k0_off12_inb i)) (harg4.unread x1)) (arg5.view.readAt (Elt F) (Rect.unit (s := S1x4x2048x128) (k0_off11 i) S1x1x512x128.size (k0_off11_inb i)) (harg5.unread x2)))

/-- The four blocks stored, last first, from the queries and the states after the diagonal block. -/
def stored (c : Dev nD) (i : grid0.Coords) (arg3 : Memref sig .tc .vmem S1x8x512x128 .bf16) (harg3 : arg3.IsWhole) (arg4 : Memref sig .tc .vmem S1x8x2048x128 .bf16) (harg4 : arg4.IsWhole) (arg5 : Memref sig .tc .vmem S1x4x2048x128 .bf16) (harg5 : arg5.IsWhole) (arg6 : Memref sig .tc .vmem S1x512x512 .bf16) (harg6 : arg6.IsWhole)
    (x0 : Vec F S1x8x512x128 .bf16) (x1 : Vec F S1x8x2048x128 .bf16) (x2 : Vec F S1x4x2048x128 .bf16) (q : Fin 8 → FVec F S512x128 .bf16) (s0 : Fin 8 → HS F) : List (View.Piece (Elt F) S1x512x512 .bf16) :=
  let w1 := st_k0_t1 Variants.none c none i arg3 harg3 arg4 harg4 arg5 harg5 arg6 harg6 (BitVec.ofNat 32 (i 2).val) (q 0) (q 1) (q 2) (q 3) (q 4) (q 5) (q 6) (q 7) (s0 0).1 (s0 0).2.1 (s0 0).2.2 (s0 1).1 (s0 1).2.1 (s0 1).2.2 (s0 2).1 (s0 2).2.1 (s0 2).2.2 (s0 3).1 (s0 3).2.1 (s0 3).2.2 (s0 4).1 (s0 4).2.1 (s0 4).2.2 (s0 5).1 (s0 5).2.1 (s0 5).2.2 (s0 6).1 (s0 6).2.1 (s0 6).2.2 (k0_pay158 (arg5.view.readAt (Elt F) (Rect.unit (s := S1x4x2048x128) (k0_off11 i) S1x1x512x128.size (k0_off11_inb i)) (harg5.unread x2))) (k0_pay159 (q 7) (arg4.view.readAt (Elt F) (Rect.unit (s := S1x8x2048x128) (k0_off12 i) S1x1x512x128.size (k0_off12_inb i)) (harg4.unread x1))) (harg4.unread x1) (harg5.unread x2) (pack s0) (k0_t1_loop i).trips
  let w := st_k0_t2 Variants.none c none i arg3 harg3 arg4 harg4 arg5 harg5 arg6 harg6 (BitVec.ofNat 32 (i 2).val) (q 0) (q 1) (q 2) (q 3) (q 4) (q 5) (q 6) (q 7) (s0 0).1 (s0 0).2.1 (s0 0).2.2 (s0 1).1 (s0 1).2.1 (s0 1).2.2 (s0 2).1 (s0 2).2.1 (s0 2).2.2 (s0 3).1 (s0 3).2.1 (s0 3).2.2 (s0 4).1 (s0 4).2.1 (s0 4).2.2 (s0 5).1 (s0 5).2.1 (s0 5).2.2 (s0 6).1 (s0 6).2.1 (s0 6).2.2 (k0_pay158 (arg5.view.readAt (Elt F) (Rect.unit (s := S1x4x2048x128) (k0_off11 i) S1x1x512x128.size (k0_off11_inb i)) (harg5.unread x2))) (k0_pay159 (q 7) (arg4.view.readAt (Elt F) (Rect.unit (s := S1x8x2048x128) (k0_off12 i) S1x1x512x128.size (k0_off12_inb i)) (harg4.unread x1))) (Scalar.addi 0#32 (Scalar.muli (Scalar.divsi (Scalar.subi (BitVec.ofNat 32 (i 2).val) 0#32) 1#32) 1#32)) (harg4.unread x1) (harg5.unread x2) w1 (k0_t2_loop i).trips
  [⟨Rect.unit (s := S1x512x512) ![0, 0, 384] S1x512x128.size inb_S1x512x512_S1x512x128_0_0_384, k0_pay166 w.2.2.2.2.2.2.2.2.2.2.2.2.2.2.2.2.2.2.2.1 w.2.2.2.2.2.2.2.2.2.2.2.2.2.2.2.2.2.2.2.2.1 w.2.2.2.2.2.2.2.2.2.2.2.2.2.2.2.2.2.2.2.2.2.2.1 w.2.2.2.2.2.2.2.2.2.2.2.2.2.2.2.2.2.2.2.2.2.2.2⟩,
    ⟨Rect.unit (s := S1x512x512) ![0, 0, 256] S1x512x128.size inb_S1x512x512_S1x512x128_0_0_256, k0_pay166 w.2.2.2.2.2.2.2.2.2.2.2.2.2.1 w.2.2.2.2.2.2.2.2.2.2.2.2.2.2.1 w.2.2.2.2.2.2.2.2.2.2.2.2.2.2.2.2.1 w.2.2.2.2.2.2.2.2.2.2.2.2.2.2.2.2.2.1⟩,
    ⟨Rect.unit (s := S1x512x512) ![0, 0, 128] S1x512x128.size inb_S1x512x512_S1x512x128_0_0_128, k0_pay166 w.2.2.2.2.2.2.2.1 w.2.2.2.2.2.2.2.2.1 w.2.2.2.2.2.2.2.2.2.2.1 w.2.2.2.2.2.2.2.2.2.2.2.1⟩,
    ⟨Rect.unit (s := S1x512x512) ![0, 0, 0] S1x512x128.size inb_S1x512x512_S1x512x128_0_0_0, k0_pay166 w.2.1 w.2.2.1 w.2.2.2.2.1 w.2.2.2.2.2.1⟩]

/-- What a grid point stores, last store first: each pair of heads' quotients, from the states the two loops leave. -/
theorem pieces_raw (c : Dev nD) (i : grid0.Coords) (arg3 : Memref sig .tc .vmem S1x8x512x128 .bf16) (harg3 : arg3.IsWhole) (arg4 : Memref sig .tc .vmem S1x8x2048x128 .bf16) (harg4 : arg4.IsWhole) (arg5 : Memref sig .tc .vmem S1x4x2048x128 .bf16) (harg5 : arg5.IsWhole) (arg6 : Memref sig .tc .vmem S1x512x512 .bf16) (harg6 : arg6.IsWhole)
    (x0 : Vec F S1x8x512x128 .bf16) (x1 : Vec F S1x8x2048x128 .bf16) (x2 : Vec F S1x4x2048x128 .bf16) :
    (kernelRun0_A c i arg3 harg3 arg4 harg4 arg5 harg5 arg6 harg6 x0 x1 x2).1 = stored c i arg3 harg3 arg4 harg4 arg5 harg5 arg6 harg6 x0 x1 x2 (rawQ arg3 harg3 x0) (rawS i arg4 harg4 arg5 harg5 x1 x2 (rawQ arg3 harg3 x0)) := by
  unfold kernelRun0_A
  rfl

end Cert.KernelIdeal.Attn

end
-- ==== Proof.Blocks.lean ====
/-
  Where the kernel's loads read, how many trips its two loops run, and so what a grid point stores: the quotients of
  the eight heads' states after the diagonal block and every block before it.
-/
module

public import proofs.«01_k».proof.Proof.Pieces
public import Idealize.ShloMosaic.Lib.Pipeline.ValueKit
public import Idealize.ShloMosaic.Lib.Pointwise

@[expose] public section

set_option maxRecDepth 16384
set_option maxHeartbeats 4000000

noncomputable section

namespace Cert.KernelIdeal.Attn

open Cert.KernelIdeal Cert.KernelIdeal.Gen Idealize.ShloMosaic Idealize.ShloMosaic.TcCoe Idealize.SL.Sem

variable {F : FTy → Type} [FloatOps F] [Named F]

/-- The row a diagonal load starts at, for each of the four query tiles. -/
theorem rowD : ∀ n : Fin 4, (Scalar.indexCast (Scalar.muli (BitVec.ofNat 32 n.val) 512#32)).toNat = 512 * n.val := by
  decide +kernel

/-- The row trip `n`'s loads start at. -/
theorem rowK : ∀ n : Fin 4, (Scalar.indexCast (Scalar.muli (Scf.iv 0#32 1#32 n.val) 512#32)).toNat = 512 * n.val := by
  decide +kernel

/-- The first loop runs once for each block before the diagonal one. -/
theorem trips1 (i : grid0.Coords) : (k0_t1_loop i).trips = (i 2).val :=
  (by decide +kernel : ∀ n : Fin 4, Scf.trips 0#32 (Scalar.addi 0#32 (Scalar.muli (Scalar.divsi (Scalar.subi (BitVec.ofNat 32 n.val) 0#32) 1#32) 1#32)) 1#32 = n.val) (i 2)

/-- The second loop, the remainder of a step of one, never runs. -/
theorem trips2 (i : grid0.Coords) : (k0_t2_loop i).trips = 0 :=
  (by decide +kernel : ∀ n : Fin 4, Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32 = 0) (i 2)

theorem lt_four (i : grid0.Coords) (k : Fin (k0_t1_loop i).trips) : k.val < 4 :=
  (k.isLt.trans_eq (trips1 i)).trans (i 2).isLt

/-- A load of 512 rows of the keys is the block of its head and first row. -/
theorem ld_kblk (x : Vec F S1x8x2048x128 .bf16) (off : Fin 4 → ℕ) (inb) (h : Fin 8) (j : ℕ) (hj : j < 4)
    (hoff : off = ![0, h.val, 512 * j, 0]) :
    View.ld x (Rect.unit (s := S1x8x2048x128) off S1x1x512x128.size inb) = kblk x h j := by
  subst hoff
  funext y
  refine congrArg x (funext fun a => Fin.ext ?_)
  have h2 : (y 2).val < 512 := (y 2).isLt
  have h0 : (y 0).val < 1 := (y 0).isLt
  have h1 : (y 1).val < 1 := (y 1).isLt
  match a with
  | ⟨0, _⟩ => show 0 + 1 * (y 0).val = 0; omega
  | ⟨1, _⟩ => show h.val + 1 * (y 1).val = h.val; omega
  | ⟨2, _⟩ => show 512 * j + 1 * (y 2).val = (512 * j + (y 2).val) % 2048; rw [Nat.mod_eq_of_lt (by omega), one_mul]
  | ⟨3, _⟩ => show 0 + 1 * (y 3).val = (y 3).val; omega

/-- A load of 512 rows of the values is the block of its pair and first row. -/
theorem ld_vblk (x : Vec F S1x4x2048x128 .bf16) (off : Fin 4 → ℕ) (inb) (p : Fin 4) (j : ℕ) (hj : j < 4)
    (hoff : off = ![0, p.val, 512 * j, 0]) :
    View.ld x (Rect.unit (s := S1x4x2048x128) off S1x1x512x128.size inb) = vblk x p j := by
  subst hoff
  funext y
  refine congrArg x (funext fun a => Fin.ext ?_)
  have h2 : (y 2).val < 512 := (y 2).isLt
  have h0 : (y 0).val < 1 := (y 0).isLt
  have h1 : (y 1).val < 1 := (y 1).isLt
  match a with
  | ⟨0, _⟩ => show 0 + 1 * (y 0).val = 0; omega
  | ⟨1, _⟩ => show p.val + 1 * (y 1).val = p.val; omega
  | ⟨2, _⟩ => show 512 * j + 1 * (y 2).val = (512 * j + (y 2).val) % 2048; rw [Nat.mod_eq_of_lt (by omega), one_mul]
  | ⟨3, _⟩ => show 0 + 1 * (y 3).val = (y 3).val; omega

/-- The queries of head `h`, scaled. -/
def qh (x : Vec F S1x8x512x128 .bf16) (h : Fin 8) : FVec F S512x128 .bf16 :=
  k0_pay109 fun y => x (ix4 0 h (y 2) (y 3))

/-- A load of one head's queries. -/
theorem ld_qh (x : Vec F S1x8x512x128 .bf16) (off : Fin 4 → ℕ) (inb) (h : Fin 8) (hoff : off = ![0, h.val, 0, 0]) :
    k0_pay109 (View.ld x (Rect.unit (s := S1x8x512x128) off S1x1x512x128.size inb)) = qh x h := by
  subst hoff
  refine congrArg k0_pay109 (funext fun y => congrArg x (funext fun a => Fin.ext ?_))
  have h0 : (y 0).val < 1 := (y 0).isLt
  have h1 : (y 1).val < 1 := (y 1).isLt
  match a with
  | ⟨0, _⟩ => show 0 + 1 * (y 0).val = 0; omega
  | ⟨1, _⟩ => show h.val + 1 * (y 1).val = h.val; omega
  | ⟨2, _⟩ => show 0 + 1 * (y 2).val = (y 2).val; omega
  | ⟨3, _⟩ => show 0 + 1 * (y 3).val = (y 3).val; omega

theorem off1 (i : grid0.Coords) : k0_off1 i = ![0, 0, 512 * (i 2).val, 0] := congrArg (fun r => ![0, 0, r, 0]) (rowD (i 2))
theorem off3 (i : grid0.Coords) : k0_off3 i = ![0, 1, 512 * (i 2).val, 0] := congrArg (fun r => ![0, 1, r, 0]) (rowD (i 2))
theorem off4 (i : grid0.Coords) : k0_off4 i = ![0, 2, 512 * (i 2).val, 0] := congrArg (fun r => ![0, 2, r, 0]) (rowD (i 2))
theorem off6 (i : grid0.Coords) : k0_off6 i = ![0, 3, 512 * (i 2).val, 0] := congrArg (fun r => ![0, 3, r, 0]) (rowD (i 2))
theorem off7 (i : grid0.Coords) : k0_off7 i = ![0, 4, 512 * (i 2).val, 0] := congrArg (fun r => ![0, 4, r, 0]) (rowD (i 2))
theorem off9 (i : grid0.Coords) : k0_off9 i = ![0, 5, 512 * (i 2).val, 0] := congrArg (fun r => ![0, 5, r, 0]) (rowD (i 2))
theorem off10 (i : grid0.Coords) : k0_off10 i = ![0, 6, 512 * (i 2).val, 0] := congrArg (fun r => ![0, 6, r, 0]) (rowD (i 2))
theorem off12 (i : grid0.Coords) : k0_off12 i = ![0, 7, 512 * (i 2).val, 0] := congrArg (fun r => ![0, 7, r, 0]) (rowD (i 2))
theorem off2 (i : grid0.Coords) : k0_off2 i = ![0, 0, 512 * (i 2).val, 0] := congrArg (fun r => ![0, 0, r, 0]) (rowD (i 2))
theorem off5 (i : grid0.Coords) : k0_off5 i = ![0, 1, 512 * (i 2).val, 0] := congrArg (fun r => ![0, 1, r, 0]) (rowD (i 2))
theorem off8 (i : grid0.Coords) : k0_off8 i = ![0, 2, 512 * (i 2).val, 0] := congrArg (fun r => ![0, 2, r, 0]) (rowD (i 2))
theorem off11 (i : grid0.Coords) : k0_off11 i = ![0, 3, 512 * (i 2).val, 0] := congrArg (fun r => ![0, 3, r, 0]) (rowD (i 2))
theorem off13 (i : grid0.Coords) (k : Fin (k0_t1_loop i).trips) : k0_off13 i k = ![0, 0, 512 * k.val, 0] := congrArg (fun r => ![0, 0, r, 0]) (rowK ⟨k.val, lt_four i k⟩)
theorem off15 (i : grid0.Coords) (k : Fin (k0_t1_loop i).trips) : k0_off15 i k = ![0, 1, 512 * k.val, 0] := congrArg (fun r => ![0, 1, r, 0]) (rowK ⟨k.val, lt_four i k⟩)
theorem off16 (i : grid0.Coords) (k : Fin (k0_t1_loop i).trips) : k0_off16 i k = ![0, 2, 512 * k.val, 0] := congrArg (fun r => ![0, 2, r, 0]) (rowK ⟨k.val, lt_four i k⟩)
theorem off18 (i : grid0.Coords) (k : Fin (k0_t1_loop i).trips) : k0_off18 i k = ![0, 3, 512 * k.val, 0] := congrArg (fun r => ![0, 3, r, 0]) (rowK ⟨k.val, lt_four i k⟩)
theorem off19 (i : grid0.Coords) (k : Fin (k0_t1_loop i).trips) : k0_off19 i k = ![0, 4, 512 * k.val, 0] := congrArg (fun r => ![0, 4, r, 0]) (rowK ⟨k.val, lt_four i k⟩)
theorem off21 (i : grid0.Coords) (k : Fin (k0_t1_loop i).trips) : k0_off21 i k = ![0, 5, 512 * k.val, 0] := congrArg (fun r => ![0, 5, r, 0]) (rowK ⟨k.val, lt_four i k⟩)
theorem off22 (i : grid0.Coords) (k : Fin (k0_t1_loop i).trips) : k0_off22 i k = ![0, 6, 512 * k.val, 0] := congrArg (fun r => ![0, 6, r, 0]) (rowK ⟨k.val, lt_four i k⟩)
theorem off24 (i : grid0.Coords) (k : Fin (k0_t1_loop i).trips) : k0_off24 i k = ![0, 7, 512 * k.val, 0] := congrArg (fun r => ![0, 7, r, 0]) (rowK ⟨k.val, lt_four i k⟩)
theorem off14 (i : grid0.Coords) (k : Fin (k0_t1_loop i).trips) : k0_off14 i k = ![0, 0, 512 * k.val, 0] := congrArg (fun r => ![0, 0, r, 0]) (rowK ⟨k.val, lt_four i k⟩)
theorem off17 (i : grid0.Coords) (k : Fin (k0_t1_loop i).trips) : k0_off17 i k = ![0, 1, 512 * k.val, 0] := congrArg (fun r => ![0, 1, r, 0]) (rowK ⟨k.val, lt_four i k⟩)
theorem off20 (i : grid0.Coords) (k : Fin (k0_t1_loop i).trips) : k0_off20 i k = ![0, 2, 512 * k.val, 0] := congrArg (fun r => ![0, 2, r, 0]) (rowK ⟨k.val, lt_four i k⟩)
theorem off23 (i : grid0.Coords) (k : Fin (k0_t1_loop i).trips) : k0_off23 i k = ![0, 3, 512 * k.val, 0] := congrArg (fun r => ![0, 3, r, 0]) (rowK ⟨k.val, lt_four i k⟩)

/-- One trip of the loop steps every head on its block of keys and values. -/
theorem trip_eq (𝒱 : Variants) (c : Dev nD) (bd : Option 𝒱.V) (i : grid0.Coords) (arg3 : Memref sig .tc .vmem S1x8x512x128 .bf16) (harg3 : arg3.IsWhole) (arg4 : Memref sig .tc .vmem S1x8x2048x128 .bf16) (harg4 : arg4.IsWhole) (arg5 : Memref sig .tc .vmem S1x4x2048x128 .bf16) (harg5 : arg5.IsWhole) (arg6 : Memref sig .tc .vmem S1x512x512 .bf16) (harg6 : arg6.IsWhole) (arg2 : BitVec 32)
    (v5 v11 v17 v23 v29 v35 v41 v47 : FVec F S512x128 .bf16) (v63 v68 : FVec F S512x1 .f32) (v70 : FVec F S512x128 .f32) (v86 v91 : FVec F S512x1 .f32) (v93 : FVec F S512x128 .f32) (v109 v114 : FVec F S512x1 .f32) (v116 : FVec F S512x128 .f32) (v132 v137 : FVec F S512x1 .f32) (v139 : FVec F S512x128 .f32) (v155 v160 : FVec F S512x1 .f32) (v162 : FVec F S512x128 .f32) (v178 v183 : FVec F S512x1 .f32) (v185 : FVec F S512x128 .f32) (v201 v206 : FVec F S512x1 .f32) (v208 : FVec F S512x128 .f32) (v217 : FVec F S512x128 .bf16) (v222 : FVec F S512x512 .f32)
    (x1 : Vec F S1x8x2048x128 .bf16) (x2 : Vec F S1x4x2048x128 .bf16) (k : Fin (k0_t1_loop i).trips) (q : Fin 8 → FVec F S512x128 .bf16)
    (hq : q = ![v5, v11, v17, v23, v29, v35, v41, v47]) (s : Fin 8 → HS F) :
    tripR_k0_t1 𝒱 c bd i arg3 harg3 arg4 harg4 arg5 harg5 arg6 harg6 arg2 v5 v11 v17 v23 v29 v35 v41 v47 v63 v68 v70 v86 v91 v93 v109 v114 v116 v132 v137 v139 v155 v160 v162 v178 v183 v185 v201 v206 v208 v217 v222 (harg4.unread x1) (harg5.unread x2) k (pack s) = pack (fun h => stepH (q h) (kblk x1 h k) (vblk x2 (pr h) k) (s h)) := by
  subst hq
  rw [trip_raw]
  simp only [View.readAt_eq_ld, harg4.read_unread, harg5.read_unread]
  have hk := lt_four i k
  rw [ld_kblk x1 _ _ 0 k hk (off13 i k), ld_kblk x1 _ _ 1 k hk (off15 i k), ld_kblk x1 _ _ 2 k hk (off16 i k), ld_kblk x1 _ _ 3 k hk (off18 i k), ld_kblk x1 _ _ 4 k hk (off19 i k), ld_kblk x1 _ _ 5 k hk (off21 i k), ld_kblk x1 _ _ 6 k hk (off22 i k), ld_kblk x1 _ _ 7 k hk (off24 i k),
    ld_vblk x2 _ _ 0 k hk (off14 i k), ld_vblk x2 _ _ 1 k hk (off17 i k), ld_vblk x2 _ _ 2 k hk (off20 i k), ld_vblk x2 _ _ 3 k hk (off23 i k)]
  rfl

/-- The carried value after `n` trips is every head's state after `n` blocks. -/
theorem st_eq (𝒱 : Variants) (c : Dev nD) (bd : Option 𝒱.V) (i : grid0.Coords) (arg3 : Memref sig .tc .vmem S1x8x512x128 .bf16) (harg3 : arg3.IsWhole) (arg4 : Memref sig .tc .vmem S1x8x2048x128 .bf16) (harg4 : arg4.IsWhole) (arg5 : Memref sig .tc .vmem S1x4x2048x128 .bf16) (harg5 : arg5.IsWhole) (arg6 : Memref sig .tc .vmem S1x512x512 .bf16) (harg6 : arg6.IsWhole) (arg2 : BitVec 32)
    (v5 v11 v17 v23 v29 v35 v41 v47 : FVec F S512x128 .bf16) (v63 v68 : FVec F S512x1 .f32) (v70 : FVec F S512x128 .f32) (v86 v91 : FVec F S512x1 .f32) (v93 : FVec F S512x128 .f32) (v109 v114 : FVec F S512x1 .f32) (v116 : FVec F S512x128 .f32) (v132 v137 : FVec F S512x1 .f32) (v139 : FVec F S512x128 .f32) (v155 v160 : FVec F S512x1 .f32) (v162 : FVec F S512x128 .f32) (v178 v183 : FVec F S512x1 .f32) (v185 : FVec F S512x128 .f32) (v201 v206 : FVec F S512x1 .f32) (v208 : FVec F S512x128 .f32) (v217 : FVec F S512x128 .bf16) (v222 : FVec F S512x512 .f32)
    (x1 : Vec F S1x8x2048x128 .bf16) (x2 : Vec F S1x4x2048x128 .bf16) (q : Fin 8 → FVec F S512x128 .bf16)
    (hq : q = ![v5, v11, v17, v23, v29, v35, v41, v47]) (d : ℕ) (n : ℕ) (hn : n ≤ (k0_t1_loop i).trips) :
    st_k0_t1 𝒱 c bd i arg3 harg3 arg4 harg4 arg5 harg5 arg6 harg6 arg2 v5 v11 v17 v23 v29 v35 v41 v47 v63 v68 v70 v86 v91 v93 v109 v114 v116 v132 v137 v139 v155 v160 v162 v178 v183 v185 v201 v206 v208 v217 v222 (harg4.unread x1) (harg5.unread x2) (pack fun h => initH (q h) (kblk x1 h d) (vblk x2 (pr h) d)) n
      = pack (fun h => hst (q h) (kblk x1 h) (vblk x2 (pr h)) d n) := by
  induction n with
  | zero => rfl
  | succ n ih =>
    have e := st_k0_t1_succ 𝒱 c bd i arg3 harg3 arg4 harg4 arg5 harg5 arg6 harg6 arg2 v5 v11 v17 v23 v29 v35 v41 v47 v63 v68 v70 v86 v91 v93 v109 v114 v116 v132 v137 v139 v155 v160 v162 v178 v183 v185 v201 v206 v208 v217 v222 (harg4.unread x1) (harg5.unread x2) (pack fun h => initH (q h) (kblk x1 h d) (vblk x2 (pr h) d)) ⟨n, hn⟩
    rw [show n + 1 = (⟨n, hn⟩ : Fin (k0_t1_loop i).trips).val + 1 from rfl, e, ih (Nat.le_of_succ_le hn), trip_eq (hq := hq)]
    rfl

/-- What a grid point's state of head `h` ends as. -/
def fin (i : grid0.Coords) (x0 : Vec F S1x8x512x128 .bf16) (x1 : Vec F S1x8x2048x128 .bf16) (x2 : Vec F S1x4x2048x128 .bf16) (h : Fin 8) : HS F :=
  hst (qh x0 h) (kblk x1 h) (vblk x2 (pr h)) (i 2).val (i 2).val

/-- A pair of heads' quotients, side by side. -/
def outP (e o : HS F) : FVec F S1x512x128 .bf16 := k0_pay166 e.2.1 e.2.2 o.2.1 o.2.2

/-- What a grid point stores, from the heads' final states. -/
theorem pieces (c : Dev nD) (i : grid0.Coords) (arg3 : Memref sig .tc .vmem S1x8x512x128 .bf16) (harg3 : arg3.IsWhole) (arg4 : Memref sig .tc .vmem S1x8x2048x128 .bf16) (harg4 : arg4.IsWhole) (arg5 : Memref sig .tc .vmem S1x4x2048x128 .bf16) (harg5 : arg5.IsWhole) (arg6 : Memref sig .tc .vmem S1x512x512 .bf16) (harg6 : arg6.IsWhole)
    (x0 : Vec F S1x8x512x128 .bf16) (x1 : Vec F S1x8x2048x128 .bf16) (x2 : Vec F S1x4x2048x128 .bf16) :
    (kernelRun0_A c i arg3 harg3 arg4 harg4 arg5 harg5 arg6 harg6 x0 x1 x2).1 =
    [⟨Rect.unit (s := S1x512x512) ![0, 0, 384] S1x512x128.size inb_S1x512x512_S1x512x128_0_0_384, outP (fin i x0 x1 x2 6) (fin i x0 x1 x2 7)⟩, ⟨Rect.unit (s := S1x512x512) ![0, 0, 256] S1x512x128.size inb_S1x512x512_S1x512x128_0_0_256, outP (fin i x0 x1 x2 4) (fin i x0 x1 x2 5)⟩, ⟨Rect.unit (s := S1x512x512) ![0, 0, 128] S1x512x128.size inb_S1x512x512_S1x512x128_0_0_128, outP (fin i x0 x1 x2 2) (fin i x0 x1 x2 3)⟩, ⟨Rect.unit (s := S1x512x512) ![0, 0, 0] S1x512x128.size inb_S1x512x512_S1x512x128_0_0_0, outP (fin i x0 x1 x2 0) (fin i x0 x1 x2 1)⟩] := by
  rw [pieces_raw]
  have hd : (i 2).val < 4 := (i 2).isLt
  have eq : rawQ arg3 harg3 x0 = qh x0 := by
    funext h
    unfold rawQ
    simp only [View.readAt_eq_ld, harg3.read_unread]
    fin_cases h
    all_goals exact ld_qh x0 _ _ _ rfl
  have es : rawS i arg4 harg4 arg5 harg5 x1 x2 (qh x0) = fun h => initH (qh x0 h) (kblk x1 h (i 2).val) (vblk x2 (pr h) (i 2).val) := by
    funext h
    unfold rawS
    simp only [View.readAt_eq_ld, harg4.read_unread, harg5.read_unread]
    rw [ld_kblk x1 _ _ 0 _ hd (off1 i), ld_kblk x1 _ _ 1 _ hd (off3 i), ld_kblk x1 _ _ 2 _ hd (off4 i), ld_kblk x1 _ _ 3 _ hd (off6 i), ld_kblk x1 _ _ 4 _ hd (off7 i), ld_kblk x1 _ _ 5 _ hd (off9 i), ld_kblk x1 _ _ 6 _ hd (off10 i), ld_kblk x1 _ _ 7 _ hd (off12 i),
      ld_vblk x2 _ _ 0 _ hd (off2 i), ld_vblk x2 _ _ 1 _ hd (off5 i), ld_vblk x2 _ _ 2 _ hd (off8 i), ld_vblk x2 _ _ 3 _ hd (off11 i)]
    fin_cases h <;> rfl
  rw [eq, es]
  unfold stored
  dsimp only
  rw [trips2, st_k0_t2_zero, st_eq (q := qh x0) (hq := by funext h; fin_cases h <;> rfl) (hn := le_refl _), trips1]
  rfl

end Cert.KernelIdeal.Attn

end
-- ==== Proof.Flash.lean ====
/-
  The online softmax over the extended reals, one row at a time. A row's state after some blocks is `(m, l, a)` with
  `m` a real `μ`, `l = 2^(-μ) · Σ w` and `a = 2^(-μ) · Σ w · v`, the weights `w = 2^s` of the scores seen so far (a masked
  score `-∞` weighs nothing). A further block keeps this, and the quotient `a / l` no longer depends on `μ`.
-/
module

public import Idealize.ShloMosaic.PureOps.Ideal
public import Idealize.ShloMosaic.PureOps.Ideal.Laws

@[expose] public section

noncomputable section

namespace Cert.Attn

open Idealize.ShloMosaic

/-- A score's weight: two to its power, nothing for a masked one. -/
def wt (s : EReal) : ℝ := (Ideal.exp2 s).toReal

@[simp] theorem wt_bot : wt ⊥ = 0 := by simp [wt]
@[simp] theorem wt_coe (x : ℝ) : wt (x : EReal) = (2 : ℝ) ^ x := by
  show ((Ideal.exp2 (x : EReal))).toReal = _
  rw [Ideal.exp2_coe]; rfl

theorem wt_nonneg (s : EReal) (h : s ≠ ⊤) : 0 ≤ wt s := by
  induction s with
  | bot => simp
  | top => exact absurd rfl h
  | coe x => rw [wt_coe]; positivity

/-- A score less a real maximum: its weight, scaled. -/
theorem exp2_sub (s : EReal) (h : s ≠ ⊤) (μ : ℝ) : Ideal.exp2 (s - (μ : EReal)) = (((2 : ℝ) ^ (-μ) * wt s : ℝ) : EReal) := by
  induction s with
  | bot => simp
  | top => exact absurd rfl h
  | coe x =>
    rw [← EReal.coe_sub, Ideal.exp2_coe, wt_coe]
    congr 1
    show (2 : ℝ) ^ (x - μ) = _
    rw [Real.rpow_sub (by norm_num), Real.rpow_neg (by norm_num)]
    field_simp

/-- The same for the natural exponential. -/
theorem exp_sub (s : EReal) (h : s ≠ ⊤) (μ : ℝ) : Ideal.exp (s - (μ : EReal)) = ((Real.exp (-μ) * (Ideal.exp s).toReal : ℝ) : EReal) := by
  induction s with
  | bot => simp
  | top => exact absurd rfl h
  | coe x =>
    rw [← EReal.coe_sub, Ideal.exp_coe, Ideal.exp_coe, EReal.toReal_coe, sub_eq_add_neg, Real.exp_add, mul_comm]

/-- A nonnegative real factor goes into a sum of extended reals. -/
theorem coe_mul_add (c : ℝ) (hc : 0 ≤ c) (a b : EReal) : (c : EReal) * (a + b) = c * a + c * b :=
  EReal.left_distrib_of_nonneg_of_ne_top (by exact_mod_cast hc) (EReal.coe_ne_top c) a b

/-- A nonnegative real factor goes into a finite sum of extended reals. -/
theorem coe_mul_sum {ι : Type*} (t : Finset ι) (c : ℝ) (hc : 0 ≤ c) (f : ι → EReal) :
    (c : EReal) * ∑ j ∈ t, f j = ∑ j ∈ t, (c : EReal) * f j := by
  classical
  induction t using Finset.induction_on with
  | empty => simp
  | insert a t ha ih => rw [Finset.sum_insert ha, Finset.sum_insert ha, coe_mul_add c hc, ih]

/-- A finite sum of reals is a real. -/
theorem coe_sum {ι : Type*} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- The greatest of scores none of which is `+∞`, over a start that is not, is not `+∞`. -/
theorem fold_ne_top {ι : Type*} (t : Finset ι) (f : ι → EReal) (hf : ∀ j, f j ≠ ⊤) :
    t.fold max ⊥ f ≠ ⊤ := by
  classical
  induction t using Finset.induction_on with
  | empty => simp
  | insert a t ha ih =>
    rw [Finset.fold_insert ha]
    intro h
    rcases max_choice (f a) (t.fold max ⊥ f) with e | e
    · exact hf a (e ▸ h)
    · exact ih (e ▸ h)

/-- With one score above `-∞` the greatest is above it. -/
theorem fold_ne_bot {ι : Type*} (t : Finset ι) (f : ι → EReal) (j : ι) (hj : j ∈ t) (hf : f j ≠ ⊥) :
    t.fold max ⊥ f ≠ ⊥ := by
  classical
  intro h
  have : f j ≤ t.fold max ⊥ f := by
    rw [Finset.le_fold_max]; exact Or.inr ⟨j, hj, le_refl _⟩
  rw [h, le_bot_iff] at this
  exact hf this

/-- A row's state stands for the weights `L` and the weighted values `A`. -/
def Row {D : Type*} (m l : EReal) (a : D → EReal) (L : ℝ) (A : D → EReal) : Prop :=
  ∃ μ : ℝ, m = μ ∧ l = (((2 : ℝ) ^ (-μ) * L : ℝ) : EReal) ∧ ∀ d, a d = (((2 : ℝ) ^ (-μ) : ℝ) : EReal) * A d

/-- The weighted values of one block less a real maximum. -/
theorem sum_weighted {ι : Type*} (t : Finset ι) (σ v : ι → EReal) (hσ : ∀ j, σ j ≠ ⊤) (μ : ℝ) :
    ∑ j ∈ t, Ideal.exp2 (σ j - (μ : EReal)) * v j = (((2 : ℝ) ^ (-μ) : ℝ) : EReal) * ∑ j ∈ t, (wt (σ j) : EReal) * v j := by
  rw [coe_mul_sum _ _ (by positivity)]
  refine Finset.sum_congr rfl fun j _ => ?_
  rw [exp2_sub _ (hσ j), EReal.coe_mul, mul_assoc]

/-- The weights of one block less a real maximum. -/
theorem sum_weights {ι : Type*} (t : Finset ι) (σ : ι → EReal) (hσ : ∀ j, σ j ≠ ⊤) (μ : ℝ) :
    ∑ j ∈ t, Ideal.exp2 (σ j - (μ : EReal)) = (((2 : ℝ) ^ (-μ) * ∑ j ∈ t, wt (σ j) : ℝ) : EReal) := by
  rw [Finset.mul_sum, coe_sum]
  exact Finset.sum_congr rfl fun j _ => exp2_sub _ (hσ j) μ

/-- The first block leaves its own weights and weighted values. -/
theorem row_init {ι D : Type*} [Fintype ι] (σ : ι → EReal) (v : D → ι → EReal) (hσ : ∀ j, σ j ≠ ⊤) (j0 : ι) (h0 : σ j0 ≠ ⊥) :
    Row (Finset.univ.fold max ⊥ σ) (∑ j, Ideal.exp2 (σ j - Finset.univ.fold max ⊥ σ))
      (fun d => ∑ j, Ideal.exp2 (σ j - Finset.univ.fold max ⊥ σ) * v d j)
      (∑ j, wt (σ j)) (fun d => ∑ j, (wt (σ j) : EReal) * v d j) := by
  obtain ⟨μ, hμ⟩ : ∃ μ : ℝ, Finset.univ.fold max ⊥ σ = (μ : EReal) :=
    ⟨_, (EReal.coe_toReal (fold_ne_top _ _ hσ) (fold_ne_bot _ _ j0 (Finset.mem_univ _) h0)).symm⟩
  rw [hμ]
  exact ⟨μ, rfl, sum_weights _ _ hσ μ, fun d => sum_weighted _ _ _ hσ μ⟩

/-- A further block adds its weights and weighted values. -/
theorem row_step {ι D : Type*} [Fintype ι] (σ : ι → EReal) (v : D → ι → EReal) (hσ : ∀ j, σ j ≠ ⊤)
    {m l : EReal} {a : D → EReal} {L : ℝ} {A : D → EReal} (h : Row m l a L A) :
    Row (max m (Finset.univ.fold max ⊥ σ))
      (Ideal.exp2 (m - max m (Finset.univ.fold max ⊥ σ)) * l + ∑ j, Ideal.exp2 (σ j - max m (Finset.univ.fold max ⊥ σ)))
      (fun d => Ideal.exp2 (m - max m (Finset.univ.fold max ⊥ σ)) * a d + ∑ j, Ideal.exp2 (σ j - max m (Finset.univ.fold max ⊥ σ)) * v d j)
      (L + ∑ j, wt (σ j)) (fun d => A d + ∑ j, (wt (σ j) : EReal) * v d j) := by
  obtain ⟨ν, rfl, rfl, ha⟩ := h
  obtain ⟨μ, hμ⟩ : ∃ μ : ℝ, max (ν : EReal) (Finset.univ.fold max ⊥ σ) = (μ : EReal) := by
    refine ⟨_, (EReal.coe_toReal ?_ ?_).symm⟩
    · intro h
      rcases max_choice (ν : EReal) (Finset.univ.fold max ⊥ σ) with e | e
      · exact EReal.coe_ne_top ν (e ▸ h)
      · exact fold_ne_top _ _ hσ (e ▸ h)
    · intro h
      have := le_max_left (ν : EReal) (Finset.univ.fold max ⊥ σ)
      rw [h, le_bot_iff] at this
      exact EReal.coe_ne_bot ν this
  rw [hμ]
  have hp : (2 : ℝ) ^ (-μ) * (2 : ℝ) ^ ν * (2 : ℝ) ^ (-ν) = (2 : ℝ) ^ (-μ) := by
    rw [mul_assoc, ← Real.rpow_add (by norm_num)]; simp
  refine ⟨μ, rfl, ?_, fun d => ?_⟩
  · rw [sum_weights _ _ hσ μ, exp2_sub _ (EReal.coe_ne_top ν), wt_coe, ← EReal.coe_mul, ← EReal.coe_add, ← mul_assoc, hp,
      mul_add]
  · show _ * a d + _ = _
    rw [sum_weighted _ _ _ hσ μ, exp2_sub _ (EReal.coe_ne_top ν), wt_coe, ha d, ← mul_assoc, ← EReal.coe_mul, hp,
      coe_mul_add _ (by positivity)]

/-- The quotient is the weighted mean, whatever the maximum. -/
theorem row_div {D : Type*} {m l : EReal} {a : D → EReal} {L : ℝ} {A : D → EReal} (h : Row m l a L A) (hL : 0 < L) (d : D) :
    Ideal.div (a d) l = A d * ((1 / L : ℝ) : EReal) := by
  obtain ⟨μ, rfl, rfl, ha⟩ := h
  have hp : (0 : ℝ) < (2 : ℝ) ^ (-μ) := by positivity
  rw [Ideal.div_coe (by positivity), ha d, mul_comm ((((2 : ℝ) ^ (-μ) : ℝ)) : EReal), mul_assoc, ← EReal.coe_mul]
  congr 2
  field_simp

end Cert.Attn

end
-- ==== Proof.Rows.lean ====
/-
  The kernel's per-head operations read at one row, over the extended reals: the scores, the diagonal block and a further
  block as the online softmax's row operations, and the pair of quotients stored.
-/
module

public import proofs.«01_k».proof.Proof.Blocks
public import proofs.«01_k».proof.Proof.Flash
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem Cert.Attn

/-- The scaling constant's value. -/
def qs : ℝ := (Real.sqrt 96)⁻¹ * (Real.log 2)⁻¹

theorem named_qs : Named.named (F := Ideal) κ "qscale" (φ := .f32) 0x3E16C740#32 = ((qs : ℝ) : EReal) :=
  IdealRules.named_const.ideal_named_scalar _ _ _ _ rfl

theorem named_mask : Named.named (F := Ideal) κ "mask" (φ := .f32) 0xFF7F0000#32 = (⊥ : EReal) :=
  IdealRules.named_const.ideal_named_scalar _ _ _ _ rfl

/-- The bit pattern of `-∞`. -/
theorem bits_bot : Ideal.ofBits .f32 0xFF800000#32 = ⊥ := by
  simp [Ideal.ofBits, Ideal.ieee, -EReal.coe_mul]

/-- A row's score at one key. -/
def sc (q : FVec Ideal S512x128 .bf16) (kb : Vec Ideal S1x1x512x128 .bf16) (r j : Fin 512) : EReal :=
  ∑ c : Fin 128, q (ix2 r c) * kb (ix4 0 0 j c)

/-- The same with the causal mask of the diagonal block. -/
def scm (q : FVec Ideal S512x128 .bf16) (kb : Vec Ideal S1x1x512x128 .bf16) (r j : Fin 512) : EReal :=
  if j.val ≤ r.val then sc q kb r j else ⊥

theorem pay3_apply (q : FVec Ideal S512x128 .bf16) (kb : Vec Ideal S1x1x512x128 .bf16) (r j : Fin 512) :
    k0_pay3 q kb (ix2 r j) = sc q kb r j := by
  unfold sc
  pointwise [k0_pay3]

theorem pay4_apply (q : FVec Ideal S512x128 .bf16) (m : FVec Ideal S512x1 .f32) (kb : Vec Ideal S1x1x512x128 .bf16) (r : Fin 512) :
    k0_pay4 q m kb (ix2 r 0) = max (m (ix2 r 0)) (Finset.univ.fold max ⊥ (sc q kb r)) := by
  rw [← bits_bot]
  simp only [← pay3_apply, ← funext (pay3_apply q kb r)]
  unfold k0_pay4
  generalize k0_pay3 q kb = s
  pointwise

/-- A signed comparison of two small naturals, as a choice. -/
theorem select_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  rw [Idealize.ShloMosaic.WordCmp.cmpi_sle_ofNat (w := 32) ha hb]
  by_cases h : a ≤ b <;> simp [h, Scalar.select]

theorem select_slt {α : Type} (a b : ℕ) (ha : a < 2 ^ 31) (hb : b < 2 ^ 31) (x y : α) :
    Scalar.select (IntOp.cmpi .slt (BitVec.ofNat 32 a) (BitVec.ofNat 32 b)) x y = if a < b then x else y := by
  rw [Idealize.ShloMosaic.WordCmp.cmpi_slt_ofNat (w := 32) ha hb]
  by_cases h : a < b <;> simp [h, Scalar.select]

theorem pay118_apply (q : FVec Ideal S512x128 .bf16) (kb : Vec Ideal S1x1x512x128 .bf16) (r j : Fin 512) :
    k0_pay118 q kb (ix2 r j) = scm q kb r j := by
  unfold scm sc
  pointwise [k0_pay118, named_mask]
  exact select_sle j.val r.val (by omega) (by omega) _ _

theorem pay119_apply (q : FVec Ideal S512x128 .bf16) (kb : Vec Ideal S1x1x512x128 .bf16) (r : Fin 512) :
    k0_pay119 q kb (ix2 r 0) = Finset.univ.fold max ⊥ (scm q kb r) := by
  rw [← bits_bot]
  simp only [← funext (pay118_apply q kb r)]
  unfold k0_pay119
  generalize k0_pay118 q kb = s
  pointwise

theorem pay120_apply (q : FVec Ideal S512x128 .bf16) (kb : Vec Ideal S1x1x512x128 .bf16) (r j : Fin 512) :
    k0_pay120 q kb (ix2 r j) = Ideal.exp2 (scm q kb r j - Finset.univ.fold max ⊥ (scm q kb r)) := by
  rw [← pay119_apply, ← pay118_apply]
  unfold k0_pay120
  generalize k0_pay118 q kb = s
  generalize k0_pay119 q kb = m
  pointwise
  rfl

theorem pay121_apply (p : FVec Ideal S512x512 .f32) (r : Fin 512) :
    k0_pay121 p (ix2 r 0) = ∑ j : Fin 512, p (ix2 r j) := by
  pointwise [k0_pay121]

theorem pay122_apply (vb : Vec Ideal S1x1x512x128 .bf16) (p : FVec Ideal S512x512 .f32) (r : Fin 512) (d : Fin 128) :
    k0_pay122 (k0_pay117 vb) p (ix2 r d) = ∑ j : Fin 512, p (ix2 r j) * vb (ix4 0 0 j d) := by
  pointwise [k0_pay122, k0_pay117]

theorem pay5_apply (q : FVec Ideal S512x128 .bf16) (m : FVec Ideal S512x1 .f32) (kb : Vec Ideal S1x1x512x128 .bf16) (r : Fin 512) :
    k0_pay5 q m kb (ix2 r 0) = Ideal.exp2 (m (ix2 r 0) - max (m (ix2 r 0)) (Finset.univ.fold max ⊥ (sc q kb r))) := by
  rw [← pay4_apply]
  unfold k0_pay5
  generalize k0_pay4 q m kb = s
  pointwise
  rfl

theorem pay6_apply (q : FVec Ideal S512x128 .bf16) (m : FVec Ideal S512x1 .f32) (kb : Vec Ideal S1x1x512x128 .bf16) (r j : Fin 512) :
    k0_pay6 q m kb (ix2 r j) = Ideal.exp2 (sc q kb r j - max (m (ix2 r 0)) (Finset.univ.fold max ⊥ (sc q kb r))) := by
  rw [← pay4_apply, ← pay3_apply]
  unfold k0_pay6
  generalize k0_pay4 q m kb = s
  generalize k0_pay3 q kb = t
  pointwise
  rfl

theorem pay7_apply (q : FVec Ideal S512x128 .bf16) (m l : FVec Ideal S512x1 .f32) (kb : Vec Ideal S1x1x512x128 .bf16) (r : Fin 512) :
    k0_pay7 q m l kb (ix2 r 0) = k0_pay5 q m kb (ix2 r 0) * l (ix2 r 0) + ∑ j : Fin 512, k0_pay6 q m kb (ix2 r j) := by
  unfold k0_pay7
  generalize k0_pay5 q m kb = s
  generalize k0_pay6 q m kb = t
  pointwise

theorem pay8_apply (q : FVec Ideal S512x128 .bf16) (m : FVec Ideal S512x1 .f32) (a : FVec Ideal S512x128 .f32)
    (kb vb : Vec Ideal S1x1x512x128 .bf16) (r : Fin 512) (d : Fin 128) :
    k0_pay8 q m a kb vb (ix2 r d)
      = k0_pay5 q m kb (ix2 r 0) * a (ix2 r d) + ∑ j : Fin 512, k0_pay6 q m kb (ix2 r j) * vb (ix4 0 0 j d) := by
  unfold k0_pay8
  generalize k0_pay5 q m kb = s
  generalize k0_pay6 q m kb = t
  pointwise

theorem pay166_apply (le lo : FVec Ideal S512x1 .f32) (ae ao : FVec Ideal S512x128 .f32) (r : Fin 512) (d : Fin 128) :
    k0_pay166 le ae lo ao (ix3 0 r d)
      = if d.val < 64 then Ideal.div (ae (ix2 r d)) (le (ix2 r 0)) else Ideal.div (ao (ix2 r d)) (lo (ix2 r 0)) := by
  pointwise [k0_pay166]
  exact select_slt d.val 64 (by omega) (by omega) _ _

/-- A scaled query at an element. -/
theorem pay109_apply (x : Vec Ideal S1x1x512x128 .bf16) (r : Fin 512) (c : Fin 128) :
    k0_pay109 x (ix2 r c) = x (ix4 0 0 r c) * ((qs : ℝ) : EReal) := by
  pointwise [k0_pay109, named_qs]

/-- A head's state stands, row by row, for weights and weighted values. -/
def StRow (s : HS Ideal) (r : Fin 512) (L : ℝ) (A : Fin 128 → EReal) : Prop :=
  Row (s.1 (ix2 r 0)) (s.2.1 (ix2 r 0)) (fun d => s.2.2 (ix2 r d)) L A

/-- The diagonal block leaves its masked weights. -/
theorem stRow_init (q : FVec Ideal S512x128 .bf16) (kb vb : Vec Ideal S1x1x512x128 .bf16) (r : Fin 512)
    (hs : ∀ j, sc q kb r j ≠ ⊤) (h0 : sc q kb r 0 ≠ ⊥) :
    StRow (initH q kb vb) r (∑ j, wt (scm q kb r j)) (fun d => ∑ j, (wt (scm q kb r j) : EReal) * vb (ix4 0 0 j d)) := by
  have h := row_init (scm q kb r) (fun d j => vb (ix4 0 0 j d))
    (fun j => by unfold scm; split <;> [exact hs j; exact bot_ne_top]) (0 : Fin 512) (by simpa [scm] using h0)
  unfold StRow initH
  dsimp only
  rw [pay119_apply, pay121_apply]
  simp only [pay122_apply, pay120_apply]
  exact h

/-- A further block adds its weights. -/
theorem stRow_step (q : FVec Ideal S512x128 .bf16) (kb vb : Vec Ideal S1x1x512x128 .bf16) (r : Fin 512) (s : HS Ideal)
    (hs : ∀ j, sc q kb r j ≠ ⊤) {L : ℝ} {A : Fin 128 → EReal} (h : StRow s r L A) :
    StRow (stepH q kb vb s) r (L + ∑ j, wt (sc q kb r j)) (fun d => A d + ∑ j, (wt (sc q kb r j) : EReal) * vb (ix4 0 0 j d)) := by
  have h := row_step (sc q kb r) (fun d j => vb (ix4 0 0 j d)) hs h
  unfold StRow stepH
  dsimp only
  rw [pay4_apply, pay7_apply]
  simp only [pay8_apply, pay5_apply, pay6_apply]
  exact h

/-- After the diagonal block `d` and `n` blocks before it: the sums of their weights. -/
theorem stRow_hst (q : FVec Ideal S512x128 .bf16) (kb vb : ℕ → Vec Ideal S1x1x512x128 .bf16) (d : ℕ) (r : Fin 512)
    (hs : ∀ n j, sc q (kb n) r j ≠ ⊤) (h0 : sc q (kb d) r 0 ≠ ⊥) (n : ℕ) :
    StRow (hst q kb vb d n) r (∑ j, wt (scm q (kb d) r j) + ∑ i ∈ Finset.range n, ∑ j, wt (sc q (kb i) r j))
      (fun e => ∑ j, (wt (scm q (kb d) r j) : EReal) * vb d (ix4 0 0 j e)
        + ∑ i ∈ Finset.range n, ∑ j, (wt (sc q (kb i) r j) : EReal) * vb i (ix4 0 0 j e)) := by
  induction n with
  | zero => simpa [hst] using stRow_init q (kb d) (vb d) r (hs d) h0
  | succ n ih =>
    have h := stRow_step q (kb n) (vb n) r _ (hs n) ih
    simp only [Finset.sum_range_succ, ← add_assoc]
    exact h

end Cert.KernelIdeal.Attn

end
-- ==== Proof.Spec.lean ====
/-
  The attention as one function of the three arguments: for each query row the causal weights `2^s` of its scaled
  scores, and the weighted mean of the values.
-/
module

public import proofs.«01_k».proof.Proof.Rows

@[expose] public section

noncomputable section

namespace Cert.Attn

open Idealize.ShloMosaic Cert.KernelIdeal Cert.KernelIdeal.Attn

/-- The scaled score of query row `r` at key `j`. -/
def scG (Q K : FVec Ideal S16x8x2048x128 .bf16) (b : Fin 16) (h : Fin 8) (r j : Fin 2048) : EReal :=
  ∑ c : Fin 128, Q (ix4 b h r c) * ((qs : ℝ) : EReal) * K (ix4 b h j c)

/-- Its causal weight. -/
def wG (Q K : FVec Ideal S16x8x2048x128 .bf16) (b : Fin 16) (h : Fin 8) (r j : Fin 2048) : ℝ :=
  if j.val ≤ r.val then wt (scG Q K b h r j) else 0

/-- The weighted mean of lane `d` of the head's pair of values. -/
def meanG (Q K : FVec Ideal S16x8x2048x128 .bf16) (V : FVec Ideal S16x4x2048x128 .bf16) (b : Fin 16) (h : Fin 8) (r : Fin 2048) (d : Fin 128) : EReal :=
  (∑ j : Fin 2048, (wG Q K b h r j : EReal) * V (ix4 b (pr h) j d)) * ((1 / ∑ j : Fin 2048, wG Q K b h r j : ℝ) : EReal)

/-- The head a result column belongs to. -/
def hd (l : Fin 512) : Fin 8 := ⟨l.val / 64, by omega⟩

/-- The lane of the pair's values a result column reads. -/
def ln (l : Fin 512) : Fin 128 := ⟨l.val % 128, by omega⟩

/-- The attention's result. -/
def G (Q K : FVec Ideal S16x8x2048x128 .bf16) (V : FVec Ideal S16x4x2048x128 .bf16) : FVec Ideal S16x2048x512 .bf16 :=
  fun y => meanG Q K V (y 0) (hd (y 2)) (y 1) (ln (y 2))

end Cert.Attn

end
-- ==== Proof.HeadValue.lean ====
/-
  A head's final quotient at one row is the attention's weighted mean: the diagonal block and the blocks before it
  carry every key the causal mask keeps, and the keys after them weigh nothing.
-/
module

public import proofs.«01_k».proof.Proof.Spec

@[expose] public section

set_option maxRecDepth 16384

noncomputable section

namespace Cert.Attn

open Cert.KernelIdeal Cert.KernelIdeal.Gen Cert.KernelIdeal.Attn Idealize.ShloMosaic Idealize.ShloMosaic.TcCoe Idealize.SL.Sem

/-- The key at place `j` of block `n`. -/
def key (n : ℕ) (j : Fin 512) : Fin 2048 := ⟨(512 * n + j.val) % 2048, Nat.mod_lt _ (by decide)⟩

theorem key_val (n : ℕ) (hn : n < 4) (j : Fin 512) : (key n j).val = 512 * n + j.val := by
  have := j.isLt
  exact Nat.mod_eq_of_lt (by omega)

/-- A sum over the keys, block by block. -/
theorem sum_keys {M : Type*} [AddCommMonoid M] (f : Fin 2048 → M) :
    ∑ J, f J = ∑ n ∈ Finset.range 4, ∑ j : Fin 512, f (key n j) := by
  rw [Finset.sum_range, ← Fintype.sum_prod_type' (f := fun (n : Fin 4) (j : Fin 512) => f (key n.val j))]
  refine (Fintype.sum_equiv (finProdFinEquiv (m := 4) (n := 512)) _ _ fun x => ?_).symm
  refine congrArg f (Fin.ext ?_)
  rw [key_val _ x.1.isLt]
  show _ = x.2.val + 512 * x.1.val
  omega

/-- With nothing after block `d`: the sum is block `d` and the blocks before it. -/
theorem sum_upto {M : Type*} [AddCommMonoid M] (g : ℕ → M) (d : ℕ) (hd : d < 4) (h0 : ∀ n, d < n → n < 4 → g n = 0) :
    ∑ n ∈ Finset.range 4, g n = g d + ∑ n ∈ Finset.range d, g n := by
  rw [add_comm, ← Finset.sum_range_succ]
  refine (Finset.sum_subset (fun n hn => ?_) fun n hn hn' => h0 n ?_ ?_).symm <;> simp only [Finset.mem_range] at * <;> omega

/-- Every element is finite. -/
def Finite (X : FVec Ideal S16x8x2048x128 .bf16) : Prop := ∀ i, X i ≠ ⊤ ∧ X i ≠ ⊥

/-- A product of finite arguments' sums is a real. -/
theorem scG_real (Q K : FVec Ideal S16x8x2048x128 .bf16) (hQ : Finite Q) (hK : Finite K)
    (b : Fin 16) (h : Fin 8) (r j : Fin 2048) :
    scG Q K b h r j = ((∑ c : Fin 128, (Q (ix4 b h r c)).toReal * qs * (K (ix4 b h j c)).toReal : ℝ) : EReal) := by
  rw [coe_sum]
  refine Finset.sum_congr rfl fun c _ => ?_
  rw [EReal.coe_mul, EReal.coe_mul, EReal.coe_toReal (hQ _).1 (hQ _).2, EReal.coe_toReal (hK _).1 (hK _).2]

variable (Q K : FVec Ideal S16x8x2048x128 .bf16) (V : FVec Ideal S16x4x2048x128 .bf16)
  (hQ : Finite Q) (hK : Finite K)

include hQ hK in
/-- The weights are nonnegative. -/
theorem wG_nonneg (b : Fin 16) (h : Fin 8) (r j : Fin 2048) : 0 ≤ wG Q K b h r j := by
  unfold wG
  split
  · rw [scG_real Q K hQ hK, wt_coe]; positivity
  · exact le_refl _

include hQ hK in
/-- Their sum is positive: the first key always counts. -/
theorem wG_sum_pos (b : Fin 16) (h : Fin 8) (r : Fin 2048) : 0 < ∑ j, wG Q K b h r j := by
  refine Finset.sum_pos' (fun j _ => wG_nonneg Q K hQ hK b h r j) ⟨0, Finset.mem_univ _, ?_⟩
  unfold wG
  rw [if_pos (show (0 : Fin 2048).val ≤ r.val from Nat.zero_le _), scG_real Q K hQ hK, wt_coe]
  positivity

/-- The query row at place `r` of tile `d`. -/
def row (d : Fin 4) (r : Fin 512) : Fin 2048 := ⟨512 * d.val + r.val, by omega⟩

include hQ hK in
/-- A head's final quotient. -/
theorem fin_div (i : grid0.Coords) (b : Fin 16) (d : Fin 4) (hd : (i 2).val = d.val)
    (x0 : Vec Ideal S1x8x512x128 .bf16) (x1 : Vec Ideal S1x8x2048x128 .bf16) (x2 : Vec Ideal S1x4x2048x128 .bf16)
    (h0 : ∀ h r c, x0 (ix4 0 h r c) = Q (ix4 b h (row d r) c))
    (h1 : ∀ h j c, x1 (ix4 0 h j c) = K (ix4 b h j c))
    (h2 : ∀ p j c, x2 (ix4 0 p j c) = V (ix4 b p j c)) (h : Fin 8) (r : Fin 512) (e : Fin 128) :
    Ideal.div ((fin i x0 x1 x2 h).2.2 (ix2 r e)) ((fin i x0 x1 x2 h).2.1 (ix2 r 0)) = meanG Q K V b h (row d r) e := by
  have hsc : ∀ n j, sc (qh x0 h) (kblk x1 h n) r j = scG Q K b h (row d r) (key n j) := fun n j => by
    unfold sc scG
    refine Finset.sum_congr rfl fun c _ => ?_
    unfold qh
    rw [pay109_apply, ← h0, ← h1]
    rfl
  have hreal : ∀ n j, sc (qh x0 h) (kblk x1 h n) r j ≠ ⊤ ∧ sc (qh x0 h) (kblk x1 h n) r j ≠ ⊥ := fun n j => by
    rw [hsc, scG_real Q K hQ hK]
    exact ⟨EReal.coe_ne_top _, EReal.coe_ne_bot _⟩
  have hrow := stRow_hst (qh x0 h) (kblk x1 h) (vblk x2 (pr h)) d.val r (fun n j => (hreal n j).1) (hreal d.val 0).2 d.val
  have hwd : ∀ j, wt (scm (qh x0 h) (kblk x1 h d.val) r j) = wG Q K b h (row d r) (key d.val j) := fun j => by
    unfold scm wG
    rw [hsc, key_val _ d.isLt]
    show wt (if j.val ≤ r.val then _ else _) = if 512 * d.val + j.val ≤ 512 * d.val + r.val then _ else _
    by_cases hj : j.val ≤ r.val
    · rw [if_pos hj, if_pos (by omega)]
    · rw [if_neg hj, if_neg (by omega), wt_bot]
  have hwn : ∀ n, n < d.val → ∀ j, wt (sc (qh x0 h) (kblk x1 h n) r j) = wG Q K b h (row d r) (key n j) := fun n hn j => by
    unfold wG
    have := j.isLt
    have := d.isLt
    rw [hsc, if_pos]
    rw [key_val _ (by omega)]
    show 512 * n + j.val ≤ 512 * d.val + r.val
    omega
  have hwz : ∀ n, d.val < n → n < 4 → ∀ j, wG Q K b h (row d r) (key n j) = 0 := fun n hn hn4 j => by
    unfold wG
    have := r.isLt
    rw [if_neg]
    rw [key_val _ hn4]
    show ¬ 512 * n + j.val ≤ 512 * d.val + r.val
    omega
  have hv : ∀ n j, vblk x2 (pr h) n (ix4 0 0 j e) = V (ix4 b (pr h) (key n j) e) := fun n j => by
    rw [← h2]; rfl
  have hL : (∑ j, wt (scm (qh x0 h) (kblk x1 h d.val) r j) + ∑ n ∈ Finset.range d.val, ∑ j, wt (sc (qh x0 h) (kblk x1 h n) r j))
      = ∑ j, wG Q K b h (row d r) j := by
    rw [sum_keys, sum_upto _ d.val d.isLt fun n hn hn4 => Finset.sum_eq_zero fun j _ => hwz n hn hn4 j]
    congr 1
    · exact Finset.sum_congr rfl fun j _ => hwd j
    · exact Finset.sum_congr rfl fun n hn => Finset.sum_congr rfl fun j _ => hwn n (Finset.mem_range.1 hn) j
  have hA : (∑ j, (wt (scm (qh x0 h) (kblk x1 h d.val) r j) : EReal) * vblk x2 (pr h) d.val (ix4 0 0 j e)
        + ∑ n ∈ Finset.range d.val, ∑ j, (wt (sc (qh x0 h) (kblk x1 h n) r j) : EReal) * vblk x2 (pr h) n (ix4 0 0 j e))
      = ∑ j, (wG Q K b h (row d r) j : EReal) * V (ix4 b (pr h) j e) := by
    rw [sum_keys, sum_upto _ d.val d.isLt fun n hn hn4 => Finset.sum_eq_zero fun j _ => by rw [hwz n hn hn4 j]; simp]
    congr 1
    · exact Finset.sum_congr rfl fun j _ => by rw [hwd, hv]
    · exact Finset.sum_congr rfl fun n hn => Finset.sum_congr rfl fun j _ => by rw [hwn n (Finset.mem_range.1 hn), hv]
  have hpos := wG_sum_pos Q K hQ hK b h (row d r)
  unfold fin
  rw [hd]
  unfold meanG
  rw [← hL, ← hA]
  rw [← hL] at hpos
  exact row_div hrow hpos e

end Cert.Attn

end
-- ==== Proof.KernelValue.lean ====
/-
  The kernel's result array is the attention of its three arguments: every block of 512 rows and 512 columns is what the
  block's grid point stores, and each column group of it is the quotients of two heads.
-/
module

public import proofs.«01_k».proof.Proof.HeadValue
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe Idealize.SL.Sem Cert.Attn
open Idealize.ShloMosaic.Pipeline (Dat)

variable (m : (ℓ : Loc nD τ sig) → Buf (Elt Ideal) ℓ)

theorem e0 : ∀ t : Fin cfg0.N, win0_0.index t = ![(grid0.coords t 0).val, 0, (grid0.coords t 2).val, 0] := by decide +kernel
theorem e1 : ∀ t : Fin cfg0.N, win0_1.index t = ![(grid0.coords t 0).val, 0, 0, 0] := by decide +kernel
theorem e2 : ∀ t : Fin cfg0.N, win0_2.index t = ![(grid0.coords t 0).val, 0, 0, 0] := by decide +kernel
theorem e3 : ∀ t : Fin cfg0.N, win0_3.index t = ![(grid0.coords t 0).val, (grid0.coords t 2).val, 0] := by decide +kernel

/-- The queries a grid point reads. -/
theorem blk0 (c : Dev nD) (t : Fin cfg0.N) (h : Fin 8) (r : Fin 512) (l : Fin 128) :
    iblk m c 0 t (ix4 0 h r l) = V m c main_arg0 (ix4 (grid0.coords t 0) h (row (grid0.coords t 2) r) l) := by
  unfold row
  blk_ext [iblk, V, e0 t]

/-- The keys a grid point reads. -/
theorem blk1 (c : Dev nD) (t : Fin cfg0.N) (h : Fin 8) (j : Fin 2048) (l : Fin 128) :
    iblk m c 1 t (ix4 0 h j l) = V m c main_arg1 (ix4 (grid0.coords t 0) h j l) := by
  blk_ext [iblk, V, e1 t]

/-- The values a grid point reads. -/
theorem blk2 (c : Dev nD) (t : Fin cfg0.N) (p : Fin 4) (j : Fin 2048) (l : Fin 128) :
    iblk m c 2 t (ix4 0 p j l) = V m c main_arg2 (ix4 (grid0.coords t 0) p j l) := by
  blk_ext [iblk, V, e2 t]

/-- Where a grid point's block of the result lies. -/
theorem blk3 (t : Fin cfg0.N) (X : FVec Ideal S16x2048x512 .bf16) (r l : Fin 512) (y : ((cfg0.win 3).xblock (cfg0.grid.coords t)).Idx)
    (h1 : (y 1).val = r.val) (h2 : (y 2).val = l.val) :
    X ((win0_3.blk t).view.emb y) = X (ix3 (grid0.coords t 0) (row (grid0.coords t 2) r) l) := by
  have h0 : (y 0).val < 1 := (y 0).isLt
  unfold row
  blk_ext [e3 t]

/-- A column group of a grid point's block: the quotients of the pair of heads `2 p` and `2 p + 1`. -/
theorem tile (c : Dev nD) (hQ : Finite (V m c main_arg0)) (hK : Finite (V m c main_arg1)) (t : Fin cfg0.N) (p : Fin 4) (e o : Fin 8)
    (he : e.val = 2 * p.val) (ho : o.val = 2 * p.val + 1) (x : S1x512x128.Idx) (y : ((cfg0.win 3).xblock (cfg0.grid.coords t)).Idx)
    (h1 : (y 1).val = (x 1).val) (h2 : (y 2).val = 128 * p.val + (x 2).val) :
    outP (fin (grid0.coords t) (iblk m c 0 t) (iblk m c 1 t) (iblk m c 2 t) e)
        (fin (grid0.coords t) (iblk m c 0 t) (iblk m c 1 t) (iblk m c 2 t) o) x
      = G (V m c main_arg0) (V m c main_arg1) (V m c main_arg2) ((win0_3.blk t).view.emb y) := by
  have hx0 : x 0 = (0 : Fin 1) := Subsingleton.elim (α := Fin 1) _ _
  obtain ⟨r, hr⟩ : ∃ r : Fin 512, r = x 1 := ⟨_, rfl⟩
  obtain ⟨d, hd'⟩ : ∃ d : Fin 128, d = x 2 := ⟨_, rfl⟩
  have hx : x = ix3 0 r d := by
    rw [eq_ix3 x, hr, hd']
    exact congrArg (fun z => ix3 z (x 1) (x 2)) hx0
  rw [← hr] at h1
  rw [← hd'] at h2
  have hd2 := d.isLt
  have hlt : 128 * p.val + d.val < 512 := by omega
  refine Eq.trans ?_ (blk3 t (G (V m c main_arg0) (V m c main_arg1) (V m c main_arg2)) r ⟨128 * p.val + d.val, hlt⟩ y h1 h2).symm
  rw [hx]
  unfold outP
  rw [pay166_apply]
  rw [fin_div _ _ (V m c main_arg2) hQ hK _ (grid0.coords t 0) (grid0.coords t 2) rfl _ _ _ (blk0 m c t) (blk1 m c t) (blk2 m c t),
    fin_div _ _ (V m c main_arg2) hQ hK _ (grid0.coords t 0) (grid0.coords t 2) rfl _ _ _ (blk0 m c t) (blk1 m c t) (blk2 m c t)]
  show _ = meanG _ _ _ (grid0.coords t 0) (hd ⟨128 * p.val + d.val, hlt⟩) (row (grid0.coords t 2) r) (ln ⟨128 * p.val + d.val, hlt⟩)
  have hl : ln ⟨128 * p.val + d.val, hlt⟩ = d := Fin.ext (by show (128 * p.val + d.val) % 128 = d.val; omega)
  rw [hl]
  split
  · rw [show hd ⟨128 * p.val + d.val, hlt⟩ = e from Fin.ext (by show (128 * p.val + d.val) / 64 = e.val; omega)]
  · rw [show hd ⟨128 * p.val + d.val, hlt⟩ = o from Fin.ext (by show (128 * p.val + d.val) / 64 = o.val; omega)]

/-- The kernel's result array is the attention. -/
theorem arr (c : Dev nD) (hQ : Finite (V m c main_arg0)) (hK : Finite (V m c main_arg1)) :
    (dats m 0 c).arrAt 3 cfg0.N = G (V m c main_arg0) (V m c main_arg1) (V m c main_arg2) := by
  refine (dats m 0 c).arrAt_eq_of_covers 3 _ (by decide +kernel) fun t hf y => ?_
  blk_simp
  rw [after0_3]
  unfold outsAt0 out0_A_3
  rw [View.read_writes_eq_canon _ _ _ (fun y => cover0_A_3 _ _ _ _ _ _ _ _ _ _ _ _ _ y), pieces]
  canon_tiles x h
  · exact tile m c hQ hK t 3 6 7 rfl rfl x y h1 h2
  · exact tile m c hQ hK t 2 4 5 rfl rfl x y h1 h2
  · exact tile m c hQ hK t 1 2 3 rfl rfl x y h1 h2
  · exact tile m c hQ hK t 0 0 1 rfl rfl x y h1 (by simpa using h2)

end Cert.KernelIdeal.Attn

end
-- ==== Proof.RefValue.lean ====
/-
  The reference's result at an index: the softmax of the causal scaled scores against the values, and that it is the
  attention.
-/
module

public import proofs.«01_k».proof.Proof.HeadValue
public import proofs.«01_k».proof.Proof.Gen.ReferenceIdeal.Run
public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe Idealize.SL.Sem
open Cert.Attn

variable (Q K : FVec Ideal S16x8x2048x128 .bf16) (V : FVec Ideal S16x4x2048x128 .bf16)

theorem bits_96 : Ideal.ofBits .f32 0x42C00000#32 = ((96 : ℝ) : EReal) := by
  simp [Ideal.ofBits, Ideal.ieee, -EReal.coe_mul]
  norm_num

/-- The reference's masked score. -/
def tR (b : Fin 16) (h : Fin 8) (r j : Fin 2048) : EReal :=
  if j.val ≤ r.val then Ideal.div (∑ c : Fin 128, Q (ix4 b h r c) * K (ix4 b h j c)) ((Real.sqrt 96 : ℝ) : EReal) else ⊥

/-- Its stage reads so. -/
theorem v13_apply (b : Fin 16) (h : Fin 8) (r j : Fin 2048) :
    val_main_v13 (F := Ideal) Q K (ix4 b h r j) = tR Q K b h r j := by
  unfold tR
  pointwise [val_main_v13, val_main_v12, val_main_v11, val_main_v10, val_main_v9, val_main_v8, val_main_v7, val_main_v6, val_main_v5, val_main_v4,
    val_main_v3, val_main_v1, val_main_v0, val_main_call0_v0, val_main_call0_v1, val_main_call0_v2, val_main_cst, val_main_cst_0]
  rw [bits_96]
  have h0 : (0 : ℝ) ≤ 96 := by norm_num
  refine (Cert.KernelIdeal.Attn.select_sle j.val r.val (by omega) (by omega) _ _).trans ?_
  refine ite_congr rfl (fun _ => congrArg (Ideal.div _) ?_) (fun _ => Cert.KernelIdeal.Attn.bits_bot)
  show (if (96 : ℝ) < 0 then (⊥ : EReal) else ((Real.sqrt 96 : ℝ) : EReal)) = _
  rw [if_neg (not_lt.mpr h0)]

/-- The greatest of a row, from `−∞`, at any sizes. -/
theorem reduce_max {n0 n1 n2 n3 : ℕ} {u : Shape} (s : FVec Ideal (⟨4, ![n0, n1, n2, n3]⟩ : Shape) .f32) (init : FVec Ideal u .f32)
    (h : (⟨4, ![n0, n1, n2, n3]⟩ : Shape).ReducesTo [3] ⟨3, ![n0, n1, n2]⟩) (hu : 0 < u.numel) (hb : init (Shape.Idx.first hu) = (⊥ : EReal))
    (x : Fin n0) (y : Fin n1) (z : Fin n2) (f : Fin n3 → EReal) (hf : ∀ j, s (ix4 x y z j) = f j) :
    Host.reduce FloatOps.maximumf s init h hu (ix3 x y z) = Finset.univ.fold max (⊥ : EReal) f := by
  obtain rfl : (fun j => s (ix4 x y z j)) = f := funext hf
  rw [← hb]
  pointwise

/-- The reduction's start is `−∞`. -/
theorem start_bot : val_main_cst_1 (F := Ideal) (Shape.Idx.first h_S_) = (⊥ : EReal) :=
  (val_main_cst_1_apply _).trans Cert.KernelIdeal.Attn.bits_bot

/-- The greatest masked score of a row. -/
theorem v14_apply (b : Fin 16) (h : Fin 8) (r : Fin 2048) :
    val_main_v14 (F := Ideal) Q K (ix3 b h r) = Finset.univ.fold max (⊥ : EReal) (tR Q K b h r) := by
  unfold val_main_v14
  exact reduce_max _ _ _ _ start_bot b h r _ (v13_apply Q K b h r)

/-- A second `−∞` changes nothing. -/
theorem v16_apply (b : Fin 16) (h : Fin 8) (r : Fin 2048) :
    val_main_v16 (F := Ideal) Q K (ix3 b h r) = Finset.univ.fold max (⊥ : EReal) (tR Q K b h r) := by
  rw [val_main_v16_apply, v14_apply]
  generalize Finset.univ.fold max (⊥ : EReal) (tR Q K b h r) = z
  have hb : val_main_v15 (F := Ideal) (ix3 b h r) = (⊥ : EReal) :=
    (val_main_v15_apply _).trans ((val_main_cst_2_apply _).trans Cert.KernelIdeal.Attn.bits_bot)
  rw [hb]
  exact max_eq_right bot_le

/-- The exponentials, less the greatest score. -/
theorem v20_apply (b : Fin 16) (h : Fin 8) (r j : Fin 2048) :
    val_main_v20 (F := Ideal) Q K (ix4 b h r j) = Ideal.exp (tR Q K b h r j - Finset.univ.fold max ⊥ (tR Q K b h r)) := by
  rw [← v13_apply, ← v16_apply]
  unfold val_main_v20 val_main_v19 val_main_v18 val_main_v17
  generalize val_main_v13 (F := Ideal) Q K = s
  generalize val_main_v16 (F := Ideal) Q K = n
  pointwise

/-- The weights of the softmax. -/
theorem v24_apply (b : Fin 16) (h : Fin 8) (r j : Fin 2048) :
    val_main_v24 (F := Ideal) Q K (ix4 b h r j)
      = Ideal.div (val_main_v20 (F := Ideal) Q K (ix4 b h r j)) (∑ j' : Fin 2048, val_main_v20 (F := Ideal) Q K (ix4 b h r j')) := by
  unfold val_main_v24 val_main_v23 val_main_v22 val_main_v21
  generalize val_main_v20 (F := Ideal) Q K = s
  pointwise [val_main_cst_3]

/-- The result at a column: the weighted sum of the head's values. -/
theorem v31_apply (b : Fin 16) (r : Fin 2048) (l : Fin 512) :
    val_main_v31 (F := Ideal) Q K V (ix3 b r l)
      = ∑ j : Fin 2048, V (ix4 b (Cert.KernelIdeal.Attn.pr (hd l)) j (ln l)) * val_main_v24 (F := Ideal) Q K (ix4 b (hd l) r j) := by
  unfold val_main_v31 val_main_v30 val_main_v29 val_main_v28
  generalize val_main_v24 (F := Ideal) Q K = s
  pointwise [val_main_v27, val_main_v26, val_main_v25, val_main_v2]
  have hl : l.val / 64 % 2 * 64 + l.val % 64 = l.val % 128 := by omega
  refine Finset.sum_congr rfl fun j _ => ?_
  exact congrArg (fun z => V (ix4 b (Cert.KernelIdeal.Attn.pr (hd l)) j z) * s (ix4 b (hd l) r j)) (Fin.ext hl)

/-- A softmax of scores none of which is `+∞` and one of which is real: the exponentials' share of their sum. -/
theorem soft (t : Fin 2048 → EReal) (ht : ∀ j, t j ≠ ⊤) (j0 : Fin 2048) (h0 : t j0 ≠ ⊥)
    (hE : 0 < ∑ j, (Ideal.exp (t j)).toReal) (j : Fin 2048) :
    Ideal.div (Ideal.exp (t j - Finset.univ.fold max ⊥ t)) (∑ i, Ideal.exp (t i - Finset.univ.fold max ⊥ t))
      = (((Ideal.exp (t j)).toReal * (1 / ∑ i, (Ideal.exp (t i)).toReal) : ℝ) : EReal) := by
  obtain ⟨μ, hμ⟩ : ∃ μ : ℝ, Finset.univ.fold max ⊥ t = (μ : EReal) :=
    ⟨_, (EReal.coe_toReal (fold_ne_top _ _ ht) (fold_ne_bot _ _ j0 (Finset.mem_univ _) h0)).symm⟩
  rw [hμ]
  have hs : ∑ i, Ideal.exp (t i - (μ : EReal)) = ((Real.exp (-μ) * ∑ i, (Ideal.exp (t i)).toReal : ℝ) : EReal) := by
    rw [Finset.mul_sum, coe_sum]
    exact Finset.sum_congr rfl fun i _ => exp_sub _ (ht i) μ
  have hp : Real.exp (-μ) ≠ 0 := (Real.exp_pos _).ne'
  rw [hs, exp_sub _ (ht j), Ideal.div_coe (mul_ne_zero hp hE.ne'), ← EReal.coe_mul]
  refine congrArg _ ?_
  have := hE.ne'
  field_simp

/-- The base-two weight of a score scaled for it is the exponential of the score over the root of 96. -/
theorem exp_weight (Q K : FVec Ideal S16x8x2048x128 .bf16) (hQ : Finite Q) (hK : Finite K) (b : Fin 16) (h : Fin 8) (r j : Fin 2048) :
    (Ideal.exp (tR Q K b h r j)).toReal = wG Q K b h r j ∧ tR Q K b h r j ≠ ⊤ ∧ (j.val ≤ r.val → tR Q K b h r j ≠ ⊥) := by
  unfold tR wG
  by_cases hle : j.val ≤ r.val
  · rw [if_pos hle, if_pos hle, scG_real Q K hQ hK, wt_coe]
    have hs : ∑ c : Fin 128, Q (ix4 b h r c) * K (ix4 b h j c)
        = ((∑ c : Fin 128, (Q (ix4 b h r c)).toReal * (K (ix4 b h j c)).toReal : ℝ) : EReal) := by
      rw [coe_sum]
      refine Finset.sum_congr rfl fun c _ => ?_
      rw [EReal.coe_mul, EReal.coe_toReal (hQ _).1 (hQ _).2, EReal.coe_toReal (hK _).1 (hK _).2]
    have h96 : Real.sqrt 96 ≠ 0 := (Real.sqrt_pos.mpr (by norm_num)).ne'
    rw [hs, Ideal.div_coe h96, ← EReal.coe_mul]
    refine ⟨?_, EReal.coe_ne_top _, fun _ => EReal.coe_ne_bot _⟩
    rw [Ideal.exp_coe, EReal.toReal_coe, Real.rpow_def_of_pos (by norm_num)]
    have hl : Real.log 2 ≠ 0 := (Real.log_pos (by norm_num)).ne'
    refine congrArg _ ?_
    rw [Finset.sum_mul, Finset.mul_sum]
    refine Finset.sum_congr rfl fun c _ => ?_
    unfold Cert.KernelIdeal.Attn.qs
    field_simp
  · rw [if_neg hle, if_neg hle]
    simp [hle]

/-- The reference's result is the attention. -/
theorem ref_eq (Q K : FVec Ideal S16x8x2048x128 .bf16) (V : FVec Ideal S16x4x2048x128 .bf16) (hQ : Finite Q) (hK : Finite K) :
    val_main_v31 (F := Ideal) Q K V = G Q K V := by
  funext y
  obtain ⟨b, r, l, rfl⟩ : ∃ (b : Fin 16) (r : Fin 2048) (l : Fin 512), y = ix3 b r l := ⟨y 0, y 1, y 2, eq_ix3 y⟩
  rw [v31_apply]
  show _ = meanG Q K V b (hd l) r (ln l)
  unfold meanG
  generalize hd l = h
  have hw := fun j => exp_weight Q K hQ hK b h r j
  have hsum : ∑ j, (Ideal.exp (tR Q K b h r j)).toReal = ∑ j, wG Q K b h r j := Finset.sum_congr rfl fun j _ => (hw j).1
  have hpos := wG_sum_pos Q K hQ hK b h r
  have hv : ∀ j, val_main_v24 (F := Ideal) Q K (ix4 b h r j) = ((wG Q K b h r j * (1 / ∑ i, wG Q K b h r i) : ℝ) : EReal) := fun j => by
    rw [v24_apply]
    simp only [v20_apply]
    rw [soft _ (fun i => (hw i).2.1) 0 ((hw 0).2.2 (Nat.zero_le _)) (by rw [hsum]; exact hpos) j, hsum, (hw j).1]
  simp only [hv]
  rw [mul_comm, coe_mul_sum _ _ (by positivity)]
  refine Finset.sum_congr rfl fun j _ => ?_
  rw [EReal.coe_mul, mul_comm, mul_comm (wG Q K b h r j : EReal), mul_assoc]

end Cert.ReferenceIdeal.Attn

end
-- ==== Proof.FfnSpec.lean ====
/-
  One row of the gated feed-forward step, as sums over the extended reals: the scaled row, the modulated row, the gated
  product of two projections brought back by a third, and the same sum taken in three runs of columns.
-/
module

public import Idealize.ShloMosaic.Lib.Pointwise
public import Idealize.ShloMosaic.Lib.IdealHost

@[expose] public section

set_option maxRecDepth 16384

noncomputable section

namespace Cert.Ffn

open Idealize.ShloMosaic

/-- A row divided by its root mean square (the count and the small addend are the two literals) and times its gains. -/
def scaled {n : ℕ} (count : BitVec 32) (x g : Fin n → EReal) (i : Fin n) : EReal :=
  x i * Ideal.rsqrt (Ideal.div (∑ j, x j * x j) (Ideal.ofBits .f32 count) + Ideal.ofBits .f32 0x358637BD#32) * g i

/-- The scaled row of the layer's width, modulated by a scale and a shift. -/
def modulated (x g scale shift : Fin 1024 → EReal) (i : Fin 1024) : EReal :=
  scaled 0x44800000#32 x g i * (1 + scale i) + shift i

/-- A number times its own sigmoid. -/
def silu (a : EReal) : EReal := a * Ideal.logistic a

/-- One hidden column: the gated product of the two projections. -/
def hidden (h : Fin 1024 → EReal) (w1 w3 : Fin 1024 → EReal) : EReal :=
  silu (∑ i, h i * w1 i) * ∑ i, h i * w3 i

/-- The row the three matrices make of `h`. -/
def mlp (h : Fin 1024 → EReal) (w1 w3 : Fin 1024 → Fin 2816 → EReal) (w2 : Fin 2816 → Fin 1024 → EReal)
    (d : Fin 1024) : EReal :=
  ∑ f, hidden h (fun i => w1 i f) (fun i => w3 i f) * w2 f d

/-- The whole step on one row: half the gate times what the matrices make of the modulated row, added to the row. -/
def step (x g scale shift gate : Fin 1024 → EReal) (w1 w3 : Fin 1024 → Fin 2816 → EReal)
    (w2 : Fin 2816 → Fin 1024 → EReal) (d : Fin 1024) : EReal :=
  x d + Ideal.ofBits .f32 0x3F000000#32 * gate d * mlp (modulated x g scale shift) w1 w3 w2 d

/-- The prompt's first step at batch row `b`, position `s` and column `d`: shift, scale and gate are the modulation's first
    three thirds of its first 3072 columns. -/
def first (x : Fin 16 → Fin 2048 → Fin 1024 → EReal) (mod : Fin 16 → Fin 9216 → EReal) (g : Fin 1024 → EReal)
    (w1 w3 : Fin 1024 → Fin 2816 → EReal) (w2 : Fin 2816 → Fin 1024 → EReal) (b : Fin 16) (s : Fin 2048) (d : Fin 1024) :
    EReal :=
  step (x b s) g (fun i => mod b ⟨1024 + i.val, by omega⟩) (fun i => mod b ⟨i.val, by omega⟩)
    (fun i => mod b ⟨2048 + i.val, by omega⟩) w1 w3 w2 d

/-- Column `v` of head `h` among the four heads' columns. -/
def lane (h : Fin 4) (v : Fin 128) : Fin 512 := ⟨128 * h.val + v.val, by omega⟩

/-- A head's output, scaled by its root mean square and its gains, times the gate's own sigmoid-weighted value. -/
def gated (o gg : Fin 512 → EReal) (g : Fin 128 → EReal) (h : Fin 4) (v : Fin 128) : EReal :=
  scaled 0x43000000#32 (fun j => o (lane h j)) g v * silu (gg (lane h v))

/-- The same over the four heads' columns. -/
def gatedAt (o gg : Fin 512 → EReal) (g : Fin 128 → EReal) (c : Fin 512) : EReal :=
  gated o gg g ⟨c.val / 128, by omega⟩ ⟨c.val % 128, by omega⟩

/-- The row after the two mixers: what they return, brought back by the two halves of one matrix, gated and added. -/
def mixed (x gate : Fin 1024 → EReal) (om gl : Fin 512 → EReal) (wo : Fin 1024 → Fin 1024 → EReal) (d : Fin 1024) : EReal :=
  x d + gate d * (∑ c : Fin 512, om c * wo ⟨c.val, by omega⟩ d + ∑ c : Fin 512, gl c * wo ⟨512 + c.val, by omega⟩ d)

/-- The layer's last part on one row: the mixers' output added, the second feed-forward step, the last scaling. -/
def lastRow (x gate : Fin 1024 → EReal) (om o gg : Fin 512 → EReal) (gh : Fin 128 → EReal) (wo : Fin 1024 → Fin 1024 → EReal)
    (g scale shift gate' : Fin 1024 → EReal) (w1 w3 : Fin 1024 → Fin 2816 → EReal) (w2 : Fin 2816 → Fin 1024 → EReal)
    (gl : Fin 1024 → EReal) (d : Fin 1024) : EReal :=
  scaled 0x44800000#32 (step (mixed x gate om (gatedAt o gg gh) wo) g scale shift gate' w1 w3 w2) gl d

/-- The layer's prompt result at row `n` and column `d`, from the input of the mixers and what they return: the modulation's
    columns from 5120 on are the mixers' gate and the second step's shift, scale and gate. -/
def last (x : Fin 32768 → Fin 1024 → EReal) (mod : Fin 16 → Fin 9216 → EReal) (om o gg : Fin 32768 → Fin 512 → EReal)
    (gh : Fin 128 → EReal) (wo : Fin 1024 → Fin 1024 → EReal) (g : Fin 1024 → EReal) (w1 w3 : Fin 1024 → Fin 2816 → EReal)
    (w2 : Fin 2816 → Fin 1024 → EReal) (gl : Fin 1024 → EReal) (b : Fin 16) (n : Fin 32768) (d : Fin 1024) : EReal :=
  lastRow (x n) (fun i => mod b ⟨5120 + i.val, by omega⟩) (om n) (o n) (gg n) gh wo g (fun i => mod b ⟨7168 + i.val, by omega⟩)
    (fun i => mod b ⟨6144 + i.val, by omega⟩) (fun i => mod b ⟨8192 + i.val, by omega⟩) w1 w3 w2 gl d

/-- The batch row of a row of the flattened prompt. -/
def batchOf (n : Fin 32768) : Fin 16 := ⟨n.val / 2048, by omega⟩

/-- The position of a row of the flattened prompt. -/
def posOf (n : Fin 32768) : Fin 2048 := ⟨n.val % 2048, by omega⟩

/-- A sum over the hidden columns is the sum of its three runs. -/
theorem sum_runs (u : Fin 2816 → EReal) :
    ∑ f, u f = (∑ f : Fin 1024, u ⟨f.val, by omega⟩ + ∑ f : Fin 1024, u ⟨1024 + f.val, by omega⟩)
      + ∑ f : Fin 768, u ⟨2048 + f.val, by omega⟩ := by
  have h1 := Fin.sum_univ_add (a := 2048) (b := 768) u
  have h2 := Fin.sum_univ_add (a := 1024) (b := 1024) fun i => u (Fin.castAdd 768 i)
  rw [h1, h2]
  rfl

/-- A sum over the layer's width is the sum of its halves. -/
theorem sum_halves (u : Fin 1024 → EReal) :
    ∑ f, u f = ∑ f : Fin 512, u ⟨f.val, by omega⟩ + ∑ f : Fin 512, u ⟨512 + f.val, by omega⟩ := by
  rw [Fin.sum_univ_add (a := 512) (b := 512) u]
  rfl

end Cert.Ffn

end
-- ==== Proof.FfnFirst.lean ====
/-
  The prompt's first feed-forward step: the value of one block, entry by entry.
-/
module

public import proofs.«01_k».proof.Proof.FfnSpec
public import proofs.«01_k».proof.Proof.Gen.Kernel3Ideal.Value
public import Idealize.ShloMosaic.Lib.Pipeline.ValueKit

@[expose] public section

set_option maxRecDepth 16384

noncomputable section

namespace Cert.Kernel3Ideal.First

open Cert.Kernel3Ideal Cert.Kernel3Ideal.Gen Idealize.ShloMosaic Idealize.ShloMosaic.TcCoe Idealize.SL.Sem Cert.Ffn
open Idealize.ShloMosaic.Pipeline (Dat)

/-- The modulated row of the block, entry by entry. -/
theorem pay4_apply (v0 : FVec Ideal S1024x1024 .f32) (v2 v4 : FVec Ideal S1x1x1024 .f32) (v8 : FVec Ideal S1x1024 .f32)
    (p d : Fin 1024) :
    k0_pay4 (F := Ideal) v0 v2 v4 v8 (ix2 p d) = modulated (fun i => v0 (ix2 p i)) (fun i => v8 (ix2 0 i))
      (fun i => v4 (ix3 0 0 i)) (fun i => v2 (ix3 0 0 i)) d := by
  pointwise [k0_pay4, k0_pay2]
  rfl

/-- The first run's first projection. -/
theorem pay5_apply (v0 : FVec Ideal S1024x1024 .f32) (v2 v4 : FVec Ideal S1x1x1024 .f32) (v8 : FVec Ideal S1x1024 .f32)
    (v29 : FVec Ideal S1024x1024 .bf16) (p f : Fin 1024) :
    k0_pay5 (F := Ideal) v0 v2 v4 v8 v29 (ix2 p f) = ∑ i, k0_pay4 (F := Ideal) v0 v2 v4 v8 (ix2 p i) * v29 (ix2 i f) := by
  unfold k0_pay5
  generalize k0_pay4 (F := Ideal) v0 v2 v4 v8 = h
  pointwise []

/-- The first run's second projection. -/
theorem pay6_apply (v0 : FVec Ideal S1024x1024 .f32) (v2 v4 : FVec Ideal S1x1x1024 .f32) (v8 : FVec Ideal S1x1024 .f32)
    (v29 : FVec Ideal S1024x1024 .bf16) (p f : Fin 1024) :
    k0_pay6 (F := Ideal) v0 v2 v4 v8 v29 (ix2 p f) = ∑ i, k0_pay4 (F := Ideal) v0 v2 v4 v8 (ix2 p i) * v29 (ix2 i f) := by
  unfold k0_pay6
  generalize k0_pay4 (F := Ideal) v0 v2 v4 v8 = h
  pointwise []

/-- The gated sum over the three runs of hidden columns, times half the gate. -/
theorem pay8_apply (v7 : FVec Ideal S1x1024 .f32) (v28 : FVec Ideal S1024x1024 .bf16) (v31 v34 v35 : FVec Ideal S1024x1024 .f32)
    (v39 v42 v45 v52 : FVec Ideal S1024x1024 .bf16) (v56 v59 : FVec Ideal S1024x768 .bf16)
    (v66 : FVec Ideal S768x1024 .bf16) (p d : Fin 1024) :
    k0_pay8 v7 v28 v31 v34 v35 v39 v42 v45 v52 v56 v59 v66 (ix2 p d)
      = Ideal.ofBits .f32 0x3F000000#32 * v7 (ix2 0 d)
        * ((∑ f, v31 (ix2 p f) * v35 (ix2 p f) * v34 (ix2 p f) * v39 (ix2 f d)
            + ∑ f, hidden (fun i => v28 (ix2 p i)) (fun i => v42 (ix2 i f)) (fun i => v45 (ix2 i f)) * v52 (ix2 f d))
          + ∑ f, hidden (fun i => v28 (ix2 p i)) (fun i => v56 (ix2 i f)) (fun i => v59 (ix2 i f)) * v66 (ix2 f d)) := by
  pointwise [k0_pay8]
  rfl

/-- The last sum. -/
theorem pay1_apply (a b : FVec Ideal S1024x1024 .f32) (i : S1024x1024.Idx) :
    k0_pay1 (F := Ideal) a b i = a i + b i := rfl

/-- The block itself. -/
theorem pay2_apply (a : FVec Ideal S1024x1024 .f32) (p d : Fin 1024) :
    k0_pay2 (F := Ideal) a (ix2 p d) = a (ix2 p d) := by
  pointwise [k0_pay2]

/-- The gate's row. -/
theorem pay3_apply (a : FVec Ideal S1x1x1024 .f32) (d : Fin 1024) :
    k0_pay3 (F := Ideal) a (ix2 0 d) = a (ix3 0 0 d) := by
  pointwise [k0_pay3]

/-- The sigmoid of the first run's first projection. -/
theorem pay7_apply (v0 : FVec Ideal S1024x1024 .f32) (v2 v4 : FVec Ideal S1x1x1024 .f32) (v8 : FVec Ideal S1x1024 .f32)
    (v29 : FVec Ideal S1024x1024 .bf16) (i : S1024x1024.Idx) :
    k0_pay7 (F := Ideal) v0 v2 v4 v8 v29 i = Ideal.logistic (k0_pay5 (F := Ideal) v0 v2 v4 v8 v29 i) := rfl

/-- The whole block. -/
theorem ld0 (x : Vec Ideal S1024x1024 .f32) (p : Fin 1024) (d : Fin 1024) :
    View.ld (Val := Elt Ideal) x r0_0 (ix2 p d) = x (ix2 p d) := by
  refine congrArg x (funext fun a => Fin.ext ?_)
  match a with
  | ⟨0, _⟩ => show 0 + 1 * p.val = p.val; omega
  | ⟨1, _⟩ => show 0 + 1 * d.val = d.val; omega

/-- The shift's columns of the modulation. -/
theorem ld1 (x : Vec Ideal S1x1x3072 .f32) (d : Fin 1024) :
    View.ld (Val := Elt Ideal) x r0_1 (ix3 0 0 d) = x (ix3 0 0 ⟨d.val, by omega⟩) := by
  refine congrArg x (funext fun a => Fin.ext ?_)
  match a with
  | ⟨0, _⟩ => rfl
  | ⟨1, _⟩ => rfl
  | ⟨2, _⟩ => show 0 + 1 * d.val = d.val; omega

/-- The scale's columns of the modulation. -/
theorem ld2 (x : Vec Ideal S1x1x3072 .f32) (d : Fin 1024) :
    View.ld (Val := Elt Ideal) x r0_2 (ix3 0 0 d) = x (ix3 0 0 ⟨1024 + d.val, by omega⟩) := by
  refine congrArg x (funext fun a => Fin.ext ?_)
  match a with
  | ⟨0, _⟩ => rfl
  | ⟨1, _⟩ => rfl
  | ⟨2, _⟩ => show 1024 + 1 * d.val = 1024 + d.val; omega

/-- The gate's columns of the modulation. -/
theorem ld3 (x : Vec Ideal S1x1x3072 .f32) (d : Fin 1024) :
    View.ld (Val := Elt Ideal) x r0_3 (ix3 0 0 d) = x (ix3 0 0 ⟨2048 + d.val, by omega⟩) := by
  refine congrArg x (funext fun a => Fin.ext ?_)
  match a with
  | ⟨0, _⟩ => rfl
  | ⟨1, _⟩ => rfl
  | ⟨2, _⟩ => show 2048 + 1 * d.val = 2048 + d.val; omega

/-- The gains. -/
theorem ld4 (x : Vec Ideal S1x1024 .f32) (p : Fin 1) (d : Fin 1024) :
    View.ld (Val := Elt Ideal) x r0_4 (ix2 p d) = x (ix2 0 d) := by
  refine congrArg x (funext fun a => Fin.ext ?_)
  match a with
  | ⟨0, _⟩ => show 0 + 1 * p.val = 0; omega
  | ⟨1, _⟩ => show 0 + 1 * d.val = d.val; omega

/-- The first run of hidden columns. -/
theorem ld5 (x : Vec Ideal S1024x2816 .bf16) (p : Fin 1024) (d : Fin 1024) :
    View.ld (Val := Elt Ideal) x r0_5 (ix2 p d) = x (ix2 p ⟨d.val, by omega⟩) := by
  refine congrArg x (funext fun a => Fin.ext ?_)
  match a with
  | ⟨0, _⟩ => show 0 + 1 * p.val = p.val; omega
  | ⟨1, _⟩ => show 0 + 1 * d.val = d.val; omega

/-- The first run of hidden rows. -/
theorem ld6 (x : Vec Ideal S2816x1024 .bf16) (p : Fin 1024) (d : Fin 1024) :
    View.ld (Val := Elt Ideal) x r0_6 (ix2 p d) = x (ix2 ⟨p.val, by omega⟩ d) := by
  refine congrArg x (funext fun a => Fin.ext ?_)
  match a with
  | ⟨0, _⟩ => show 0 + 1 * p.val = p.val; omega
  | ⟨1, _⟩ => show 0 + 1 * d.val = d.val; omega

/-- The second run of hidden columns. -/
theorem ld7 (x : Vec Ideal S1024x2816 .bf16) (p : Fin 1024) (d : Fin 1024) :
    View.ld (Val := Elt Ideal) x r0_7 (ix2 p d) = x (ix2 p ⟨1024 + d.val, by omega⟩) := by
  refine congrArg x (funext fun a => Fin.ext ?_)
  match a with
  | ⟨0, _⟩ => show 0 + 1 * p.val = p.val; omega
  | ⟨1, _⟩ => show 1024 + 1 * d.val = 1024 + d.val; omega

/-- The second run of hidden rows. -/
theorem ld8 (x : Vec Ideal S2816x1024 .bf16) (p : Fin 1024) (d : Fin 1024) :
    View.ld (Val := Elt Ideal) x r0_8 (ix2 p d) = x (ix2 ⟨1024 + p.val, by omega⟩ d) := by
  refine congrArg x (funext fun a => Fin.ext ?_)
  match a with
  | ⟨0, _⟩ => show 1024 + 1 * p.val = 1024 + p.val; omega
  | ⟨1, _⟩ => show 0 + 1 * d.val = d.val; omega

/-- The third run of hidden columns. -/
theorem ld9 (x : Vec Ideal S1024x2816 .bf16) (p : Fin 1024) (d : Fin 768) :
    View.ld (Val := Elt Ideal) x r0_9 (ix2 p d) = x (ix2 p ⟨2048 + d.val, by omega⟩) := by
  refine congrArg x (funext fun a => Fin.ext ?_)
  match a with
  | ⟨0, _⟩ => show 0 + 1 * p.val = p.val; omega
  | ⟨1, _⟩ => show 2048 + 1 * d.val = 2048 + d.val; omega

/-- The third run of hidden rows. -/
theorem ld10 (x : Vec Ideal S2816x1024 .bf16) (p : Fin 768) (d : Fin 1024) :
    View.ld (Val := Elt Ideal) x r0_10 (ix2 p d) = x (ix2 ⟨2048 + p.val, by omega⟩ d) := by
  refine congrArg x (funext fun a => Fin.ext ?_)
  match a with
  | ⟨0, _⟩ => show 2048 + 1 * p.val = 2048 + p.val; omega
  | ⟨1, _⟩ => show 0 + 1 * d.val = d.val; omega

/-- What the body makes of its loads, entry by entry: the step on that row. -/
theorem made (l0 : Vec Ideal S1024x1024 .f32) (l1 l2 l3 : Vec Ideal S1x1x1024 .f32) (l4 : Vec Ideal S1x1024 .f32)
    (a5 b5 a7 b7 l6 l8 : Vec Ideal S1024x1024 .bf16) (a9 b9 : Vec Ideal S1024x768 .bf16) (l10 : Vec Ideal S768x1024 .bf16)
    (X G SC SH GA : Fin 1024 → EReal) (W1 W3 : Fin 1024 → Fin 2816 → EReal) (W2 : Fin 2816 → Fin 1024 → EReal) (p d : Fin 1024)
    (h0 : ∀ i, l0 (ix2 p i) = X i) (h1 : ∀ i, l1 (ix3 0 0 i) = SH i) (h2 : ∀ i, l2 (ix3 0 0 i) = SC i)
    (h3 : ∀ i, l3 (ix3 0 0 i) = GA i) (h4 : ∀ i, l4 (ix2 0 i) = G i)
    (ha5 : ∀ i f, a5 (ix2 i f) = W1 i ⟨f.val, by omega⟩) (hb5 : ∀ i f, b5 (ix2 i f) = W3 i ⟨f.val, by omega⟩)
    (ha7 : ∀ i f, a7 (ix2 i f) = W1 i ⟨1024 + f.val, by omega⟩) (hb7 : ∀ i f, b7 (ix2 i f) = W3 i ⟨1024 + f.val, by omega⟩)
    (ha9 : ∀ i f, a9 (ix2 i f) = W1 i ⟨2048 + f.val, by omega⟩) (hb9 : ∀ i f, b9 (ix2 i f) = W3 i ⟨2048 + f.val, by omega⟩)
    (h6 : ∀ f i, l6 (ix2 f i) = W2 ⟨f.val, by omega⟩ i) (h8 : ∀ f i, l8 (ix2 f i) = W2 ⟨1024 + f.val, by omega⟩ i)
    (h10 : ∀ f i, l10 (ix2 f i) = W2 ⟨2048 + f.val, by omega⟩ i) :
    k0_pay1 (F := Ideal) (k0_pay2 l0) (k0_pay8 (k0_pay3 l3) (k0_pay4 l0 l1 l2 l4) (k0_pay5 l0 l1 l2 l4 a5)
        (k0_pay6 l0 l1 l2 l4 b5) (k0_pay7 l0 l1 l2 l4 a5) l6 a7 b7 l8 a9 b9 l10) (ix2 p d)
      = step X G SC SH GA W1 W3 W2 d := by
  rw [pay1_apply, pay8_apply, pay2_apply, pay3_apply]
  simp only [pay7_apply, pay5_apply, pay6_apply, pay4_apply, h0, h1, h2, h3, h4, ha5, hb5, ha7, hb7, ha9, hb9, h6, h8, h10]
  unfold step mlp
  rw [sum_runs]
  rfl

/-- What a grid point stores, entry by entry: the step on that row of its blocks. -/
theorem stored (x0 : Vec Ideal S1024x1024 .f32) (x1 : Vec Ideal S1x1x3072 .f32) (x2 : Vec Ideal S1x1024 .f32)
    (x3 x4 : Vec Ideal S1024x2816 .bf16) (x5 : Vec Ideal S2816x1024 .bf16) (p d : Fin 1024) :
    k0_pay1 (F := Ideal) (k0_pay2 (View.ld x0 r0_0)) (k0_pay8 (k0_pay3 (View.ld x1 r0_3)) (k0_pay4 (View.ld x0 r0_0) (View.ld x1 r0_1) (View.ld x1 r0_2) (View.ld x2 r0_4)) (k0_pay5 (View.ld x0 r0_0) (View.ld x1 r0_1) (View.ld x1 r0_2) (View.ld x2 r0_4) (View.ld x3 r0_5)) (k0_pay6 (View.ld x0 r0_0) (View.ld x1 r0_1) (View.ld x1 r0_2) (View.ld x2 r0_4) (View.ld x4 r0_5)) (k0_pay7 (View.ld x0 r0_0) (View.ld x1 r0_1) (View.ld x1 r0_2) (View.ld x2 r0_4) (View.ld x3 r0_5)) (View.ld x5 r0_6) (View.ld x3 r0_7) (View.ld x4 r0_7) (View.ld x5 r0_8) (View.ld x3 r0_9) (View.ld x4 r0_9) (View.ld x5 r0_10)) (ix2 p d)
      = step (fun i => x0 (ix2 p i)) (fun i => x2 (ix2 0 i)) (fun i => x1 (ix3 0 0 ⟨1024 + i.val, by omega⟩))
          (fun i => x1 (ix3 0 0 ⟨i.val, by omega⟩)) (fun i => x1 (ix3 0 0 ⟨2048 + i.val, by omega⟩))
          (fun i f => x3 (ix2 i f)) (fun i f => x4 (ix2 i f)) (fun f d => x5 (ix2 f d)) d :=
  made _ _ _ _ _ _ _ _ _ _ _ _ _ _ _ _ _ _ _ _ _ _ p d (ld0 x0 p) (ld1 x1) (ld2 x1) (ld3 x1) (ld4 x2 0) (ld5 x3) (ld5 x4)
    (ld7 x3) (ld7 x4) (ld9 x3) (ld9 x4) (ld6 x5) (ld8 x5) (ld10 x5)

variable (m : (ℓ : Loc nD τ sig) → Buf (Elt Ideal) ℓ)

/-- Where each window's block lies at a grid point. -/
theorem e0 : ∀ t : Fin cfg0.N, win0_0.index t = ![t.val, 0] := by decide +kernel
/-- The modulation of one row of the batch serves two grid points. -/
theorem e1 : ∀ t : Fin cfg0.N, win0_1.index t = ![t.val / 2, 0, 0] := by decide +kernel
/-- The gains are one block. -/
theorem e2 : ∀ t : Fin cfg0.N, win0_2.index t = ![0, 0] := by decide +kernel
/-- The first matrix is one block. -/
theorem e3 : ∀ t : Fin cfg0.N, win0_3.index t = ![0, 0] := by decide +kernel
/-- The second matrix is one block. -/
theorem e4 : ∀ t : Fin cfg0.N, win0_4.index t = ![0, 0] := by decide +kernel
/-- The third matrix is one block. -/
theorem e5 : ∀ t : Fin cfg0.N, win0_5.index t = ![0, 0] := by decide +kernel
/-- The result's blocks. -/
theorem e6 : ∀ t : Fin cfg0.N, win0_6.index t = ![t.val, 0] := by decide +kernel

/-- The batch row of a grid point. -/
def bat (t : Fin cfg0.N) : Fin 16 := ⟨t.val / 2, by have h : t.val < 32 := t.isLt; omega⟩

/-- The position of a row of a grid point's block. -/
def pos (t : Fin cfg0.N) (p : Fin 1024) : Fin 2048 := ⟨1024 * (t.val % 2) + p.val, by omega⟩

/-- The rows a grid point reads. -/
theorem blk0 (c : Dev nD) (t : Fin cfg0.N) (p i : Fin 1024) :
    iblk m c 0 t (ix2 p i) = m ((c : Thread nD τ).loc main_arg0) (ix3 (bat t) (pos t p) i) := by
  unfold bat pos
  blk_ext! [iblk, V, e0 t]

/-- The modulation a grid point reads. -/
theorem blk1 (c : Dev nD) (t : Fin cfg0.N) (i : Fin 3072) :
    iblk m c 1 t (ix3 0 0 i) = m ((c : Thread nD τ).loc main_arg1) (ix2 (bat t) ⟨i.val, by omega⟩) := by
  unfold bat
  blk_ext! [iblk, V, e1 t]

/-- The gains a grid point reads. -/
theorem blk2 (c : Dev nD) (t : Fin cfg0.N) (i : Fin 1024) :
    iblk m c 2 t (ix2 0 i) = m ((c : Thread nD τ).loc main_arg2) (ix1 i) := by
  blk_ext! [iblk, V, e2 t]

/-- The first matrix a grid point reads. -/
theorem blk3 (c : Dev nD) (t : Fin cfg0.N) (i : Fin 1024) (f : Fin 2816) :
    iblk m c 3 t (ix2 i f) = m ((c : Thread nD τ).loc main_arg3) (ix2 i f) := by
  blk_ext! [iblk, V, e3 t]

/-- The second matrix a grid point reads. -/
theorem blk4 (c : Dev nD) (t : Fin cfg0.N) (i : Fin 1024) (f : Fin 2816) :
    iblk m c 4 t (ix2 i f) = m ((c : Thread nD τ).loc main_arg4) (ix2 i f) := by
  blk_ext! [iblk, V, e4 t]

/-- The third matrix a grid point reads. -/
theorem blk5 (c : Dev nD) (t : Fin cfg0.N) (i : Fin 1024) (f : Fin 2816) :
    iblk m c 5 t (ix2 f i) = m ((c : Thread nD τ).loc main_arg5) (ix2 f i) := by
  blk_ext! [iblk, V, e5 t]

/-- The kernel's result from its arguments. -/
def R (X : FVec Ideal S16x2048x1024 .f32) (M : FVec Ideal S16x9216 .f32) (G : FVec Ideal S1024 .f32)
    (W1 W3 : FVec Ideal S1024x2816 .f32) (W2 : FVec Ideal S2816x1024 .f32) : FVec Ideal S32768x1024 .f32 := fun y =>
  first (fun b s i => X (ix3 b s i)) (fun b i => M (ix2 b i)) (fun i => G (ix1 i)) (fun i f => W1 (ix2 i f))
    (fun i f => W3 (ix2 i f)) (fun f d => W2 (ix2 f d)) (batchOf (y 0)) (posOf (y 0)) (y 1)

/-- The row of the flattened prompt a row of a grid point's block is. -/
def flat (t : Fin cfg0.N) (p : Fin 1024) : Fin 32768 := ⟨1024 * t.val + p.val, by have h : t.val < 32 := t.isLt; omega⟩

/-- Where a grid point's block of the result lies. -/
theorem blk6 (t : Fin cfg0.N) (X : FVec Ideal S32768x1024 .f32) (p d : Fin 1024) (y : ((cfg0.win 6).xblock (cfg0.grid.coords t)).Idx)
    (h0 : (y 0).val = p.val) (h1 : (y 1).val = d.val) : X ((win0_6.blk t).view.emb y) = X (ix2 (flat t p) d) := by
  unfold flat
  blk_ext [e6 t]

/-- The kernel's result array is the step on every row of the flattened prompt. -/
theorem arr (c : Dev nD) : (dats m 0 c).arrAt 6 cfg0.N
    = R (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  unfold out0_6
  canon_tiles x h
  obtain ⟨p, hp⟩ : ∃ p : Fin 1024, p = x 0 := ⟨_, rfl⟩
  obtain ⟨d, hd⟩ : ∃ d : Fin 1024, d = x 1 := ⟨_, rfl⟩
  have hx : x = ix2 p d := by rw [eq_ix2 x, hp, hd]
  refine Eq.trans ?_ (blk6 t (R _ _ _ _ _ _) p d y (by rw [hp]; omega) (by rw [hd]; omega)).symm
  rw [hx]
  refine (stored (iblk m c 0 t) (iblk m c 1 t) (iblk m c 2 t) (iblk m c 3 t) (iblk m c 4 t) (iblk m c 5 t) p d).trans ?_
  have hb : batchOf (flat t p) = bat t := Fin.ext (by show (1024 * t.val + p.val) / 2048 = t.val / 2; omega)
  have hs : posOf (flat t p) = pos t p := Fin.ext (by show (1024 * t.val + p.val) % 2048 = 1024 * (t.val % 2) + p.val; omega)
  show _ = first _ _ _ _ _ _ (batchOf (flat t p)) (posOf (flat t p)) d
  rw [hb, hs]
  unfold first
  simp only [blk0, blk1, blk2, blk3, blk4, blk5]

end Cert.Kernel3Ideal.First

end
-- ==== Proof.RefFirst.lean ====
/-
  The reference of the prompt's first feed-forward step at an index: the same step on the same row.
-/
module

public import proofs.«01_k».proof.Proof.FfnSpec
public import proofs.«01_k».proof.Proof.Gen.Reference3Ideal.Run
public import proofs.«01_k».proof.Proof.Gen.Reference3Ideal.Read
public import Idealize.ShloMosaic.Lib.Pointwise

@[expose] public section

set_option maxRecDepth 16384

noncomputable section

namespace Cert.Reference3Ideal.First

open Cert.Reference3Ideal Cert.Reference3Ideal.Gen Cert.Reference3Ideal.Read Idealize.ShloMosaic Idealize.ShloMosaic.TcCoe Idealize.SL.Sem
open Cert.Ffn

variable (X : FVec Ideal S16x2048x1024 .f32) (M : FVec Ideal S16x9216 .f32) (G : FVec Ideal S1024 .f32)
  (W1 W3 : FVec Ideal S1024x2816 .f32) (W2 : FVec Ideal S2816x1024 .f32)

/-- The modulated row. -/
theorem v28_apply (b : Fin 16) (s : Fin 2048) (i : Fin 1024) :
    val_main_v28 (F := Ideal) X M G (ix3 b s i)
      = modulated (fun j => X (ix3 b s j)) (fun j => G (ix1 j)) (fun j => M (ix2 b ⟨1024 + j.val, by omega⟩))
          (fun j => M (ix2 b ⟨j.val, by omega⟩)) i := by
  pointwise [val_main_v28, val_main_v27, val_main_v26, val_main_v25, val_main_v24, val_main_v23, val_main_cst_2, val_main_v22,
    val_main_v21, val_main_v20, val_main_v19, val_main_v18, val_main_v17, val_main_v16, val_main_v15, val_main_cst_1,
    val_main_v14, val_main_v13, val_main_cst_0, val_main_v12, val_main_v11, val_main_cst, val_main_v10, val_main_v2, val_main_v1,
    val_main_v0]
  rfl

/-- The first projection. -/
theorem v31_apply (b : Fin 16) (s : Fin 2048) (f : Fin 2816) :
    val_main_v31 (F := Ideal) X M G W1 (ix3 b s f) = ∑ i, val_main_v28 (F := Ideal) X M G (ix3 b s i) * W1 (ix2 i f) := by
  unfold val_main_v31
  generalize val_main_v28 (F := Ideal) X M G = h
  pointwise []

/-- The second projection. -/
theorem v33_apply (b : Fin 16) (s : Fin 2048) (f : Fin 2816) :
    val_main_v33 (F := Ideal) X M G W3 (ix3 b s f) = ∑ i, val_main_v28 (F := Ideal) X M G (ix3 b s i) * W3 (ix2 i f) := by
  unfold val_main_v33
  generalize val_main_v28 (F := Ideal) X M G = h
  pointwise []

/-- The gated hidden column. -/
theorem v34_apply (b : Fin 16) (s : Fin 2048) (f : Fin 2816) :
    val_main_v34 (F := Ideal) X M G W1 W3 (ix3 b s f)
      = silu (val_main_v31 (F := Ideal) X M G W1 (ix3 b s f)) * val_main_v33 (F := Ideal) X M G W3 (ix3 b s f) := by
  unfold val_main_v34 val_main_v32 val_main_call0_v5 val_main_call0_v3 val_main_call0_v1 val_main_call0_v0
  generalize val_main_v31 (F := Ideal) X M G W1 = a
  generalize val_main_v33 (F := Ideal) X M G W3 = z
  pointwise [val_main_call0_v4, val_main_call0_cst_0, val_main_call0_v2, val_main_call0_cst]
  rfl

/-- What the three matrices make of the row. -/
theorem v35_apply (b : Fin 16) (s : Fin 2048) (d : Fin 1024) :
    val_main_v35 (F := Ideal) X M G W1 W3 W2 (ix3 b s d)
      = ∑ f, val_main_v34 (F := Ideal) X M G W1 W3 (ix3 b s f) * W2 (ix2 f d) := by
  unfold val_main_v35
  generalize val_main_v34 (F := Ideal) X M G W1 W3 = h
  pointwise []

/-- The step. -/
theorem v38_apply (b : Fin 16) (s : Fin 2048) (d : Fin 1024) :
    val_main_v38 (F := Ideal) X M G W1 W3 W2 (ix3 b s d)
      = first (fun b s i => X (ix3 b s i)) (fun b i => M (ix2 b i)) (fun i => G (ix1 i)) (fun i f => W1 (ix2 i f))
          (fun i f => W3 (ix2 i f)) (fun f d => W2 (ix2 f d)) b s d := by
  unfold val_main_v38 val_main_v37
  have e := v35_apply X M G W1 W3 W2 b s d
  generalize val_main_v35 (F := Ideal) X M G W1 W3 W2 = u at e ⊢
  pointwise [val_main_v36, val_main_v30, val_main_v29, val_main_cst_3, val_main_v3, val_main_v0]
  rw [e]
  simp only [v34_apply, v31_apply, v33_apply, v28_apply]
  rfl

/-- The reference's result at an index. -/
theorem v39_apply (n : Fin 32768) (d : Fin 1024) :
    val_main_v39 (F := Ideal) X M G W1 W3 W2 (ix2 n d)
      = first (fun b s i => X (ix3 b s i)) (fun b i => M (ix2 b i)) (fun i => G (ix1 i)) (fun i f => W1 (ix2 i f))
          (fun i f => W3 (ix2 i f)) (fun f d => W2 (ix2 f d)) (batchOf n) (posOf n) d := by
  rw [← v38_apply]
  unfold val_main_v39
  generalize val_main_v38 (F := Ideal) X M G W1 W3 W2 = u
  pointwise []
  rfl

end Cert.Reference3Ideal.First

end
-- ==== Proof.LastPart.lean ====
/-
  The prompt's last part: the value of one block, entry by entry, and the result array.
-/
module

public import proofs.«01_k».proof.Proof.FfnSpec
public import proofs.«01_k».proof.Proof.Gen.Kernel2Ideal.Value
public import Idealize.ShloMosaic.Lib.Pipeline.ValueKit

@[expose] public section

set_option maxRecDepth 16384

noncomputable section

namespace Cert.Kernel2Ideal.Last

open Cert.Kernel2Ideal Cert.Kernel2Ideal.Gen Idealize.ShloMosaic Idealize.ShloMosaic.TcCoe Idealize.SL.Sem Cert.Ffn
open Idealize.ShloMosaic.Pipeline (Dat)

/-- The mixers' gate. -/
theorem pay2_apply (a : FVec Ideal S1x1x1024 .f32) (d : Fin 1024) : k0_pay2 (F := Ideal) a (ix2 0 d) = a (ix3 0 0 d) := by
  pointwise [k0_pay2]

/-- The shift. -/
theorem pay10_apply (a : FVec Ideal S1x1x1024 .f32) (d : Fin 1024) : k0_pay10 (F := Ideal) a (ix2 0 d) = a (ix3 0 0 d) := by
  pointwise [k0_pay10]

/-- The step's gate. -/
theorem pay11_apply (a : FVec Ideal S1x1x1024 .f32) (d : Fin 1024) : k0_pay11 (F := Ideal) a (ix2 0 d) = a (ix3 0 0 d) := by
  pointwise [k0_pay11]

/-- One plus the scale. -/
theorem pay13_apply (a : FVec Ideal S1x1x1024 .f32) (p : Fin 512) (d : Fin 1024) :
    k0_pay13 (F := Ideal) a (ix2 p d) = 1 + a (ix3 0 0 d) := by
  pointwise [k0_pay13]

/-- The third run's second matrix. -/
theorem pay17_apply (a : FVec Ideal S1024x768 .bf16) (i : Fin 1024) (f : Fin 768) :
    k0_pay17 (F := Ideal) a (ix2 i f) = a (ix2 i f) := by
  pointwise [k0_pay17]

/-- The first head's gated output. -/
theorem pay3_apply (o : FVec Ideal S512x128 .f32) (g : FVec Ideal S1x128 .f32) (q : FVec Ideal S512x128 .f32) (p : Fin 512) (v : Fin 128) :
    k0_pay3 (F := Ideal) o g q (ix2 p v) = scaled 0x43000000#32 (fun j => o (ix2 p j)) (fun j => g (ix2 0 j)) v * silu (q (ix2 p v)) := by
  pointwise [k0_pay3]
  rfl

/-- The second head's scaled output. -/
theorem pay4_apply (o : FVec Ideal S512x128 .f32) (g : FVec Ideal S1x128 .f32) (p : Fin 512) (v : Fin 128) :
    k0_pay4 (F := Ideal) o g (ix2 p v) = scaled 0x43000000#32 (fun j => o (ix2 p j)) (fun j => g (ix2 0 j)) v := by
  pointwise [k0_pay4]
  rfl

/-- Times its gate. -/
theorem pay5_apply (a q : FVec Ideal S512x128 .f32) (i : S512x128.Idx) :
    k0_pay5 (F := Ideal) a q i = a i * silu (q i) := rfl

/-- The third head's gated output. -/
theorem pay6_apply (o : FVec Ideal S512x128 .f32) (g : FVec Ideal S1x128 .f32) (q : FVec Ideal S512x128 .f32) (p : Fin 512) (v : Fin 128) :
    k0_pay6 (F := Ideal) o g q (ix2 p v) = scaled 0x43000000#32 (fun j => o (ix2 p j)) (fun j => g (ix2 0 j)) v * silu (q (ix2 p v)) := by
  pointwise [k0_pay6]
  rfl

/-- The fourth head's scaled output. -/
theorem pay7_apply (o : FVec Ideal S512x128 .f32) (g : FVec Ideal S1x128 .f32) (p : Fin 512) (v : Fin 128) :
    k0_pay7 (F := Ideal) o g (ix2 p v) = scaled 0x43000000#32 (fun j => o (ix2 p j)) (fun j => g (ix2 0 j)) v := by
  pointwise [k0_pay7]
  rfl

/-- Its gate. -/
theorem pay8_apply (q : FVec Ideal S512x128 .f32) (i : S512x128.Idx) : k0_pay8 (F := Ideal) q i = silu (q i) := rfl

/-- The row after the mixers, from the four heads' gated outputs. -/
theorem pay9_apply (v1 : FVec Ideal S1x1024 .f32) (v2 : FVec Ideal S512x512 .bf16) (v21 v40 v59 v74 v77 : FVec Ideal S512x128 .f32)
    (v81 v84 : FVec Ideal S512x1024 .bf16) (v88 : FVec Ideal S512x1024 .f32) (gl : Fin 512 → EReal) (p : Fin 512) (d : Fin 1024)
    (h0 : ∀ v, v21 (ix2 p v) = gl (lane 0 v)) (h1 : ∀ v, v40 (ix2 p v) = gl (lane 1 v)) (h2 : ∀ v, v59 (ix2 p v) = gl (lane 2 v))
    (h3 : ∀ v, v74 (ix2 p v) * v77 (ix2 p v) = gl (lane 3 v)) :
    k0_pay9 (F := Ideal) v1 v2 v21 v40 v59 v74 v77 v81 v84 v88 (ix2 p d)
      = v88 (ix2 p d) + v1 (ix2 0 d) * (∑ c, v2 (ix2 p c) * v81 (ix2 c d) + ∑ c, gl c * v84 (ix2 c d)) := by
  pointwise [k0_pay9]
  refine congrArg (fun z => v88 (ix2 p d) + v1 (ix2 0 d) * (_ + z)) (Finset.sum_congr rfl fun c _ => ?_)
  refine congrArg (fun z => z * v84 (ix2 c d)) ?_
  split
  · rw [h0]; exact congrArg gl (Fin.ext (by show 128 * 0 + c.val = c.val; omega))
  · split
    · rw [h1]; exact congrArg gl (Fin.ext (by show 128 * 1 + (c.val - 128) = c.val; omega))
    · split
      · rw [h2]; exact congrArg gl (Fin.ext (by show 128 * 2 + (c.val - 128 - 128) = c.val; omega))
      · rw [h3]; exact congrArg gl (Fin.ext (by show 128 * 3 + (c.val - 128 - 128 - 128) = c.val; omega))

/-- The scaled row. -/
theorem pay12_apply (v1 : FVec Ideal S1x1024 .f32) (v2 : FVec Ideal S512x512 .bf16) (v21 v40 v59 v74 v77 : FVec Ideal S512x128 .f32)
    (v81 v84 : FVec Ideal S512x1024 .bf16) (v88 : FVec Ideal S512x1024 .f32) (v98 : FVec Ideal S1x1024 .f32) (p : Fin 512) (d : Fin 1024) :
    k0_pay12 (F := Ideal) v1 v2 v21 v40 v59 v74 v77 v81 v84 v88 v98 (ix2 p d)
      = scaled 0x44800000#32 (fun i => k0_pay9 (F := Ideal) v1 v2 v21 v40 v59 v74 v77 v81 v84 v88 (ix2 p i)) (fun i => v98 (ix2 0 i)) d := by
  unfold k0_pay12
  generalize k0_pay9 (F := Ideal) v1 v2 v21 v40 v59 v74 v77 v81 v84 v88 = u
  pointwise []
  rfl

/-- The modulated row. -/
theorem pay14_apply (v93 : FVec Ideal S1x1024 .f32) (v111 v114 : FVec Ideal S512x1024 .f32) (p : Fin 512) (d : Fin 1024) :
    k0_pay14 (F := Ideal) v93 v111 v114 (ix2 p d) = v111 (ix2 p d) * v114 (ix2 p d) + v93 (ix2 0 d) := by
  pointwise [k0_pay14]

/-- The first two runs of hidden columns. -/
theorem pay15_apply (v93 : FVec Ideal S1x1024 .f32) (v111 v114 : FVec Ideal S512x1024 .f32) (v119 v122 v129 v132 v135 v142 : FVec Ideal S1024x1024 .bf16)
    (p : Fin 512) (d : Fin 1024) :
    k0_pay15 (F := Ideal) v93 v111 v114 v119 v122 v129 v132 v135 v142 (ix2 p d)
      = ∑ f, hidden (fun i => k0_pay14 (F := Ideal) v93 v111 v114 (ix2 p i)) (fun i => v119 (ix2 i f)) (fun i => v122 (ix2 i f)) * v129 (ix2 f d)
        + ∑ f, hidden (fun i => k0_pay14 (F := Ideal) v93 v111 v114 (ix2 p i)) (fun i => v132 (ix2 i f)) (fun i => v135 (ix2 i f)) * v142 (ix2 f d) := by
  unfold k0_pay15
  generalize k0_pay14 (F := Ideal) v93 v111 v114 = h
  pointwise []
  rfl

/-- The third run's first projection. -/
theorem pay16_apply (v93 : FVec Ideal S1x1024 .f32) (v111 v114 : FVec Ideal S512x1024 .f32) (v146 : FVec Ideal S1024x768 .bf16)
    (p : Fin 512) (f : Fin 768) :
    k0_pay16 (F := Ideal) v93 v111 v114 v146 (ix2 p f) = ∑ i, k0_pay14 (F := Ideal) v93 v111 v114 (ix2 p i) * v146 (ix2 i f) := by
  unfold k0_pay16
  generalize k0_pay14 (F := Ideal) v93 v111 v114 = h
  pointwise []

/-- The third run, the step's sum and the last scaling. -/
theorem pay1_apply (v91 : FVec Ideal S512x1024 .f32) (v97 : FVec Ideal S1x1024 .f32) (v118 : FVec Ideal S512x1024 .bf16)
    (v145 : FVec Ideal S512x1024 .f32) (v148 : FVec Ideal S512x768 .f32) (v150 : FVec Ideal S1024x768 .bf16)
    (v156 : FVec Ideal S768x1024 .bf16) (v165 : FVec Ideal S1x1024 .f32) (p : Fin 512) (d : Fin 1024) :
    k0_pay1 (F := Ideal) v91 v97 v118 v145 v148 v150 (constant S512x768 .f32 0x00000000#32) v156 v165 (ix2 p d)
      = scaled 0x44800000#32 (fun e => v91 (ix2 p e) + Ideal.ofBits .f32 0x3F000000#32 * v97 (ix2 0 e)
          * (v145 (ix2 p e) + ∑ f, silu (v148 (ix2 p f)) * (∑ i, v118 (ix2 p i) * v150 (ix2 i f)) * v156 (ix2 f e)))
        (fun e => v165 (ix2 0 e)) d := by
  pointwise [k0_pay1]
  rfl

/-- A head's column of the four heads' columns. -/
theorem gatedAt_lane (o gg : Fin 512 → EReal) (g : Fin 128 → EReal) (h : Fin 4) (v : Fin 128) :
    gatedAt o gg g (lane h v) = gated o gg g h v := by
  have e1 : (⟨(lane h v).val / 128, by have := (lane h v).isLt; omega⟩ : Fin 4) = h :=
    Fin.ext (by show (128 * h.val + v.val) / 128 = h.val; omega)
  have e2 : (⟨(lane h v).val % 128, by omega⟩ : Fin 128) = v := Fin.ext (by show (128 * h.val + v.val) % 128 = v.val; omega)
  unfold gatedAt
  rw [e1, e2]

/-- What the body makes of its loads, entry by entry: the layer's last part on that row. -/
theorem made (g2 sh sc ga : Vec Ideal S1x1x1024 .f32) (om : Vec Ideal S512x512 .bf16) (o0 o1 o2 o3 q0 q1 q2 q3 : Vec Ideal S512x128 .f32)
    (gn : Vec Ideal S1x128 .f32) (wa wb : Vec Ideal S512x1024 .bf16) (x : Vec Ideal S512x1024 .f32) (gr gf : Vec Ideal S1x1024 .f32)
    (a1 b1 c1 a2 b2 c2 : Vec Ideal S1024x1024 .bf16) (a3 b3 : Vec Ideal S1024x768 .bf16) (c3 : Vec Ideal S768x1024 .bf16)
    (X GT : Fin 1024 → EReal) (OM O GG : Fin 512 → EReal) (GH : Fin 128 → EReal) (WO : Fin 1024 → Fin 1024 → EReal)
    (G SC SH GA : Fin 1024 → EReal) (W1 W3 : Fin 1024 → Fin 2816 → EReal) (W2 : Fin 2816 → Fin 1024 → EReal) (GE : Fin 1024 → EReal)
    (p : Fin 512) (d : Fin 1024)
    (hx : ∀ i, x (ix2 p i) = X i) (hg2 : ∀ i, g2 (ix3 0 0 i) = GT i) (hsh : ∀ i, sh (ix3 0 0 i) = SH i)
    (hsc : ∀ i, sc (ix3 0 0 i) = SC i) (hga : ∀ i, ga (ix3 0 0 i) = GA i) (hom : ∀ c, om (ix2 p c) = OM c)
    (ho0 : ∀ v, o0 (ix2 p v) = O (lane 0 v)) (ho1 : ∀ v, o1 (ix2 p v) = O (lane 1 v)) (ho2 : ∀ v, o2 (ix2 p v) = O (lane 2 v))
    (ho3 : ∀ v, o3 (ix2 p v) = O (lane 3 v)) (hq0 : ∀ v, q0 (ix2 p v) = GG (lane 0 v)) (hq1 : ∀ v, q1 (ix2 p v) = GG (lane 1 v))
    (hq2 : ∀ v, q2 (ix2 p v) = GG (lane 2 v)) (hq3 : ∀ v, q3 (ix2 p v) = GG (lane 3 v)) (hgn : ∀ v, gn (ix2 0 v) = GH v)
    (hwa : ∀ c i, wa (ix2 c i) = WO ⟨c.val, by omega⟩ i) (hwb : ∀ c i, wb (ix2 c i) = WO ⟨512 + c.val, by omega⟩ i)
    (hgr : ∀ i, gr (ix2 0 i) = G i) (hgf : ∀ i, gf (ix2 0 i) = GE i)
    (ha1 : ∀ i f, a1 (ix2 i f) = W1 i ⟨f.val, by omega⟩) (hb1 : ∀ i f, b1 (ix2 i f) = W3 i ⟨f.val, by omega⟩)
    (ha2 : ∀ i f, a2 (ix2 i f) = W1 i ⟨1024 + f.val, by omega⟩) (hb2 : ∀ i f, b2 (ix2 i f) = W3 i ⟨1024 + f.val, by omega⟩)
    (ha3 : ∀ i f, a3 (ix2 i f) = W1 i ⟨2048 + f.val, by omega⟩) (hb3 : ∀ i f, b3 (ix2 i f) = W3 i ⟨2048 + f.val, by omega⟩)
    (hc1 : ∀ f i, c1 (ix2 f i) = W2 ⟨f.val, by omega⟩ i) (hc2 : ∀ f i, c2 (ix2 f i) = W2 ⟨1024 + f.val, by omega⟩ i)
    (hc3 : ∀ f i, c3 (ix2 f i) = W2 ⟨2048 + f.val, by omega⟩ i) :
    k0_pay1 (F := Ideal) (k0_pay9 (k0_pay2 g2) om (k0_pay3 o0 gn q0) (k0_pay5 (k0_pay4 o1 gn) q1) (k0_pay6 o2 gn q2) (k0_pay7 o3 gn) (k0_pay8 q3) wa wb x)
        (k0_pay11 ga)
        (k0_pay14 (k0_pay10 sh) (k0_pay12 (k0_pay2 g2) om (k0_pay3 o0 gn q0) (k0_pay5 (k0_pay4 o1 gn) q1) (k0_pay6 o2 gn q2) (k0_pay7 o3 gn) (k0_pay8 q3) wa wb x gr) (k0_pay13 sc))
        (k0_pay15 (k0_pay10 sh) (k0_pay12 (k0_pay2 g2) om (k0_pay3 o0 gn q0) (k0_pay5 (k0_pay4 o1 gn) q1) (k0_pay6 o2 gn q2) (k0_pay7 o3 gn) (k0_pay8 q3) wa wb x gr) (k0_pay13 sc) a1 b1 c1 a2 b2 c2)
        (k0_pay16 (k0_pay10 sh) (k0_pay12 (k0_pay2 g2) om (k0_pay3 o0 gn q0) (k0_pay5 (k0_pay4 o1 gn) q1) (k0_pay6 o2 gn q2) (k0_pay7 o3 gn) (k0_pay8 q3) wa wb x gr) (k0_pay13 sc) a3)
        (k0_pay17 b3) (constant S512x768 .f32 0x00000000#32) c3 gf (ix2 p d)
      = lastRow X GT OM O GG GH WO G SC SH GA W1 W3 W2 GE d := by
  have hm : ∀ e, k0_pay9 (F := Ideal) (k0_pay2 g2) om (k0_pay3 o0 gn q0) (k0_pay5 (k0_pay4 o1 gn) q1) (k0_pay6 o2 gn q2) (k0_pay7 o3 gn) (k0_pay8 q3) wa wb x (ix2 p e)
      = mixed X GT OM (gatedAt O GG GH) WO e := fun e => by
    rw [pay9_apply _ _ _ _ _ _ _ _ _ _ (gatedAt O GG GH) p e
      (fun v => by rw [pay3_apply, gatedAt_lane]; simp only [ho0, hq0, hgn]; rfl)
      (fun v => by rw [pay5_apply, pay4_apply, gatedAt_lane]; simp only [ho1, hq1, hgn]; rfl)
      (fun v => by rw [pay6_apply, gatedAt_lane]; simp only [ho2, hq2, hgn]; rfl)
      (fun v => by rw [pay7_apply, pay8_apply, gatedAt_lane]; simp only [ho3, hq3, hgn]; rfl)]
    simp only [hx, pay2_apply, hg2, hom, hwa, hwb]
    rfl
  have hh : ∀ e, k0_pay14 (F := Ideal) (k0_pay10 sh) (k0_pay12 (k0_pay2 g2) om (k0_pay3 o0 gn q0) (k0_pay5 (k0_pay4 o1 gn) q1) (k0_pay6 o2 gn q2) (k0_pay7 o3 gn) (k0_pay8 q3) wa wb x gr) (k0_pay13 sc) (ix2 p e)
      = modulated (mixed X GT OM (gatedAt O GG GH) WO) G SC SH e := fun e => by
    rw [pay14_apply, pay12_apply, pay13_apply, pay10_apply]
    simp only [hm, hgr, hsc, hsh]
    rfl
  rw [pay1_apply]
  simp only [pay15_apply, pay16_apply, pay17_apply, pay11_apply, hm, hh, hga, hgf, ha1, hb1, ha2, hb2, ha3, hb3, hc1, hc2, hc3]
  unfold lastRow step mlp
  simp only [sum_runs]
  rfl

/-- The mixers' gate, whole. -/
theorem ld0 (x : Vec Ideal S1x1x1024 .f32) (d : Fin 1024) :
    View.ld (Val := Elt Ideal) x r0_0 (ix3 0 0 d) = x (ix3 0 0 d) := by
  refine congrArg x (funext fun a => Fin.ext ?_)
  match a with
  | ⟨0, _⟩ => rfl
  | ⟨1, _⟩ => rfl
  | ⟨2, _⟩ => show 0 + 1 * d.val = d.val; omega

/-- The first mixer's output, whole. -/
theorem ld1 (x : Vec Ideal S512x512 .bf16) (p : Fin 512) (d : Fin 512) :
    View.ld (Val := Elt Ideal) x r0_1 (ix2 p d) = x (ix2 p d) := by
  refine congrArg x (funext fun a => Fin.ext ?_)
  match a with
  | ⟨0, _⟩ => show 0 + 1 * p.val = p.val; omega
  | ⟨1, _⟩ => show 0 + 1 * d.val = d.val; omega

/-- The first head's columns. -/
theorem ld2 (x : Vec Ideal S512x512 .f32) (p : Fin 512) (d : Fin 128) :
    View.ld (Val := Elt Ideal) x r0_2 (ix2 p d) = x (ix2 p ⟨d.val, by omega⟩) := by
  refine congrArg x (funext fun a => Fin.ext ?_)
  match a with
  | ⟨0, _⟩ => show 0 + 1 * p.val = p.val; omega
  | ⟨1, _⟩ => show 0 + 1 * d.val = d.val; omega

/-- The heads' gains. -/
theorem ld3 (x : Vec Ideal S1x128 .f32) (p : Fin 1) (d : Fin 128) :
    View.ld (Val := Elt Ideal) x r0_3 (ix2 p d) = x (ix2 0 d) := by
  refine congrArg x (funext fun a => Fin.ext ?_)
  match a with
  | ⟨0, _⟩ => show 0 + 1 * p.val = 0; omega
  | ⟨1, _⟩ => show 0 + 1 * d.val = d.val; omega

/-- The columns of head 1 counted from zero. -/
theorem ld4 (x : Vec Ideal S512x512 .f32) (p : Fin 512) (d : Fin 128) :
    View.ld (Val := Elt Ideal) x r0_4 (ix2 p d) = x (ix2 p ⟨128 + d.val, by omega⟩) := by
  refine congrArg x (funext fun a => Fin.ext ?_)
  match a with
  | ⟨0, _⟩ => show 0 + 1 * p.val = p.val; omega
  | ⟨1, _⟩ => show 128 + 1 * d.val = 128 + d.val; omega

/-- The columns of head 2 counted from zero. -/
theorem ld5 (x : Vec Ideal S512x512 .f32) (p : Fin 512) (d : Fin 128) :
    View.ld (Val := Elt Ideal) x r0_5 (ix2 p d) = x (ix2 p ⟨256 + d.val, by omega⟩) := by
  refine congrArg x (funext fun a => Fin.ext ?_)
  match a with
  | ⟨0, _⟩ => show 0 + 1 * p.val = p.val; omega
  | ⟨1, _⟩ => show 256 + 1 * d.val = 256 + d.val; omega

/-- The columns of head 3 counted from zero. -/
theorem ld6 (x : Vec Ideal S512x512 .f32) (p : Fin 512) (d : Fin 128) :
    View.ld (Val := Elt Ideal) x r0_6 (ix2 p d) = x (ix2 p ⟨384 + d.val, by omega⟩) := by
  refine congrArg x (funext fun a => Fin.ext ?_)
  match a with
  | ⟨0, _⟩ => show 0 + 1 * p.val = p.val; omega
  | ⟨1, _⟩ => show 384 + 1 * d.val = 384 + d.val; omega

/-- A whole block of rows. -/
theorem ld7 (x : Vec Ideal S512x1024 .f32) (p : Fin 512) (d : Fin 1024) :
    View.ld (Val := Elt Ideal) x r0_7 (ix2 p d) = x (ix2 p d) := by
  refine congrArg x (funext fun a => Fin.ext ?_)
  match a with
  | ⟨0, _⟩ => show 0 + 1 * p.val = p.val; omega
  | ⟨1, _⟩ => show 0 + 1 * d.val = d.val; omega

/-- Half the matrix the mixers' outputs go through. -/
theorem ld7b (x : Vec Ideal S512x1024 .bf16) (p : Fin 512) (d : Fin 1024) :
    View.ld (Val := Elt Ideal) x r0_7 (ix2 p d) = x (ix2 p d) := by
  refine congrArg x (funext fun a => Fin.ext ?_)
  match a with
  | ⟨0, _⟩ => show 0 + 1 * p.val = p.val; omega
  | ⟨1, _⟩ => show 0 + 1 * d.val = d.val; omega

/-- The shift's columns of the modulation. -/
theorem ld8 (x : Vec Ideal S1x1x3072 .f32) (d : Fin 1024) :
    View.ld (Val := Elt Ideal) x r0_8 (ix3 0 0 d) = x (ix3 0 0 ⟨d.val, by omega⟩) := by
  refine congrArg x (funext fun a => Fin.ext ?_)
  match a with
  | ⟨0, _⟩ => rfl
  | ⟨1, _⟩ => rfl
  | ⟨2, _⟩ => show 0 + 1 * d.val = d.val; omega

/-- The scale's columns of the modulation. -/
theorem ld9 (x : Vec Ideal S1x1x3072 .f32) (d : Fin 1024) :
    View.ld (Val := Elt Ideal) x r0_9 (ix3 0 0 d) = x (ix3 0 0 ⟨1024 + d.val, by omega⟩) := by
  refine congrArg x (funext fun a => Fin.ext ?_)
  match a with
  | ⟨0, _⟩ => rfl
  | ⟨1, _⟩ => rfl
  | ⟨2, _⟩ => show 1024 + 1 * d.val = 1024 + d.val; omega

/-- The gate's columns of the modulation. -/
theorem ld10 (x : Vec Ideal S1x1x3072 .f32) (d : Fin 1024) :
    View.ld (Val := Elt Ideal) x r0_10 (ix3 0 0 d) = x (ix3 0 0 ⟨2048 + d.val, by omega⟩) := by
  refine congrArg x (funext fun a => Fin.ext ?_)
  match a with
  | ⟨0, _⟩ => rfl
  | ⟨1, _⟩ => rfl
  | ⟨2, _⟩ => show 2048 + 1 * d.val = 2048 + d.val; omega

/-- A row of gains. -/
theorem ld11 (x : Vec Ideal S1x1024 .f32) (p : Fin 1) (d : Fin 1024) :
    View.ld (Val := Elt Ideal) x r0_11 (ix2 p d) = x (ix2 0 d) := by
  refine congrArg x (funext fun a => Fin.ext ?_)
  match a with
  | ⟨0, _⟩ => show 0 + 1 * p.val = 0; omega
  | ⟨1, _⟩ => show 0 + 1 * d.val = d.val; omega

/-- The first run of hidden columns. -/
theorem ld12 (x : Vec Ideal S1024x2816 .bf16) (p : Fin 1024) (d : Fin 1024) :
    View.ld (Val := Elt Ideal) x r0_12 (ix2 p d) = x (ix2 p ⟨d.val, by omega⟩) := by
  refine congrArg x (funext fun a => Fin.ext ?_)
  match a with
  | ⟨0, _⟩ => show 0 + 1 * p.val = p.val; omega
  | ⟨1, _⟩ => show 0 + 1 * d.val = d.val; omega

/-- The first run of hidden rows. -/
theorem ld13 (x : Vec Ideal S2816x1024 .bf16) (p : Fin 1024) (d : Fin 1024) :
    View.ld (Val := Elt Ideal) x r0_13 (ix2 p d) = x (ix2 ⟨p.val, by omega⟩ d) := by
  refine congrArg x (funext fun a => Fin.ext ?_)
  match a with
  | ⟨0, _⟩ => show 0 + 1 * p.val = p.val; omega
  | ⟨1, _⟩ => show 0 + 1 * d.val = d.val; omega

/-- The second run of hidden columns. -/
theorem ld14 (x : Vec Ideal S1024x2816 .bf16) (p : Fin 1024) (d : Fin 1024) :
    View.ld (Val := Elt Ideal) x r0_14 (ix2 p d) = x (ix2 p ⟨1024 + d.val, by omega⟩) := by
  refine congrArg x (funext fun a => Fin.ext ?_)
  match a with
  | ⟨0, _⟩ => show 0 + 1 * p.val = p.val; omega
  | ⟨1, _⟩ => show 1024 + 1 * d.val = 1024 + d.val; omega

/-- The second run of hidden rows. -/
theorem ld15 (x : Vec Ideal S2816x1024 .bf16) (p : Fin 1024) (d : Fin 1024) :
    View.ld (Val := Elt Ideal) x r0_15 (ix2 p d) = x (ix2 ⟨1024 + p.val, by omega⟩ d) := by
  refine congrArg x (funext fun a => Fin.ext ?_)
  match a with
  | ⟨0, _⟩ => show 1024 + 1 * p.val = 1024 + p.val; omega
  | ⟨1, _⟩ => show 0 + 1 * d.val = d.val; omega

/-- The third run of hidden columns. -/
theorem ld16 (x : Vec Ideal S1024x2816 .bf16) (p : Fin 1024) (d : Fin 768) :
    View.ld (Val := Elt Ideal) x r0_16 (ix2 p d) = x (ix2 p ⟨2048 + d.val, by omega⟩) := by
  refine congrArg x (funext fun a => Fin.ext ?_)
  match a with
  | ⟨0, _⟩ => show 0 + 1 * p.val = p.val; omega
  | ⟨1, _⟩ => show 2048 + 1 * d.val = 2048 + d.val; omega

/-- The third run of hidden rows. -/
theorem ld17 (x : Vec Ideal S2816x1024 .bf16) (p : Fin 768) (d : Fin 1024) :
    View.ld (Val := Elt Ideal) x r0_17 (ix2 p d) = x (ix2 ⟨2048 + p.val, by omega⟩ d) := by
  refine congrArg x (funext fun a => Fin.ext ?_)
  match a with
  | ⟨0, _⟩ => show 2048 + 1 * p.val = 2048 + p.val; omega
  | ⟨1, _⟩ => show 0 + 1 * d.val = d.val; omega

variable (m : (ℓ : Loc nD τ sig) → Buf (Elt Ideal) ℓ)

/-- Where window 0's block lies. -/
theorem e0 : ∀ t : Fin cfg0.N, win0_0.index t = ![t.val, 0] := by decide +kernel
/-- Where window 1's block lies. -/
theorem e1 : ∀ t : Fin cfg0.N, win0_1.index t = ![t.val / 4, 0, 5] := by decide +kernel
/-- Where window 2's block lies. -/
theorem e2 : ∀ t : Fin cfg0.N, win0_2.index t = ![t.val / 4, 0, 2] := by decide +kernel
/-- Where window 3's block lies. -/
theorem e3 : ∀ t : Fin cfg0.N, win0_3.index t = ![t.val, 0] := by decide +kernel
/-- Where window 4's block lies. -/
theorem e4 : ∀ t : Fin cfg0.N, win0_4.index t = ![t.val, 0] := by decide +kernel
/-- Where window 5's block lies. -/
theorem e5 : ∀ t : Fin cfg0.N, win0_5.index t = ![t.val, 0] := by decide +kernel
/-- Where window 6's block lies. -/
theorem e6 : ∀ t : Fin cfg0.N, win0_6.index t = ![0, 0] := by decide +kernel
/-- Where window 8's block lies. -/
theorem e8 : ∀ t : Fin cfg0.N, win0_8.index t = ![0, 0] := by decide +kernel
/-- Where window 9's block lies. -/
theorem e9 : ∀ t : Fin cfg0.N, win0_9.index t = ![0, 0] := by decide +kernel
/-- Where window 10's block lies. -/
theorem e10 : ∀ t : Fin cfg0.N, win0_10.index t = ![0, 0] := by decide +kernel
/-- Where window 11's block lies. -/
theorem e11 : ∀ t : Fin cfg0.N, win0_11.index t = ![0, 0] := by decide +kernel
/-- Where window 12's block lies. -/
theorem e12 : ∀ t : Fin cfg0.N, win0_12.index t = ![0, 0] := by decide +kernel
/-- Where window 13's block lies. -/
theorem e13 : ∀ t : Fin cfg0.N, win0_13.index t = ![0, 0] := by decide +kernel
/-- Where window 14's block lies. -/
theorem e14 : ∀ t : Fin cfg0.N, win0_14.index t = ![0, 0] := by decide +kernel
/-- Where window 15's block lies. -/
theorem e15 : ∀ t : Fin cfg0.N, win0_15.index t = ![t.val, 0] := by decide +kernel

/-- The batch row of a grid point. -/
def bat (t : Fin cfg0.N) : Fin 16 := ⟨t.val / 4, by have h : t.val < 64 := t.isLt; omega⟩

/-- The row of the flattened prompt a row of a grid point's block is. -/
def flat (t : Fin cfg0.N) (p : Fin 512) : Fin 32768 := ⟨512 * t.val + p.val, by have h : t.val < 64 := t.isLt; omega⟩

/-- The rows a grid point reads. -/
theorem blk0 (c : Dev nD) (t : Fin cfg0.N) (p : Fin 512) (i : Fin 1024) :
    iblk m c 0 t (ix2 p i) = m ((c : Thread nD τ).loc main_arg0) (ix2 (flat t p) i) := by
  unfold flat
  blk_ext! [iblk, V, e0 t]

/-- The mixers' gate a grid point reads. -/
theorem blk1 (c : Dev nD) (t : Fin cfg0.N) (i : Fin 1024) :
    iblk m c 1 t (ix3 0 0 i) = m ((c : Thread nD τ).loc main_arg1) (ix2 (bat t) ⟨5120 + i.val, by omega⟩) := by
  unfold bat
  blk_ext! [iblk, V, e1 t]

/-- The modulation a grid point reads. -/
theorem blk2 (c : Dev nD) (t : Fin cfg0.N) (i : Fin 3072) :
    iblk m c 2 t (ix3 0 0 i) = m ((c : Thread nD τ).loc main_arg1) (ix2 (bat t) ⟨6144 + i.val, by omega⟩) := by
  unfold bat
  blk_ext! [iblk, V, e2 t]

/-- The first mixer's rows. -/
theorem blk3 (c : Dev nD) (t : Fin cfg0.N) (p : Fin 512) (i : Fin 512) :
    iblk m c 3 t (ix2 p i) = m ((c : Thread nD τ).loc main_arg2) (ix2 (flat t p) i) := by
  unfold flat
  blk_ext! [iblk, V, e3 t]

/-- The second mixer's rows. -/
theorem blk4 (c : Dev nD) (t : Fin cfg0.N) (p : Fin 512) (i : Fin 512) :
    iblk m c 4 t (ix2 p i) = m ((c : Thread nD τ).loc main_arg3) (ix2 (flat t p) i) := by
  unfold flat
  blk_ext! [iblk, V, e4 t]

/-- The second mixer's gates. -/
theorem blk5 (c : Dev nD) (t : Fin cfg0.N) (p : Fin 512) (i : Fin 512) :
    iblk m c 5 t (ix2 p i) = m ((c : Thread nD τ).loc main_arg4) (ix2 (flat t p) i) := by
  unfold flat
  blk_ext! [iblk, V, e5 t]

/-- The heads' gains. -/
theorem blk6 (c : Dev nD) (t : Fin cfg0.N) (i : Fin 128) :
    iblk m c 6 t (ix2 0 i) = m ((c : Thread nD τ).loc main_arg5) (ix1 i) := by
  blk_ext! [iblk, V, e6 t]

/-- The matrix's first half. -/
theorem blk8 (c : Dev nD) (t : Fin cfg0.N) (i : Fin 512) (d : Fin 1024) :
    iblk m c 8 t (ix2 i d) = m ((c : Thread nD τ).loc main_arg7) (ix2 ⟨i.val, by omega⟩ d) := by
  blk_ext! [iblk, V, e8 t]

/-- The matrix's second half. -/
theorem blk9 (c : Dev nD) (t : Fin cfg0.N) (i : Fin 512) (d : Fin 1024) :
    iblk m c 9 t (ix2 i d) = m ((c : Thread nD τ).loc main_arg7) (ix2 ⟨512 + i.val, by omega⟩ d) := by
  blk_ext! [iblk, V, e9 t]

/-- The step's gains. -/
theorem blk10 (c : Dev nD) (t : Fin cfg0.N) (i : Fin 1024) :
    iblk m c 10 t (ix2 0 i) = m ((c : Thread nD τ).loc main_arg8) (ix1 i) := by
  blk_ext! [iblk, V, e10 t]

/-- The step's first matrix. -/
theorem blk11 (c : Dev nD) (t : Fin cfg0.N) (i : Fin 1024) (f : Fin 2816) :
    iblk m c 11 t (ix2 i f) = m ((c : Thread nD τ).loc main_arg9) (ix2 i f) := by
  blk_ext! [iblk, V, e11 t]

/-- The step's second matrix. -/
theorem blk12 (c : Dev nD) (t : Fin cfg0.N) (i : Fin 1024) (f : Fin 2816) :
    iblk m c 12 t (ix2 i f) = m ((c : Thread nD τ).loc main_arg10) (ix2 i f) := by
  blk_ext! [iblk, V, e12 t]

/-- The step's third matrix. -/
theorem blk13 (c : Dev nD) (t : Fin cfg0.N) (f : Fin 2816) (i : Fin 1024) :
    iblk m c 13 t (ix2 f i) = m ((c : Thread nD τ).loc main_arg11) (ix2 f i) := by
  blk_ext! [iblk, V, e13 t]

/-- The last gains. -/
theorem blk14 (c : Dev nD) (t : Fin cfg0.N) (i : Fin 1024) :
    iblk m c 14 t (ix2 0 i) = m ((c : Thread nD τ).loc main_arg12) (ix1 i) := by
  blk_ext! [iblk, V, e14 t]

/-- Where a grid point's block of the result lies. -/
theorem blk15 (t : Fin cfg0.N) (X : FVec Ideal S32768x1024 .f32) (p : Fin 512) (d : Fin 1024) (y : ((cfg0.win 15).xblock (cfg0.grid.coords t)).Idx)
    (h0 : (y 0).val = p.val) (h1 : (y 1).val = d.val) : X ((win0_15.blk t).view.emb y) = X (ix2 (flat t p) d) := by
  unfold flat
  blk_ext [e15 t]

/-- The kernel's result from its arguments. -/
def R (X : FVec Ideal S32768x1024 .f32) (M : FVec Ideal S16x9216 .f32) (OM : FVec Ideal S32768x512 .bf16)
    (O GG : FVec Ideal S32768x512 .f32) (GH : FVec Ideal S128 .f32) (WO : FVec Ideal S1024x1024 .f32) (G : FVec Ideal S1024 .f32)
    (W1 W3 : FVec Ideal S1024x2816 .f32) (W2 : FVec Ideal S2816x1024 .f32) (GE : FVec Ideal S1024 .f32) :
    FVec Ideal S32768x1024 .f32 := fun y =>
  last (fun n i => X (ix2 n i)) (fun b i => M (ix2 b i)) (fun n i => OM (ix2 n i)) (fun n i => O (ix2 n i)) (fun n i => GG (ix2 n i))
    (fun i => GH (ix1 i)) (fun i d => WO (ix2 i d)) (fun i => G (ix1 i)) (fun i f => W1 (ix2 i f)) (fun i f => W3 (ix2 i f))
    (fun f d => W2 (ix2 f d)) (fun i => GE (ix1 i)) (batchOf (y 0)) (y 0) (y 1)

/-- The kernel's result array is the layer's last part on every row of the flattened prompt. -/
theorem arr (c : Dev nD) : (dats m 0 c).arrAt 15 cfg0.N
    = R (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12)) := by
  refine (dats m 0 c).arrAt_eq_of_covers 15 _ (by decide +kernel) fun t hf y => ?_
  blk_simp
  rw [after0_15]
  unfold out0_15 k0_pay26 k0_pay25 k0_pay24 k0_pay23 k0_pay22 k0_pay21 k0_pay20 k0_pay19 k0_pay18
  canon_tiles x h
  obtain ⟨p, hp⟩ : ∃ p : Fin 512, p = x 0 := ⟨_, rfl⟩
  obtain ⟨d, hd⟩ : ∃ d : Fin 1024, d = x 1 := ⟨_, rfl⟩
  have hx : x = ix2 p d := by rw [eq_ix2 x, hp, hd]
  refine Eq.trans ?_ (blk15 t (R _ _ _ _ _ _ _ _ _ _ _ _) p d y (by rw [hp]; omega) (by rw [hd]; omega)).symm
  rw [hx]
  have hb : batchOf (flat t p) = bat t := Fin.ext (by show (512 * t.val + p.val) / 2048 = t.val / 4; omega)
  show _ = last _ _ _ _ _ _ _ _ _ _ _ _ (batchOf (flat t p)) (flat t p) d
  rw [hb]
  unfold last
  exact made _ _ _ _ _ _ _ _ _ _ _ _ _ _ _ _ _ _ _ _ _ _ _ _ _ _ _ _ _ _ _ _ _ _ _ _ _ _ _ _ _ _ _ p d
    (fun i => (ld7 _ p i).trans (blk0 m c t p i))
    (fun i => (ld0 _ i).trans (blk1 m c t i))
    (fun i => (ld8 _ i).trans (blk2 m c t _))
    (fun i => (ld9 _ i).trans ((blk2 m c t _).trans (congrArg (fun z => m ((c : Thread nD τ).loc main_arg1) (ix2 (bat t) z)) (Fin.ext (by show 6144 + (1024 + i.val) = 7168 + i.val; omega)))))
    (fun i => (ld10 _ i).trans ((blk2 m c t _).trans (congrArg (fun z => m ((c : Thread nD τ).loc main_arg1) (ix2 (bat t) z)) (Fin.ext (by show 6144 + (2048 + i.val) = 8192 + i.val; omega)))))
    (fun i => (ld1 _ p i).trans (blk3 m c t p i))
    (fun v => (ld2 _ p v).trans ((blk4 m c t p _).trans (congrArg (fun z => m ((c : Thread nD τ).loc main_arg3) (ix2 (flat t p) z)) (Fin.ext (by show v.val = 128 * 0 + v.val; omega)))))
    (fun v => (ld4 _ p v).trans (blk4 m c t p _))
    (fun v => (ld5 _ p v).trans (blk4 m c t p _))
    (fun v => (ld6 _ p v).trans (blk4 m c t p _))
    (fun v => (ld2 _ p v).trans ((blk5 m c t p _).trans (congrArg (fun z => m ((c : Thread nD τ).loc main_arg4) (ix2 (flat t p) z)) (Fin.ext (by show v.val = 128 * 0 + v.val; omega)))))
    (fun v => (ld4 _ p v).trans (blk5 m c t p _))
    (fun v => (ld5 _ p v).trans (blk5 m c t p _))
    (fun v => (ld6 _ p v).trans (blk5 m c t p _))
    (fun v => (ld3 _ 0 v).trans (blk6 m c t v))
    (fun i d => (ld7b _ i d).trans (blk8 m c t i d))
    (fun i d => (ld7b _ i d).trans (blk9 m c t i d))
    (fun i => (ld11 _ 0 i).trans (blk10 m c t i))
    (fun i => (ld11 _ 0 i).trans (blk14 m c t i))
    (fun i f => (ld12 _ i f).trans (blk11 m c t i _))
    (fun i f => (ld12 _ i f).trans (blk12 m c t i _))
    (fun i f => (ld14 _ i f).trans (blk11 m c t i _))
    (fun i f => (ld14 _ i f).trans (blk12 m c t i _))
    (fun i f => (ld16 _ i f).trans (blk11 m c t i _))
    (fun i f => (ld16 _ i f).trans (blk12 m c t i _))
    (fun f i => (ld13 _ f i).trans (blk13 m c t _ i))
    (fun f i => (ld15 _ f i).trans (blk13 m c t _ i))
    (fun f i => (ld17 _ f i).trans (blk13 m c t _ i))

end Cert.Kernel2Ideal.Last

end
-- ==== Proof.RefLast.lean ====
/-
  The reference of the prompt's last part at an index: the same last part on the same row.
-/
module

public import proofs.«01_k».proof.Proof.FfnSpec
public import proofs.«01_k».proof.Proof.Gen.Reference2Ideal.Run
public import proofs.«01_k».proof.Proof.Gen.Reference2Ideal.Read
public import Idealize.ShloMosaic.Lib.Pointwise

@[expose] public section

set_option maxRecDepth 16384

noncomputable section

namespace Cert.Reference2Ideal.Last

open Cert.Reference2Ideal Cert.Reference2Ideal.Gen Cert.Reference2Ideal.Read Idealize.ShloMosaic Idealize.ShloMosaic.TcCoe Idealize.SL.Sem
open Cert.Ffn

variable (X : FVec Ideal S32768x1024 .f32) (M : FVec Ideal S16x9216 .f32) (OM : FVec Ideal S32768x512 .bf16)
  (O GG : FVec Ideal S32768x512 .f32) (GH : FVec Ideal S128 .f32) (WO : FVec Ideal S1024x1024 .f32) (G : FVec Ideal S1024 .f32)
  (W1 W3 : FVec Ideal S1024x2816 .f32) (W2 : FVec Ideal S2816x1024 .f32) (GE : FVec Ideal S1024 .f32)

/-- The row of the flattened prompt at a batch row and a position. -/
def rowAt (b : Fin 16) (s : Fin 2048) : Fin 32768 := ⟨b.val * 2048 + s.val, by omega⟩

/-- The heads' outputs, split into heads. -/
theorem v11_apply (b : Fin 16) (s : Fin 2048) (h : Fin 4) (v : Fin 128) :
    val_main_v11 (F := Ideal) O (ix4 b s h v) = O (ix2 (rowAt b s) (lane h v)) := by
  pointwise [val_main_v11]
  exact congrArg (fun z => O (ix2 (rowAt b s) z)) (Fin.ext (by show h.val * 128 + v.val = 128 * h.val + v.val; omega))

/-- A head's scaled output. -/
theorem v24_apply (b : Fin 16) (s : Fin 2048) (h : Fin 4) (v : Fin 128) :
    val_main_v24 (F := Ideal) O GH (ix4 b s h v)
      = scaled 0x43000000#32 (fun j => O (ix2 (rowAt b s) (lane h j))) (fun j => GH (ix1 j)) v := by
  have e := v11_apply O b s h
  unfold val_main_v24 val_main_v21 val_main_v20 val_main_v19 val_main_v18 val_main_v16 val_main_v14 val_main_v13 val_main_v12
  generalize val_main_v11 (F := Ideal) O = u at e ⊢
  pointwise [val_main_cst, val_main_v15, val_main_cst_0, val_main_v17, val_main_cst_1, val_main_v22, val_main_v23]
  simp only [e]
  rfl

/-- A head's gate. -/
theorem v26_apply (b : Fin 16) (s : Fin 2048) (h : Fin 4) (v : Fin 128) :
    val_main_v26 (F := Ideal) GG (ix4 b s h v) = silu (GG (ix2 (rowAt b s) (lane h v))) := by
  have e : val_main_v25 (F := Ideal) GG (ix4 b s h v) = GG (ix2 (rowAt b s) (lane h v)) := v11_apply GG b s h v
  unfold val_main_v26 val_main_call0_v5 val_main_call0_v3 val_main_call0_v1 val_main_call0_v0
  generalize val_main_v25 (F := Ideal) GG = u at e ⊢
  pointwise [val_main_call0_v4, val_main_call0_cst_0, val_main_call0_v2, val_main_call0_cst]
  rw [e]
  rfl

/-- A head's gated output. -/
theorem v27_apply (b : Fin 16) (s : Fin 2048) (h : Fin 4) (v : Fin 128) :
    val_main_v27 (F := Ideal) O GG GH (ix4 b s h v)
      = gated (fun c => O (ix2 (rowAt b s) c)) (fun c => GG (ix2 (rowAt b s) c)) (fun j => GH (ix1 j)) h v := by
  show val_main_v24 (F := Ideal) O GH (ix4 b s h v) * val_main_v26 (F := Ideal) GG (ix4 b s h v) = _
  rw [v24_apply, v26_apply]
  rfl

/-- The mixers' outputs side by side. -/
theorem v31_apply (b : Fin 16) (s : Fin 2048) (c : Fin 1024) :
    val_main_v31 (F := Ideal) OM O GG GH (ix3 b s c)
      = if h : c.val < 512 then OM (ix2 (rowAt b s) ⟨c.val, h⟩)
        else gatedAt (fun c => O (ix2 (rowAt b s) c)) (fun c => GG (ix2 (rowAt b s) c)) (fun j => GH (ix1 j)) ⟨c.val - 512, by omega⟩ := by
  have e := v27_apply O GG GH b s
  unfold val_main_v31 val_main_v30
  generalize val_main_v27 (F := Ideal) O GG GH = u at e ⊢
  pointwise [val_main_v29, val_main_v28]
  simp only [e]
  rfl

/-- The row after the mixers. -/
theorem v35_apply (b : Fin 16) (s : Fin 2048) (d : Fin 1024) :
    val_main_v35 (F := Ideal) X M OM O GG GH WO (ix3 b s d)
      = mixed (fun i => X (ix2 (rowAt b s) i)) (fun i => M (ix2 b ⟨5120 + i.val, by omega⟩)) (fun c => OM (ix2 (rowAt b s) c))
          (gatedAt (fun c => O (ix2 (rowAt b s) c)) (fun c => GG (ix2 (rowAt b s) c)) (fun j => GH (ix1 j)))
          (fun c e => WO (ix2 c e)) d := by
  have e := v31_apply OM O GG GH b s
  unfold val_main_v35 val_main_v34 val_main_v32
  generalize val_main_v31 (F := Ideal) OM O GG GH = u at e ⊢
  pointwise [val_main_v0, val_main_v33, val_main_v7, val_main_v1]
  rw [sum_halves]
  have e1 : ∀ c : Fin 512, u (ix3 b s ⟨c.val, by omega⟩) = OM (ix2 (rowAt b s) c) := fun c => (e _).trans (dif_pos c.isLt)
  have e2 : ∀ c : Fin 512, u (ix3 b s ⟨512 + c.val, by omega⟩)
      = gatedAt (fun c => O (ix2 (rowAt b s) c)) (fun c => GG (ix2 (rowAt b s) c)) (fun j => GH (ix1 j)) c := fun c =>
    (e _).trans ((dif_neg (by show ¬512 + c.val < 512; omega)).trans (congrArg (gatedAt _ _ _) (Fin.ext (by show 512 + c.val - 512 = c.val; omega))))
  simp only [e1, e2]
  rfl

/-- The modulated row. -/
theorem v54_apply (b : Fin 16) (s : Fin 2048) (i : Fin 1024) :
    val_main_v54 (F := Ideal) X M OM O GG GH WO G (ix3 b s i)
      = modulated (fun j => val_main_v35 (F := Ideal) X M OM O GG GH WO (ix3 b s j)) (fun j => G (ix1 j)) (fun j => M (ix2 b ⟨7168 + j.val, by omega⟩))
          (fun j => M (ix2 b ⟨6144 + j.val, by omega⟩)) i := by
  unfold val_main_v54 val_main_v52 val_main_v48 val_main_v45 val_main_v44 val_main_v43 val_main_v42 val_main_v40 val_main_v38 val_main_v37 val_main_v36
  generalize val_main_v35 (F := Ideal) X M OM O GG GH WO = u
  pointwise [val_main_cst_2, val_main_v39, val_main_cst_3, val_main_v41, val_main_cst_4, val_main_v46, val_main_v47, val_main_cst_5,
    val_main_v49, val_main_v50, val_main_v51, val_main_v53, val_main_v9, val_main_v8, val_main_v1]
  rfl

/-- The first projection. -/
theorem v57_apply (b : Fin 16) (s : Fin 2048) (f : Fin 2816) :
    val_main_v57 (F := Ideal) X M OM O GG GH WO G W1 (ix3 b s f)
      = ∑ i, val_main_v54 (F := Ideal) X M OM O GG GH WO G (ix3 b s i) * W1 (ix2 i f) := by
  unfold val_main_v57
  generalize val_main_v54 (F := Ideal) X M OM O GG GH WO G = h
  pointwise []

/-- The second projection. -/
theorem v59_apply (b : Fin 16) (s : Fin 2048) (f : Fin 2816) :
    val_main_v59 (F := Ideal) X M OM O GG GH WO G W3 (ix3 b s f)
      = ∑ i, val_main_v54 (F := Ideal) X M OM O GG GH WO G (ix3 b s i) * W3 (ix2 i f) := by
  unfold val_main_v59
  generalize val_main_v54 (F := Ideal) X M OM O GG GH WO G = h
  pointwise []

/-- The gated hidden column. -/
theorem v60_apply (b : Fin 16) (s : Fin 2048) (f : Fin 2816) :
    val_main_v60 (F := Ideal) X M OM O GG GH WO G W1 W3 (ix3 b s f)
      = silu (val_main_v57 (F := Ideal) X M OM O GG GH WO G W1 (ix3 b s f)) * val_main_v59 (F := Ideal) X M OM O GG GH WO G W3 (ix3 b s f) := by
  unfold val_main_v60 val_main_v58 val_main_call1_v5 val_main_call1_v3 val_main_call1_v1 val_main_call1_v0
  generalize val_main_v57 (F := Ideal) X M OM O GG GH WO G W1 = a
  generalize val_main_v59 (F := Ideal) X M OM O GG GH WO G W3 = z
  pointwise [val_main_call1_v4, val_main_call1_cst_0, val_main_call1_v2, val_main_call1_cst]
  rfl

/-- What the three matrices make of the row. -/
theorem v61_apply (b : Fin 16) (s : Fin 2048) (d : Fin 1024) :
    val_main_v61 (F := Ideal) X M OM O GG GH WO G W1 W3 W2 (ix3 b s d)
      = ∑ f, val_main_v60 (F := Ideal) X M OM O GG GH WO G W1 W3 (ix3 b s f) * W2 (ix2 f d) := by
  unfold val_main_v61
  generalize val_main_v60 (F := Ideal) X M OM O GG GH WO G W1 W3 = h
  pointwise []

/-- The step. -/
theorem v64_apply (b : Fin 16) (s : Fin 2048) (d : Fin 1024) :
    val_main_v64 (F := Ideal) X M OM O GG GH WO G W1 W3 W2 (ix3 b s d)
      = step (fun j => val_main_v35 (F := Ideal) X M OM O GG GH WO (ix3 b s j)) (fun j => G (ix1 j)) (fun j => M (ix2 b ⟨7168 + j.val, by omega⟩))
          (fun j => M (ix2 b ⟨6144 + j.val, by omega⟩)) (fun j => M (ix2 b ⟨8192 + j.val, by omega⟩)) (fun i f => W1 (ix2 i f))
          (fun i f => W3 (ix2 i f)) (fun f d => W2 (ix2 f d)) d := by
  have e := v61_apply X M OM O GG GH WO G W1 W3 W2 b s d
  simp only [v60_apply, v57_apply, v59_apply, v54_apply] at e
  unfold val_main_v64 val_main_v63
  generalize val_main_v61 (F := Ideal) X M OM O GG GH WO G W1 W3 W2 = u at e ⊢
  generalize val_main_v35 (F := Ideal) X M OM O GG GH WO = z at e ⊢
  pointwise [val_main_v62, val_main_v56, val_main_v55, val_main_cst_6, val_main_v10, val_main_v1]
  rw [e]
  rfl

/-- The last scaling. -/
theorem v77_apply (b : Fin 16) (s : Fin 2048) (d : Fin 1024) :
    val_main_v77 (F := Ideal) X M OM O GG GH WO G W1 W3 W2 GE (ix3 b s d)
      = last (fun n i => X (ix2 n i)) (fun b i => M (ix2 b i)) (fun n i => OM (ix2 n i)) (fun n i => O (ix2 n i)) (fun n i => GG (ix2 n i))
          (fun i => GH (ix1 i)) (fun i d => WO (ix2 i d)) (fun i => G (ix1 i)) (fun i f => W1 (ix2 i f)) (fun i f => W3 (ix2 i f))
          (fun f d => W2 (ix2 f d)) (fun i => GE (ix1 i)) b (rowAt b s) d := by
  have e := v64_apply X M OM O GG GH WO G W1 W3 W2 b s
  simp only [v35_apply] at e
  unfold val_main_v77 val_main_v74 val_main_v73 val_main_v72 val_main_v71 val_main_v69 val_main_v67 val_main_v66 val_main_v65
  generalize val_main_v64 (F := Ideal) X M OM O GG GH WO G W1 W3 W2 = u at e ⊢
  pointwise [val_main_cst_7, val_main_v68, val_main_cst_8, val_main_v70, val_main_cst_9, val_main_v75, val_main_v76]
  simp only [e]
  rfl

/-- The reference's result at an index. -/
theorem v78_apply (n : Fin 32768) (d : Fin 1024) :
    val_main_v78 (F := Ideal) X M OM O GG GH WO G W1 W3 W2 GE (ix2 n d)
      = last (fun n i => X (ix2 n i)) (fun b i => M (ix2 b i)) (fun n i => OM (ix2 n i)) (fun n i => O (ix2 n i)) (fun n i => GG (ix2 n i))
          (fun i => GH (ix1 i)) (fun i d => WO (ix2 i d)) (fun i => G (ix1 i)) (fun i f => W1 (ix2 i f)) (fun i f => W3 (ix2 i f))
          (fun f d => W2 (ix2 f d)) (fun i => GE (ix1 i)) (batchOf n) n d := by
  have e := v77_apply X M OM O GG GH WO G W1 W3 W2 GE (batchOf n) (posOf n) d
  have hn : rowAt (batchOf n) (posOf n) = n := Fin.ext (by show n.val / 2048 * 2048 + n.val % 2048 = n.val; omega)
  rw [hn] at e
  rw [← e]
  unfold val_main_v78
  generalize val_main_v77 (F := Ideal) X M OM O GG GH WO G W1 W3 W2 GE = u
  pointwise []
  rfl

end Cert.Reference2Ideal.Last

end
-- ==== Proof.ProjRun.lean ====
/-
  The prompt's projections before the mixers, as compiled for the device's own numbers: every run of the program ends, its arguments unchanged, each result as its blocks say.
-/
module

public import proofs.«01_k».proof.Proof.Gen.Kernel4.Launch
public import proofs.«01_k».proof.Proof.Gen.Kernel4.Skeleton
public import proofs.«01_k».proof.Proof.Gen.Kernel4.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel4.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1260000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's accesses -/

abbrev r0_0 : Rect S512x1024 := Rect.unit (s := S512x1024) ![0, 0] S512x1024.size inb_S512x1024_S512x1024_0_0
abbrev r0_1 : Rect S1x1x3072 := Rect.unit (s := S1x1x3072) ![0, 0, 0] S1x1x1024.size inb_S1x1x3072_S1x1x1024_0_0_0
abbrev r0_2 : Rect S1x1x3072 := Rect.unit (s := S1x1x3072) ![0, 0, 1024] S1x1x1024.size inb_S1x1x3072_S1x1x1024_0_0_1024
abbrev r0_3 : Rect S1x1024 := Rect.unit (s := S1x1024) ![0, 0] S1x1024.size inb_S1x1024_S1x1024_0_0
abbrev r0_4 : Rect S1024x2304 := Rect.unit (s := S1024x2304) ![0, 0] S1024x2304.size inb_S1024x2304_S1024x2304_0_0
abbrev r0_5 : Rect S512x768 := Rect.unit (s := S512x768) ![0, 0] S512x128.size inb_S512x768_S512x128_0_0
abbrev r0_6 : Rect S512x768 := Rect.unit (s := S512x768) ![0, 128] S512x128.size inb_S512x768_S512x128_0_128
abbrev r0_7 : Rect S512x768 := Rect.unit (s := S512x768) ![0, 256] S512x128.size inb_S512x768_S512x128_0_256
abbrev r0_8 : Rect S512x768 := Rect.unit (s := S512x768) ![0, 384] S512x128.size inb_S512x768_S512x128_0_384
abbrev r0_9 : Rect S512x768 := Rect.unit (s := S512x768) ![0, 512] S512x128.size inb_S512x768_S512x128_0_512
abbrev r0_10 : Rect S512x768 := Rect.unit (s := S512x768) ![0, 640] S512x128.size inb_S512x768_S512x128_0_640
abbrev r0_11 : Rect S1x384 := Rect.unit (s := S1x384) ![0, 0] S1x384.size inb_S1x384_S1x384_0_0
abbrev r0_12 : Rect S384x1024 := Rect.unit (s := S384x1024) ![0, 0] S384x1024.size inb_S384x1024_S384x1024_0_0
abbrev r0_13 : Rect S1x256 := Rect.unit (s := S1x256) ![0, 0] S1x256.size inb_S1x256_S1x256_0_0
abbrev r0_14 : Rect S512x256 := Rect.unit (s := S512x256) ![0, 0] S512x256.size inb_S512x256_S512x256_0_0
abbrev r0_15 : Rect S512x32 := Rect.unit (s := S512x32) ![0, 0] S512x32.size inb_S512x32_S512x32_0_0
abbrev r0_16 : Rect S1x8x512x128 := Rect.unit (s := S1x8x512x128) ![0, 0, 0, 0] S1x1x512x128.size inb_S1x8x512x128_S1x1x512x128_0_0_0_0
abbrev r0_17 : Rect S1x8x512x128 := Rect.unit (s := S1x8x512x128) ![0, 1, 0, 0] S1x1x512x128.size inb_S1x8x512x128_S1x1x512x128_0_1_0_0
abbrev r0_18 : Rect S1x8x512x128 := Rect.unit (s := S1x8x512x128) ![0, 2, 0, 0] S1x1x512x128.size inb_S1x8x512x128_S1x1x512x128_0_2_0_0
abbrev r0_19 : Rect S1x8x512x128 := Rect.unit (s := S1x8x512x128) ![0, 3, 0, 0] S1x1x512x128.size inb_S1x8x512x128_S1x1x512x128_0_3_0_0
abbrev r0_20 : Rect S1x8x512x128 := Rect.unit (s := S1x8x512x128) ![0, 4, 0, 0] S1x1x512x128.size inb_S1x8x512x128_S1x1x512x128_0_4_0_0
abbrev r0_21 : Rect S1x8x512x128 := Rect.unit (s := S1x8x512x128) ![0, 5, 0, 0] S1x1x512x128.size inb_S1x8x512x128_S1x1x512x128_0_5_0_0
abbrev r0_22 : Rect S1x8x512x128 := Rect.unit (s := S1x8x512x128) ![0, 6, 0, 0] S1x1x512x128.size inb_S1x8x512x128_S1x1x512x128_0_6_0_0
abbrev r0_23 : Rect S1x8x512x128 := Rect.unit (s := S1x8x512x128) ![0, 7, 0, 0] S1x1x512x128.size inb_S1x8x512x128_S1x1x512x128_0_7_0_0
abbrev r0_24 : Rect S256x1536 := Rect.unit (s := S256x1536) ![0, 0] S256x1536.size inb_S256x1536_S256x1536_0_0
abbrev r0_25 : Rect S1x4x512x128 := Rect.unit (s := S1x4x512x128) ![0, 0, 0, 0] S1x1x512x128.size inb_S1x4x512x128_S1x1x512x128_0_0_0_0
abbrev r0_26 : Rect S1x4x512x128 := Rect.unit (s := S1x4x512x128) ![0, 1, 0, 0] S1x1x512x128.size inb_S1x4x512x128_S1x1x512x128_0_1_0_0
abbrev r0_27 : Rect S1x4x512x128 := Rect.unit (s := S1x4x512x128) ![0, 2, 0, 0] S1x1x512x128.size inb_S1x4x512x128_S1x1x512x128_0_2_0_0
abbrev r0_28 : Rect S1x4x512x128 := Rect.unit (s := S1x4x512x128) ![0, 3, 0, 0] S1x1x512x128.size inb_S1x4x512x128_S1x1x512x128_0_3_0_0
abbrev r0_29 : Rect S512x512 := Rect.unit (s := S512x512) ![0, 0] S512x512.size inb_S512x512_S512x512_0_0
abbrev r0_30 : Rect S128x256 := Rect.unit (s := S128x256) ![0, 0] S128x256.size inb_S128x256_S128x256_0_0

/-! ## What the body leaves in each output window's buffer -/

/-! ### Values of the body that the stores' payloads, spelt out, would write more than once

    Each is a vector the body binds (often a part call's result), stated over the input windows' blocks and
    numbered on from the skeleton's payload functions (`k0_pay55` …, after `k0_pay54`), so that
    `out0_W` and the values after it name it instead of spelling it out; the comment after each is the printed function's
    name for the value (a count appended where that name is bound again). -/

def k0_pay55 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x2304 .f32 :=
  k0_pay1 (View.ld x0 r0_0) (View.ld x1 r0_1) (View.ld x1 r0_2) (View.ld x2 r0_3) (View.ld x3 r0_4) -- `v28`
def k0_pay56 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x128 .f32 :=
  k0_pay2 (View.ld x10 r0_5) -- `v30`
def k0_pay57 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x128 .f32 :=
  k0_pay3 (View.ld x10 r0_6) -- `v32`
def k0_pay58 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x128 .f32 :=
  k0_pay4 (View.ld x10 r0_7) -- `v34`
def k0_pay59 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x128 .f32 :=
  k0_pay5 (View.ld x10 r0_8) -- `v36`
def k0_pay60 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x128 .f32 :=
  k0_pay6 (View.ld x10 r0_9) -- `v38`
def k0_pay61 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x128 .f32 :=
  k0_pay7 (View.ld x10 r0_10) -- `v40`
def k0_pay62 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x1024 .f32 :=
  k0_pay8 (k0_pay55 x0 x1 x2 x3 x4 x5 x6 x7 x8 x9 x10) (View.ld x4 r0_11) (View.ld x5 r0_12) -- `v59`
def k0_pay63 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x256 .f32 :=
  k0_pay19 (k0_pay55 x0 x1 x2 x3 x4 x5 x6 x7 x8 x9 x10) -- `v124`
def k0_pay64 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x256 .f32 :=
  k0_pay20 (k0_pay63 x0 x1 x2 x3 x4 x5 x6 x7 x8 x9 x10) (View.ld x6 r0_13) -- `v138`
def k0_pay65 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x128 .f32 :=
  k0_pay22 (k0_pay55 x0 x1 x2 x3 x4 x5 x6 x7 x8 x9 x10) (k0_pay59 x0 x1 x2 x3 x4 x5 x6 x7 x8 x9 x10) (k0_pay60 x0 x1 x2 x3 x4 x5 x6 x7 x8 x9 x10) (k0_pay61 x0 x1 x2 x3 x4 x5 x6 x7 x8 x9 x10) -- `v147`
def k0_pay66 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x1536 .f32 :=
  k0_pay33 (k0_pay64 x0 x1 x2 x3 x4 x5 x6 x7 x8 x9 x10) (View.ld x7 r0_24) -- `v185`
def k0_pay67 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x128 .f32 :=
  k0_pay34 (k0_pay65 x0 x1 x2 x3 x4 x5 x6 x7 x8 x9 x10) -- `v186`

/-- Window 11's staging buffer after the body, from the input windows' blocks: its 8 stores as pieces, LAST
    FIRST. -/
def out0_11 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S1x8x512x128 .bf16 :=
  View.canon [⟨r0_23, k0_pay32 (k0_pay18 (k0_pay56 x0 x1 x2 x3 x4 x5 x6 x7 x8 x9 x10) (k0_pay57 x0 x1 x2 x3 x4 x5 x6 x7 x8 x9 x10) (k0_pay58 x0 x1 x2 x3 x4 x5 x6 x7 x8 x9 x10) (k0_pay62 x0 x1 x2 x3 x4 x5 x6 x7 x8 x9 x10))⟩,
    ⟨r0_22, k0_pay31 (k0_pay17 (k0_pay56 x0 x1 x2 x3 x4 x5 x6 x7 x8 x9 x10) (k0_pay57 x0 x1 x2 x3 x4 x5 x6 x7 x8 x9 x10) (k0_pay58 x0 x1 x2 x3 x4 x5 x6 x7 x8 x9 x10) (k0_pay62 x0 x1 x2 x3 x4 x5 x6 x7 x8 x9 x10))⟩,
    ⟨r0_21, k0_pay30 (k0_pay16 (k0_pay56 x0 x1 x2 x3 x4 x5 x6 x7 x8 x9 x10) (k0_pay57 x0 x1 x2 x3 x4 x5 x6 x7 x8 x9 x10) (k0_pay58 x0 x1 x2 x3 x4 x5 x6 x7 x8 x9 x10) (k0_pay62 x0 x1 x2 x3 x4 x5 x6 x7 x8 x9 x10))⟩,
    ⟨r0_20, k0_pay29 (k0_pay15 (k0_pay56 x0 x1 x2 x3 x4 x5 x6 x7 x8 x9 x10) (k0_pay57 x0 x1 x2 x3 x4 x5 x6 x7 x8 x9 x10) (k0_pay58 x0 x1 x2 x3 x4 x5 x6 x7 x8 x9 x10) (k0_pay62 x0 x1 x2 x3 x4 x5 x6 x7 x8 x9 x10))⟩,
    ⟨r0_19, k0_pay28 (k0_pay14 (k0_pay56 x0 x1 x2 x3 x4 x5 x6 x7 x8 x9 x10) (k0_pay57 x0 x1 x2 x3 x4 x5 x6 x7 x8 x9 x10) (k0_pay58 x0 x1 x2 x3 x4 x5 x6 x7 x8 x9 x10) (k0_pay62 x0 x1 x2 x3 x4 x5 x6 x7 x8 x9 x10))⟩,
    ⟨r0_18, k0_pay27 (k0_pay26 (k0_pay13 (k0_pay57 x0 x1 x2 x3 x4 x5 x6 x7 x8 x9 x10) (k0_pay58 x0 x1 x2 x3 x4 x5 x6 x7 x8 x9 x10) (k0_pay11 (k0_pay55 x0 x1 x2 x3 x4 x5 x6 x7 x8 x9 x10) (View.ld x4 r0_11) (View.ld x5 r0_12)) (k0_pay12 (k0_pay55 x0 x1 x2 x3 x4 x5 x6 x7 x8 x9 x10) (k0_pay56 x0 x1 x2 x3 x4 x5 x6 x7 x8 x9 x10) (View.ld x4 r0_11) (View.ld x5 r0_12))))⟩,
    ⟨r0_17, k0_pay25 (k0_pay10 (k0_pay55 x0 x1 x2 x3 x4 x5 x6 x7 x8 x9 x10) (k0_pay56 x0 x1 x2 x3 x4 x5 x6 x7 x8 x9 x10) (k0_pay57 x0 x1 x2 x3 x4 x5 x6 x7 x8 x9 x10) (k0_pay58 x0 x1 x2 x3 x4 x5 x6 x7 x8 x9 x10) (View.ld x4 r0_11) (View.ld x5 r0_12))⟩,
    ⟨r0_16, k0_pay24 (k0_pay9 (k0_pay55 x0 x1 x2 x3 x4 x5 x6 x7 x8 x9 x10) (k0_pay56 x0 x1 x2 x3 x4 x5 x6 x7 x8 x9 x10) (k0_pay57 x0 x1 x2 x3 x4 x5 x6 x7 x8 x9 x10) (k0_pay58 x0 x1 x2 x3 x4 x5 x6 x7 x8 x9 x10) (View.ld x4 r0_11) (View.ld x5 r0_12))⟩]

/-- Its stores tile the buffer (checked by evaluation), so they cover it. -/
theorem cover0_11 (p0 : Vec F S1x1x512x128 .bf16) (p1 : Vec F S1x1x512x128 .bf16) (p2 : Vec F S1x1x512x128 .bf16) (p3 : Vec F S1x1x512x128 .bf16) (p4 : Vec F S1x1x512x128 .bf16) (p5 : Vec F S1x1x512x128 .bf16) (p6 : Vec F S1x1x512x128 .bf16) (p7 : Vec F S1x1x512x128 .bf16) (y : S1x8x512x128.Idx) :
    ∃ pc ∈ ([⟨r0_23, p0⟩, ⟨r0_22, p1⟩, ⟨r0_21, p2⟩, ⟨r0_20, p3⟩, ⟨r0_19, p4⟩, ⟨r0_18, p5⟩, ⟨r0_17, p6⟩, ⟨r0_16, p7⟩] : List (View.Piece (Elt F) S1x8x512x128 .bf16)), y ∈ pc.1.set :=
  View.cover_of_tiled [⟨r0_23, p0⟩, ⟨r0_22, p1⟩, ⟨r0_21, p2⟩, ⟨r0_20, p3⟩, ⟨r0_19, p4⟩, ⟨r0_18, p5⟩, ⟨r0_17, p6⟩, ⟨r0_16, p7⟩] S1x1x512x128.size (by rfl) y

/-- Window 12's staging buffer after the body, from the input windows' blocks: its 8 stores as pieces, LAST
    FIRST. -/
def out0_12 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S1x8x512x128 .bf16 :=
  View.canon [⟨r0_23, k0_pay44 (k0_pay66 x0 x1 x2 x3 x4 x5 x6 x7 x8 x9 x10) (k0_pay67 x0 x1 x2 x3 x4 x5 x6 x7 x8 x9 x10)⟩,
    ⟨r0_22, k0_pay43 (k0_pay66 x0 x1 x2 x3 x4 x5 x6 x7 x8 x9 x10) (k0_pay67 x0 x1 x2 x3 x4 x5 x6 x7 x8 x9 x10)⟩,
    ⟨r0_21, k0_pay42 (k0_pay41 (k0_pay66 x0 x1 x2 x3 x4 x5 x6 x7 x8 x9 x10) (k0_pay67 x0 x1 x2 x3 x4 x5 x6 x7 x8 x9 x10))⟩,
    ⟨r0_20, k0_pay40 (k0_pay66 x0 x1 x2 x3 x4 x5 x6 x7 x8 x9 x10) (k0_pay67 x0 x1 x2 x3 x4 x5 x6 x7 x8 x9 x10)⟩,
    ⟨r0_19, k0_pay39 (k0_pay66 x0 x1 x2 x3 x4 x5 x6 x7 x8 x9 x10) (k0_pay67 x0 x1 x2 x3 x4 x5 x6 x7 x8 x9 x10)⟩,
    ⟨r0_18, k0_pay38 (k0_pay66 x0 x1 x2 x3 x4 x5 x6 x7 x8 x9 x10) (k0_pay67 x0 x1 x2 x3 x4 x5 x6 x7 x8 x9 x10)⟩,
    ⟨r0_17, k0_pay37 (k0_pay66 x0 x1 x2 x3 x4 x5 x6 x7 x8 x9 x10) (k0_pay67 x0 x1 x2 x3 x4 x5 x6 x7 x8 x9 x10)⟩,
    ⟨r0_16, k0_pay36 (k0_pay35 (k0_pay64 x0 x1 x2 x3 x4 x5 x6 x7 x8 x9 x10) (k0_pay65 x0 x1 x2 x3 x4 x5 x6 x7 x8 x9 x10) (View.ld x7 r0_24))⟩]

/-- Its stores tile the buffer (checked by evaluation), so they cover it. -/
theorem cover0_12 (p0 : Vec F S1x1x512x128 .bf16) (p1 : Vec F S1x1x512x128 .bf16) (p2 : Vec F S1x1x512x128 .bf16) (p3 : Vec F S1x1x512x128 .bf16) (p4 : Vec F S1x1x512x128 .bf16) (p5 : Vec F S1x1x512x128 .bf16) (p6 : Vec F S1x1x512x128 .bf16) (p7 : Vec F S1x1x512x128 .bf16) (y : S1x8x512x128.Idx) :
    ∃ pc ∈ ([⟨r0_23, p0⟩, ⟨r0_22, p1⟩, ⟨r0_21, p2⟩, ⟨r0_20, p3⟩, ⟨r0_19, p4⟩, ⟨r0_18, p5⟩, ⟨r0_17, p6⟩, ⟨r0_16, p7⟩] : List (View.Piece (Elt F) S1x8x512x128 .bf16)), y ∈ pc.1.set :=
  View.cover_of_tiled [⟨r0_23, p0⟩, ⟨r0_22, p1⟩, ⟨r0_21, p2⟩, ⟨r0_20, p3⟩, ⟨r0_19, p4⟩, ⟨r0_18, p5⟩, ⟨r0_17, p6⟩, ⟨r0_16, p7⟩] S1x1x512x128.size (by rfl) y

/-- Window 13's staging buffer after the body, from the input windows' blocks: its 4 stores as pieces, LAST
    FIRST. -/
def out0_13 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S1x4x512x128 .bf16 :=
  View.canon [⟨r0_28, k0_pay49 (k0_pay48 (k0_pay66 x0 x1 x2 x3 x4 x5 x6 x7 x8 x9 x10))⟩,
    ⟨r0_27, k0_pay47 (k0_pay66 x0 x1 x2 x3 x4 x5 x6 x7 x8 x9 x10)⟩,
    ⟨r0_26, k0_pay46 (k0_pay66 x0 x1 x2 x3 x4 x5 x6 x7 x8 x9 x10)⟩,
    ⟨r0_25, k0_pay45 (k0_pay66 x0 x1 x2 x3 x4 x5 x6 x7 x8 x9 x10)⟩]

/-- Its stores tile the buffer (checked by evaluation), so they cover it. -/
theorem cover0_13 (p0 : Vec F S1x1x512x128 .bf16) (p1 : Vec F S1x1x512x128 .bf16) (p2 : Vec F S1x1x512x128 .bf16) (p3 : Vec F S1x1x512x128 .bf16) (y : S1x4x512x128.Idx) :
    ∃ pc ∈ ([⟨r0_28, p0⟩, ⟨r0_27, p1⟩, ⟨r0_26, p2⟩, ⟨r0_25, p3⟩] : List (View.Piece (Elt F) S1x4x512x128 .bf16)), y ∈ pc.1.set :=
  View.cover_of_tiled [⟨r0_28, p0⟩, ⟨r0_27, p1⟩, ⟨r0_26, p2⟩, ⟨r0_25, p3⟩] S1x1x512x128.size (by rfl) y

/-- Window 14's staging buffer after the body, from the input windows' blocks: its 1 store as pieces, LAST
    FIRST. -/
def out0_14 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S512x256 .f32 :=
  View.canon [⟨r0_14, k0_pay20 (k0_pay63 x0 x1 x2 x3 x4 x5 x6 x7 x8 x9 x10) (View.ld x6 r0_13)⟩]

/-- Its stores tile the buffer (checked by evaluation), so they cover it. -/
theorem cover0_14 (p0 : Vec F S512x256 .f32) (y : S512x256.Idx) :
    ∃ pc ∈ ([⟨r0_14, p0⟩] : List (View.Piece (Elt F) S512x256 .f32)), y ∈ pc.1.set :=
  View.cover_of_tiled [⟨r0_14, p0⟩] S512x256.size (by rfl) y

/-- Window 15's staging buffer after the body, from the input windows' blocks: its 1 store as pieces, LAST
    FIRST. -/
def out0_15 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S512x32 .f32 :=
  View.canon [⟨r0_15, k0_pay23 (k0_pay55 x0 x1 x2 x3 x4 x5 x6 x7 x8 x9 x10) (k0_pay59 x0 x1 x2 x3 x4 x5 x6 x7 x8 x9 x10) (k0_pay60 x0 x1 x2 x3 x4 x5 x6 x7 x8 x9 x10) (k0_pay61 x0 x1 x2 x3 x4 x5 x6 x7 x8 x9 x10)⟩]

/-- Its stores tile the buffer (checked by evaluation), so they cover it. -/
theorem cover0_15 (p0 : Vec F S512x32 .f32) (y : S512x32.Idx) :
    ∃ pc ∈ ([⟨r0_15, p0⟩] : List (View.Piece (Elt F) S512x32 .f32)), y ∈ pc.1.set :=
  View.cover_of_tiled [⟨r0_15, p0⟩] S512x32.size (by rfl) y

/-- Window 16's staging buffer after the body, from the input windows' blocks: its 1 store as pieces, LAST
    FIRST. -/
def out0_16 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S512x256 .f32 :=
  View.canon [⟨r0_14, k0_pay50 (k0_pay55 x0 x1 x2 x3 x4 x5 x6 x7 x8 x9 x10)⟩]

/-- Its stores tile the buffer (checked by evaluation), so they cover it. -/
theorem cover0_16 (p0 : Vec F S512x256 .f32) (y : S512x256.Idx) :
    ∃ pc ∈ ([⟨r0_14, p0⟩] : List (View.Piece (Elt F) S512x256 .f32)), y ∈ pc.1.set :=
  View.cover_of_tiled [⟨r0_14, p0⟩] S512x256.size (by rfl) y

/-- Window 17's staging buffer after the body, from the input windows' blocks: its 1 store as pieces, LAST
    FIRST. -/
def out0_17 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S512x256 .f32 :=
  View.canon [⟨r0_14, k0_pay51 (k0_pay55 x0 x1 x2 x3 x4 x5 x6 x7 x8 x9 x10)⟩]

/-- Its stores tile the buffer (checked by evaluation), so they cover it. -/
theorem cover0_17 (p0 : Vec F S512x256 .f32) (y : S512x256.Idx) :
    ∃ pc ∈ ([⟨r0_14, p0⟩] : List (View.Piece (Elt F) S512x256 .f32)), y ∈ pc.1.set :=
  View.cover_of_tiled [⟨r0_14, p0⟩] S512x256.size (by rfl) y

/-- Window 18's staging buffer after the body, from the input windows' blocks: its 1 store as pieces, LAST
    FIRST. -/
def out0_18 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S512x512 .bf16 :=
  View.canon [⟨r0_29, k0_pay52 (k0_pay55 x0 x1 x2 x3 x4 x5 x6 x7 x8 x9 x10)⟩]

/-- Its stores tile the buffer (checked by evaluation), so they cover it. -/
theorem cover0_18 (p0 : Vec F S512x512 .bf16) (y : S512x512.Idx) :
    ∃ pc ∈ ([⟨r0_29, p0⟩] : List (View.Piece (Elt F) S512x512 .bf16)), y ∈ pc.1.set :=
  View.cover_of_tiled [⟨r0_29, p0⟩] S512x512.size (by rfl) y

/-- Window 19's staging buffer after the body, from the input windows' blocks: its 1 store as pieces, LAST
    FIRST. -/
def out0_19 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S512x256 .f32 :=
  View.canon [⟨r0_14, k0_pay54 (k0_pay21 (k0_pay55 x0 x1 x2 x3 x4 x5 x6 x7 x8 x9 x10)) (View.ld x8 r0_30) (View.ld x9 r0_13)⟩]

/-- Its stores tile the buffer (checked by evaluation), so they cover it. -/
theorem cover0_19 (p0 : Vec F S512x256 .f32) (y : S512x256.Idx) :
    ∃ pc ∈ ([⟨r0_14, p0⟩] : List (View.Piece (Elt F) S512x256 .f32)), y ∈ pc.1.set :=
  View.cover_of_tiled [⟨r0_14, p0⟩] S512x256.size (by rfl) y

/-- Window 20's staging buffer after the body, from the input windows' blocks: its 1 store as pieces, LAST
    FIRST. -/
def out0_20 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S512x512 .f32 :=
  View.canon [⟨r0_29, k0_pay53 (k0_pay55 x0 x1 x2 x3 x4 x5 x6 x7 x8 x9 x10)⟩]

/-- Its stores tile the buffer (checked by evaluation), so they cover it. -/
theorem cover0_20 (p0 : Vec F S512x512 .f32) (y : S512x512.Idx) :
    ∃ pc ∈ ([⟨r0_29, p0⟩] : List (View.Piece (Elt F) S512x512 .f32)), y ∈ pc.1.set :=
  View.cover_of_tiled [⟨r0_29, p0⟩] S512x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel (c : Dev nD) (E : Set ℕ) (i : grid0.Coords) (arg1 : Memref sig .tc .vmem S512x1024 .f32) (harg1 : arg1.IsWhole) (arg2 : Memref sig .tc .vmem S1x1x3072 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S1x384 .f32) (harg5 : arg5.IsWhole) (arg6 : Memref sig .tc .vmem S384x1024 .bf16) (harg6 : arg6.IsWhole) (arg7 : Memref sig .tc .vmem S1x256 .f32) (harg7 : arg7.IsWhole) (arg8 : Memref sig .tc .vmem S256x1536 .bf16) (harg8 : arg8.IsWhole) (arg9 : Memref sig .tc .vmem S128x256 .bf16) (harg9 : arg9.IsWhole) (arg10 : Memref sig .tc .vmem S1x256 .f32) (harg10 : arg10.IsWhole) (arg11 : Memref sig .tc .vmem S512x768 .f32) (harg11 : arg11.IsWhole) (arg12 : Memref sig .tc .vmem S1x8x512x128 .bf16) (harg12 : arg12.IsWhole) (arg13 : Memref sig .tc .vmem S1x8x512x128 .bf16) (harg13 : arg13.IsWhole) (arg14 : Memref sig .tc .vmem S1x4x512x128 .bf16) (harg14 : arg14.IsWhole) (arg15 : Memref sig .tc .vmem S512x256 .f32) (harg15 : arg15.IsWhole) (arg16 : Memref sig .tc .vmem S512x32 .f32) (harg16 : arg16.IsWhole) (arg17 : Memref sig .tc .vmem S512x256 .f32) (harg17 : arg17.IsWhole) (arg18 : Memref sig .tc .vmem S512x256 .f32) (harg18 : arg18.IsWhole) (arg19 : Memref sig .tc .vmem S512x512 .bf16) (harg19 : arg19.IsWhole) (arg20 : Memref sig .tc .vmem S512x256 .f32) (harg20 : arg20.IsWhole) (arg21 : Memref sig .tc .vmem S512x512 .f32) (harg21 : arg21.IsWhole)
    (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10) ∗ owns (c : Thread nD τ) arg14 fullShare (out0_13 x0 x1 x2 x3 x4 x5 x6 x7 x8 x9 x10) ∗ owns (c : Thread nD τ) arg15 fullShare (out0_14 x0 x1 x2 x3 x4 x5 x6 x7 x8 x9 x10) ∗ owns (c : Thread nD τ) arg16 fullShare (out0_15 x0 x1 x2 x3 x4 x5 x6 x7 x8 x9 x10) ∗ owns (c : Thread nD τ) arg17 fullShare (out0_16 x0 x1 x2 x3 x4 x5 x6 x7 x8 x9 x10) ∗ owns (c : Thread nD τ) arg18 fullShare (out0_17 x0 x1 x2 x3 x4 x5 x6 x7 x8 x9 x10) ∗ owns (c : Thread nD τ) arg19 fullShare (out0_18 x0 x1 x2 x3 x4 x5 x6 x7 x8 x9 x10) ∗ owns (c : Thread nD τ) arg20 fullShare (out0_19 x0 x1 x2 x3 x4 x5 x6 x7 x8 x9 x10) ∗ owns (c : Thread nD τ) arg21 fullShare (out0_20 x0 x1 x2 x3 x4 x5 x6 x7 x8 x9 x10)) -∗ K ⟨⟩))
      ⊢ wp frame (wpE (defs₀ (F := F)) Variants.none c none) E (cc0_mix_in_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_mix_in_prompt_eq_skeleton]; unfold cc0_mix_in_prompt_skel
  simp only [k0_part8_eq_skeleton, k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _ _ _ _ _ _ _ _)).trans ?_
    rfl
  isplitl [H12]
  · iexists _; isplitr
    swap; · iexact H12
    ipureintro
    refine (View.read_writes_eq_canon _ _ _ (cover0_12 _ _ _ _ _ _ _ _)).trans ?_
    rfl
  isplitl [H13]
  · iexists _; isplitr
    swap; · iexact H13
    ipureintro
    refine (View.read_writes_eq_canon _ _ _ (cover0_13 _ _ _ _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  iexists _; isplitr
  swap; · iexact H20
  ipureintro
  refine (View.read_writes_eq_canon _ _ _ (cover0_20 _)).trans ?_
  rfl

/-! ## The pipeline's proof data -/

/-- The proof data of the one pipeline on core `c`: the arrays as the region finds them (`V`); after the body at
    point `t` each input's buffer at its block and each output's at `out0_W` of the input blocks; the invariant the
    class's; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨_ + 21, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel c Set.univ (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 400000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel4.Gen

end
-- ==== Proof.ProjRunIdeal.lean ====
/-
  The prompt's projections before the mixers, over any numbers: every run of the program ends, its arguments unchanged, each result as its blocks say.
-/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1260000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) h

/-! ## The body's accesses -/

abbrev r0_0 : Rect S512x1024 := Rect.unit (s := S512x1024) ![0, 0] S512x1024.size inb_S512x1024_S512x1024_0_0
abbrev r0_1 : Rect S1x1x3072 := Rect.unit (s := S1x1x3072) ![0, 0, 0] S1x1x1024.size inb_S1x1x3072_S1x1x1024_0_0_0
abbrev r0_2 : Rect S1x1x3072 := Rect.unit (s := S1x1x3072) ![0, 0, 1024] S1x1x1024.size inb_S1x1x3072_S1x1x1024_0_0_1024
abbrev r0_3 : Rect S1x1024 := Rect.unit (s := S1x1024) ![0, 0] S1x1024.size inb_S1x1024_S1x1024_0_0
abbrev r0_4 : Rect S1024x2304 := Rect.unit (s := S1024x2304) ![0, 0] S1024x2304.size inb_S1024x2304_S1024x2304_0_0
abbrev r0_5 : Rect S512x768 := Rect.unit (s := S512x768) ![0, 0] S512x128.size inb_S512x768_S512x128_0_0
abbrev r0_6 : Rect S512x768 := Rect.unit (s := S512x768) ![0, 128] S512x128.size inb_S512x768_S512x128_0_128
abbrev r0_7 : Rect S512x768 := Rect.unit (s := S512x768) ![0, 256] S512x128.size inb_S512x768_S512x128_0_256
abbrev r0_8 : Rect S512x768 := Rect.unit (s := S512x768) ![0, 384] S512x128.size inb_S512x768_S512x128_0_384
abbrev r0_9 : Rect S512x768 := Rect.unit (s := S512x768) ![0, 512] S512x128.size inb_S512x768_S512x128_0_512
abbrev r0_10 : Rect S512x768 := Rect.unit (s := S512x768) ![0, 640] S512x128.size inb_S512x768_S512x128_0_640
abbrev r0_11 : Rect S1x384 := Rect.unit (s := S1x384) ![0, 0] S1x384.size inb_S1x384_S1x384_0_0
abbrev r0_12 : Rect S384x1024 := Rect.unit (s := S384x1024) ![0, 0] S384x1024.size inb_S384x1024_S384x1024_0_0
abbrev r0_13 : Rect S1x256 := Rect.unit (s := S1x256) ![0, 0] S1x256.size inb_S1x256_S1x256_0_0
abbrev r0_14 : Rect S512x256 := Rect.unit (s := S512x256) ![0, 0] S512x256.size inb_S512x256_S512x256_0_0
abbrev r0_15 : Rect S512x32 := Rect.unit (s := S512x32) ![0, 0] S512x32.size inb_S512x32_S512x32_0_0
abbrev r0_16 : Rect S1x8x512x128 := Rect.unit (s := S1x8x512x128) ![0, 0, 0, 0] S1x1x512x128.size inb_S1x8x512x128_S1x1x512x128_0_0_0_0
abbrev r0_17 : Rect S1x8x512x128 := Rect.unit (s := S1x8x512x128) ![0, 1, 0, 0] S1x1x512x128.size inb_S1x8x512x128_S1x1x512x128_0_1_0_0
abbrev r0_18 : Rect S1x8x512x128 := Rect.unit (s := S1x8x512x128) ![0, 2, 0, 0] S1x1x512x128.size inb_S1x8x512x128_S1x1x512x128_0_2_0_0
abbrev r0_19 : Rect S1x8x512x128 := Rect.unit (s := S1x8x512x128) ![0, 3, 0, 0] S1x1x512x128.size inb_S1x8x512x128_S1x1x512x128_0_3_0_0
abbrev r0_20 : Rect S1x8x512x128 := Rect.unit (s := S1x8x512x128) ![0, 4, 0, 0] S1x1x512x128.size inb_S1x8x512x128_S1x1x512x128_0_4_0_0
abbrev r0_21 : Rect S1x8x512x128 := Rect.unit (s := S1x8x512x128) ![0, 5, 0, 0] S1x1x512x128.size inb_S1x8x512x128_S1x1x512x128_0_5_0_0
abbrev r0_22 : Rect S1x8x512x128 := Rect.unit (s := S1x8x512x128) ![0, 6, 0, 0] S1x1x512x128.size inb_S1x8x512x128_S1x1x512x128_0_6_0_0
abbrev r0_23 : Rect S1x8x512x128 := Rect.unit (s := S1x8x512x128) ![0, 7, 0, 0] S1x1x512x128.size inb_S1x8x512x128_S1x1x512x128_0_7_0_0
abbrev r0_24 : Rect S256x1536 := Rect.unit (s := S256x1536) ![0, 0] S256x1536.size inb_S256x1536_S256x1536_0_0
abbrev r0_25 : Rect S1x4x512x128 := Rect.unit (s := S1x4x512x128) ![0, 0, 0, 0] S1x1x512x128.size inb_S1x4x512x128_S1x1x512x128_0_0_0_0
abbrev r0_26 : Rect S1x4x512x128 := Rect.unit (s := S1x4x512x128) ![0, 1, 0, 0] S1x1x512x128.size inb_S1x4x512x128_S1x1x512x128_0_1_0_0
abbrev r0_27 : Rect S1x4x512x128 := Rect.unit (s := S1x4x512x128) ![0, 2, 0, 0] S1x1x512x128.size inb_S1x4x512x128_S1x1x512x128_0_2_0_0
abbrev r0_28 : Rect S1x4x512x128 := Rect.unit (s := S1x4x512x128) ![0, 3, 0, 0] S1x1x512x128.size inb_S1x4x512x128_S1x1x512x128_0_3_0_0
abbrev r0_29 : Rect S512x512 := Rect.unit (s := S512x512) ![0, 0] S512x512.size inb_S512x512_S512x512_0_0
abbrev r0_30 : Rect S128x256 := Rect.unit (s := S128x256) ![0, 0] S128x256.size inb_S128x256_S128x256_0_0

/-! ## What the body leaves in each output window's buffer -/

/-! ### Values of the body that the stores' payloads, spelt out, would write more than once

    Each is a vector the body binds (often a part call's result), stated over the input windows' blocks and
    numbered on from the skeleton's payload functions (`k0_pay55` …, after `k0_pay54`), so that
    `out0_W` and the values after it name it instead of spelling it out; the comment after each is the printed function's
    name for the value (a count appended where that name is bound again). -/

def k0_pay55 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x2304 .f32 :=
  k0_pay1 (View.ld x0 r0_0) (View.ld x1 r0_1) (View.ld x1 r0_2) (View.ld x2 r0_3) (View.ld x3 r0_4) -- `v28`
def k0_pay56 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x128 .f32 :=
  k0_pay2 (View.ld x10 r0_5) -- `v30`
def k0_pay57 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x128 .f32 :=
  k0_pay3 (View.ld x10 r0_6) -- `v32`
def k0_pay58 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x128 .f32 :=
  k0_pay4 (View.ld x10 r0_7) -- `v34`
def k0_pay59 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x128 .f32 :=
  k0_pay5 (View.ld x10 r0_8) -- `v36`
def k0_pay60 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x128 .f32 :=
  k0_pay6 (View.ld x10 r0_9) -- `v38`
def k0_pay61 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x128 .f32 :=
  k0_pay7 (View.ld x10 r0_10) -- `v40`
def k0_pay62 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x1024 .f32 :=
  k0_pay8 (k0_pay55 x0 x1 x2 x3 x4 x5 x6 x7 x8 x9 x10) (View.ld x4 r0_11) (View.ld x5 r0_12) -- `v59`
def k0_pay63 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x256 .f32 :=
  k0_pay19 (k0_pay55 x0 x1 x2 x3 x4 x5 x6 x7 x8 x9 x10) -- `v124`
def k0_pay64 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x256 .f32 :=
  k0_pay20 (k0_pay63 x0 x1 x2 x3 x4 x5 x6 x7 x8 x9 x10) (View.ld x6 r0_13) -- `v138`
def k0_pay65 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x128 .f32 :=
  k0_pay22 (k0_pay55 x0 x1 x2 x3 x4 x5 x6 x7 x8 x9 x10) (k0_pay59 x0 x1 x2 x3 x4 x5 x6 x7 x8 x9 x10) (k0_pay60 x0 x1 x2 x3 x4 x5 x6 x7 x8 x9 x10) (k0_pay61 x0 x1 x2 x3 x4 x5 x6 x7 x8 x9 x10) -- `v147`
def k0_pay66 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x1536 .f32 :=
  k0_pay33 (k0_pay64 x0 x1 x2 x3 x4 x5 x6 x7 x8 x9 x10) (View.ld x7 r0_24) -- `v185`
def k0_pay67 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : FVec F S512x128 .f32 :=
  k0_pay34 (k0_pay65 x0 x1 x2 x3 x4 x5 x6 x7 x8 x9 x10) -- `v186`

/-- Window 11's staging buffer after the body, from the input windows' blocks: its 8 stores as pieces, LAST
    FIRST. -/
def out0_11 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S1x8x512x128 .bf16 :=
  View.canon [⟨r0_23, k0_pay32 (k0_pay18 (k0_pay56 x0 x1 x2 x3 x4 x5 x6 x7 x8 x9 x10) (k0_pay57 x0 x1 x2 x3 x4 x5 x6 x7 x8 x9 x10) (k0_pay58 x0 x1 x2 x3 x4 x5 x6 x7 x8 x9 x10) (k0_pay62 x0 x1 x2 x3 x4 x5 x6 x7 x8 x9 x10))⟩,
    ⟨r0_22, k0_pay31 (k0_pay17 (k0_pay56 x0 x1 x2 x3 x4 x5 x6 x7 x8 x9 x10) (k0_pay57 x0 x1 x2 x3 x4 x5 x6 x7 x8 x9 x10) (k0_pay58 x0 x1 x2 x3 x4 x5 x6 x7 x8 x9 x10) (k0_pay62 x0 x1 x2 x3 x4 x5 x6 x7 x8 x9 x10))⟩,
    ⟨r0_21, k0_pay30 (k0_pay16 (k0_pay56 x0 x1 x2 x3 x4 x5 x6 x7 x8 x9 x10) (k0_pay57 x0 x1 x2 x3 x4 x5 x6 x7 x8 x9 x10) (k0_pay58 x0 x1 x2 x3 x4 x5 x6 x7 x8 x9 x10) (k0_pay62 x0 x1 x2 x3 x4 x5 x6 x7 x8 x9 x10))⟩,
    ⟨r0_20, k0_pay29 (k0_pay15 (k0_pay56 x0 x1 x2 x3 x4 x5 x6 x7 x8 x9 x10) (k0_pay57 x0 x1 x2 x3 x4 x5 x6 x7 x8 x9 x10) (k0_pay58 x0 x1 x2 x3 x4 x5 x6 x7 x8 x9 x10) (k0_pay62 x0 x1 x2 x3 x4 x5 x6 x7 x8 x9 x10))⟩,
    ⟨r0_19, k0_pay28 (k0_pay14 (k0_pay56 x0 x1 x2 x3 x4 x5 x6 x7 x8 x9 x10) (k0_pay57 x0 x1 x2 x3 x4 x5 x6 x7 x8 x9 x10) (k0_pay58 x0 x1 x2 x3 x4 x5 x6 x7 x8 x9 x10) (k0_pay62 x0 x1 x2 x3 x4 x5 x6 x7 x8 x9 x10))⟩,
    ⟨r0_18, k0_pay27 (k0_pay26 (k0_pay13 (k0_pay57 x0 x1 x2 x3 x4 x5 x6 x7 x8 x9 x10) (k0_pay58 x0 x1 x2 x3 x4 x5 x6 x7 x8 x9 x10) (k0_pay11 (k0_pay55 x0 x1 x2 x3 x4 x5 x6 x7 x8 x9 x10) (View.ld x4 r0_11) (View.ld x5 r0_12)) (k0_pay12 (k0_pay55 x0 x1 x2 x3 x4 x5 x6 x7 x8 x9 x10) (k0_pay56 x0 x1 x2 x3 x4 x5 x6 x7 x8 x9 x10) (View.ld x4 r0_11) (View.ld x5 r0_12))))⟩,
    ⟨r0_17, k0_pay25 (k0_pay10 (k0_pay55 x0 x1 x2 x3 x4 x5 x6 x7 x8 x9 x10) (k0_pay56 x0 x1 x2 x3 x4 x5 x6 x7 x8 x9 x10) (k0_pay57 x0 x1 x2 x3 x4 x5 x6 x7 x8 x9 x10) (k0_pay58 x0 x1 x2 x3 x4 x5 x6 x7 x8 x9 x10) (View.ld x4 r0_11) (View.ld x5 r0_12))⟩,
    ⟨r0_16, k0_pay24 (k0_pay9 (k0_pay55 x0 x1 x2 x3 x4 x5 x6 x7 x8 x9 x10) (k0_pay56 x0 x1 x2 x3 x4 x5 x6 x7 x8 x9 x10) (k0_pay57 x0 x1 x2 x3 x4 x5 x6 x7 x8 x9 x10) (k0_pay58 x0 x1 x2 x3 x4 x5 x6 x7 x8 x9 x10) (View.ld x4 r0_11) (View.ld x5 r0_12))⟩]

/-- Its stores tile the buffer (checked by evaluation), so they cover it. -/
theorem cover0_11 (p0 : Vec F S1x1x512x128 .bf16) (p1 : Vec F S1x1x512x128 .bf16) (p2 : Vec F S1x1x512x128 .bf16) (p3 : Vec F S1x1x512x128 .bf16) (p4 : Vec F S1x1x512x128 .bf16) (p5 : Vec F S1x1x512x128 .bf16) (p6 : Vec F S1x1x512x128 .bf16) (p7 : Vec F S1x1x512x128 .bf16) (y : S1x8x512x128.Idx) :
    ∃ pc ∈ ([⟨r0_23, p0⟩, ⟨r0_22, p1⟩, ⟨r0_21, p2⟩, ⟨r0_20, p3⟩, ⟨r0_19, p4⟩, ⟨r0_18, p5⟩, ⟨r0_17, p6⟩, ⟨r0_16, p7⟩] : List (View.Piece (Elt F) S1x8x512x128 .bf16)), y ∈ pc.1.set :=
  View.cover_of_tiled [⟨r0_23, p0⟩, ⟨r0_22, p1⟩, ⟨r0_21, p2⟩, ⟨r0_20, p3⟩, ⟨r0_19, p4⟩, ⟨r0_18, p5⟩, ⟨r0_17, p6⟩, ⟨r0_16, p7⟩] S1x1x512x128.size (by rfl) y

/-- Window 12's staging buffer after the body, from the input windows' blocks: its 8 stores as pieces, LAST
    FIRST. -/
def out0_12 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S1x8x512x128 .bf16 :=
  View.canon [⟨r0_23, k0_pay44 (k0_pay66 x0 x1 x2 x3 x4 x5 x6 x7 x8 x9 x10) (k0_pay67 x0 x1 x2 x3 x4 x5 x6 x7 x8 x9 x10)⟩,
    ⟨r0_22, k0_pay43 (k0_pay66 x0 x1 x2 x3 x4 x5 x6 x7 x8 x9 x10) (k0_pay67 x0 x1 x2 x3 x4 x5 x6 x7 x8 x9 x10)⟩,
    ⟨r0_21, k0_pay42 (k0_pay41 (k0_pay66 x0 x1 x2 x3 x4 x5 x6 x7 x8 x9 x10) (k0_pay67 x0 x1 x2 x3 x4 x5 x6 x7 x8 x9 x10))⟩,
    ⟨r0_20, k0_pay40 (k0_pay66 x0 x1 x2 x3 x4 x5 x6 x7 x8 x9 x10) (k0_pay67 x0 x1 x2 x3 x4 x5 x6 x7 x8 x9 x10)⟩,
    ⟨r0_19, k0_pay39 (k0_pay66 x0 x1 x2 x3 x4 x5 x6 x7 x8 x9 x10) (k0_pay67 x0 x1 x2 x3 x4 x5 x6 x7 x8 x9 x10)⟩,
    ⟨r0_18, k0_pay38 (k0_pay66 x0 x1 x2 x3 x4 x5 x6 x7 x8 x9 x10) (k0_pay67 x0 x1 x2 x3 x4 x5 x6 x7 x8 x9 x10)⟩,
    ⟨r0_17, k0_pay37 (k0_pay66 x0 x1 x2 x3 x4 x5 x6 x7 x8 x9 x10) (k0_pay67 x0 x1 x2 x3 x4 x5 x6 x7 x8 x9 x10)⟩,
    ⟨r0_16, k0_pay36 (k0_pay35 (k0_pay64 x0 x1 x2 x3 x4 x5 x6 x7 x8 x9 x10) (k0_pay65 x0 x1 x2 x3 x4 x5 x6 x7 x8 x9 x10) (View.ld x7 r0_24))⟩]

/-- Its stores tile the buffer (checked by evaluation), so they cover it. -/
theorem cover0_12 (p0 : Vec F S1x1x512x128 .bf16) (p1 : Vec F S1x1x512x128 .bf16) (p2 : Vec F S1x1x512x128 .bf16) (p3 : Vec F S1x1x512x128 .bf16) (p4 : Vec F S1x1x512x128 .bf16) (p5 : Vec F S1x1x512x128 .bf16) (p6 : Vec F S1x1x512x128 .bf16) (p7 : Vec F S1x1x512x128 .bf16) (y : S1x8x512x128.Idx) :
    ∃ pc ∈ ([⟨r0_23, p0⟩, ⟨r0_22, p1⟩, ⟨r0_21, p2⟩, ⟨r0_20, p3⟩, ⟨r0_19, p4⟩, ⟨r0_18, p5⟩, ⟨r0_17, p6⟩, ⟨r0_16, p7⟩] : List (View.Piece (Elt F) S1x8x512x128 .bf16)), y ∈ pc.1.set :=
  View.cover_of_tiled [⟨r0_23, p0⟩, ⟨r0_22, p1⟩, ⟨r0_21, p2⟩, ⟨r0_20, p3⟩, ⟨r0_19, p4⟩, ⟨r0_18, p5⟩, ⟨r0_17, p6⟩, ⟨r0_16, p7⟩] S1x1x512x128.size (by rfl) y

/-- Window 13's staging buffer after the body, from the input windows' blocks: its 4 stores as pieces, LAST
    FIRST. -/
def out0_13 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S1x4x512x128 .bf16 :=
  View.canon [⟨r0_28, k0_pay49 (k0_pay48 (k0_pay66 x0 x1 x2 x3 x4 x5 x6 x7 x8 x9 x10))⟩,
    ⟨r0_27, k0_pay47 (k0_pay66 x0 x1 x2 x3 x4 x5 x6 x7 x8 x9 x10)⟩,
    ⟨r0_26, k0_pay46 (k0_pay66 x0 x1 x2 x3 x4 x5 x6 x7 x8 x9 x10)⟩,
    ⟨r0_25, k0_pay45 (k0_pay66 x0 x1 x2 x3 x4 x5 x6 x7 x8 x9 x10)⟩]

/-- Its stores tile the buffer (checked by evaluation), so they cover it. -/
theorem cover0_13 (p0 : Vec F S1x1x512x128 .bf16) (p1 : Vec F S1x1x512x128 .bf16) (p2 : Vec F S1x1x512x128 .bf16) (p3 : Vec F S1x1x512x128 .bf16) (y : S1x4x512x128.Idx) :
    ∃ pc ∈ ([⟨r0_28, p0⟩, ⟨r0_27, p1⟩, ⟨r0_26, p2⟩, ⟨r0_25, p3⟩] : List (View.Piece (Elt F) S1x4x512x128 .bf16)), y ∈ pc.1.set :=
  View.cover_of_tiled [⟨r0_28, p0⟩, ⟨r0_27, p1⟩, ⟨r0_26, p2⟩, ⟨r0_25, p3⟩] S1x1x512x128.size (by rfl) y

/-- Window 14's staging buffer after the body, from the input windows' blocks: its 1 store as pieces, LAST
    FIRST. -/
def out0_14 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S512x256 .f32 :=
  View.canon [⟨r0_14, k0_pay20 (k0_pay63 x0 x1 x2 x3 x4 x5 x6 x7 x8 x9 x10) (View.ld x6 r0_13)⟩]

/-- Its stores tile the buffer (checked by evaluation), so they cover it. -/
theorem cover0_14 (p0 : Vec F S512x256 .f32) (y : S512x256.Idx) :
    ∃ pc ∈ ([⟨r0_14, p0⟩] : List (View.Piece (Elt F) S512x256 .f32)), y ∈ pc.1.set :=
  View.cover_of_tiled [⟨r0_14, p0⟩] S512x256.size (by rfl) y

/-- Window 15's staging buffer after the body, from the input windows' blocks: its 1 store as pieces, LAST
    FIRST. -/
def out0_15 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S512x32 .f32 :=
  View.canon [⟨r0_15, k0_pay23 (k0_pay55 x0 x1 x2 x3 x4 x5 x6 x7 x8 x9 x10) (k0_pay59 x0 x1 x2 x3 x4 x5 x6 x7 x8 x9 x10) (k0_pay60 x0 x1 x2 x3 x4 x5 x6 x7 x8 x9 x10) (k0_pay61 x0 x1 x2 x3 x4 x5 x6 x7 x8 x9 x10)⟩]

/-- Its stores tile the buffer (checked by evaluation), so they cover it. -/
theorem cover0_15 (p0 : Vec F S512x32 .f32) (y : S512x32.Idx) :
    ∃ pc ∈ ([⟨r0_15, p0⟩] : List (View.Piece (Elt F) S512x32 .f32)), y ∈ pc.1.set :=
  View.cover_of_tiled [⟨r0_15, p0⟩] S512x32.size (by rfl) y

/-- Window 16's staging buffer after the body, from the input windows' blocks: its 1 store as pieces, LAST
    FIRST. -/
def out0_16 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S512x256 .f32 :=
  View.canon [⟨r0_14, k0_pay50 (k0_pay55 x0 x1 x2 x3 x4 x5 x6 x7 x8 x9 x10)⟩]

/-- Its stores tile the buffer (checked by evaluation), so they cover it. -/
theorem cover0_16 (p0 : Vec F S512x256 .f32) (y : S512x256.Idx) :
    ∃ pc ∈ ([⟨r0_14, p0⟩] : List (View.Piece (Elt F) S512x256 .f32)), y ∈ pc.1.set :=
  View.cover_of_tiled [⟨r0_14, p0⟩] S512x256.size (by rfl) y

/-- Window 17's staging buffer after the body, from the input windows' blocks: its 1 store as pieces, LAST
    FIRST. -/
def out0_17 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S512x256 .f32 :=
  View.canon [⟨r0_14, k0_pay51 (k0_pay55 x0 x1 x2 x3 x4 x5 x6 x7 x8 x9 x10)⟩]

/-- Its stores tile the buffer (checked by evaluation), so they cover it. -/
theorem cover0_17 (p0 : Vec F S512x256 .f32) (y : S512x256.Idx) :
    ∃ pc ∈ ([⟨r0_14, p0⟩] : List (View.Piece (Elt F) S512x256 .f32)), y ∈ pc.1.set :=
  View.cover_of_tiled [⟨r0_14, p0⟩] S512x256.size (by rfl) y

/-- Window 18's staging buffer after the body, from the input windows' blocks: its 1 store as pieces, LAST
    FIRST. -/
def out0_18 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S512x512 .bf16 :=
  View.canon [⟨r0_29, k0_pay52 (k0_pay55 x0 x1 x2 x3 x4 x5 x6 x7 x8 x9 x10)⟩]

/-- Its stores tile the buffer (checked by evaluation), so they cover it. -/
theorem cover0_18 (p0 : Vec F S512x512 .bf16) (y : S512x512.Idx) :
    ∃ pc ∈ ([⟨r0_29, p0⟩] : List (View.Piece (Elt F) S512x512 .bf16)), y ∈ pc.1.set :=
  View.cover_of_tiled [⟨r0_29, p0⟩] S512x512.size (by rfl) y

/-- Window 19's staging buffer after the body, from the input windows' blocks: its 1 store as pieces, LAST
    FIRST. -/
def out0_19 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S512x256 .f32 :=
  View.canon [⟨r0_14, k0_pay54 (k0_pay21 (k0_pay55 x0 x1 x2 x3 x4 x5 x6 x7 x8 x9 x10)) (View.ld x8 r0_30) (View.ld x9 r0_13)⟩]

/-- Its stores tile the buffer (checked by evaluation), so they cover it. -/
theorem cover0_19 (p0 : Vec F S512x256 .f32) (y : S512x256.Idx) :
    ∃ pc ∈ ([⟨r0_14, p0⟩] : List (View.Piece (Elt F) S512x256 .f32)), y ∈ pc.1.set :=
  View.cover_of_tiled [⟨r0_14, p0⟩] S512x256.size (by rfl) y

/-- Window 20's staging buffer after the body, from the input windows' blocks: its 1 store as pieces, LAST
    FIRST. -/
def out0_20 (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) : Vec F S512x512 .f32 :=
  View.canon [⟨r0_29, k0_pay53 (k0_pay55 x0 x1 x2 x3 x4 x5 x6 x7 x8 x9 x10)⟩]

/-- Its stores tile the buffer (checked by evaluation), so they cover it. -/
theorem cover0_20 (p0 : Vec F S512x512 .f32) (y : S512x512.Idx) :
    ∃ pc ∈ ([⟨r0_29, p0⟩] : List (View.Piece (Elt F) S512x512 .f32)), y ∈ pc.1.set :=
  View.cover_of_tiled [⟨r0_29, p0⟩] S512x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel (c : Dev nD) (E : Set ℕ) (i : grid0.Coords) (arg1 : Memref sig .tc .vmem S512x1024 .f32) (harg1 : arg1.IsWhole) (arg2 : Memref sig .tc .vmem S1x1x3072 .f32) (harg2 : arg2.IsWhole) (arg3 : Memref sig .tc .vmem S1x1024 .f32) (harg3 : arg3.IsWhole) (arg4 : Memref sig .tc .vmem S1024x2304 .bf16) (harg4 : arg4.IsWhole) (arg5 : Memref sig .tc .vmem S1x384 .f32) (harg5 : arg5.IsWhole) (arg6 : Memref sig .tc .vmem S384x1024 .bf16) (harg6 : arg6.IsWhole) (arg7 : Memref sig .tc .vmem S1x256 .f32) (harg7 : arg7.IsWhole) (arg8 : Memref sig .tc .vmem S256x1536 .bf16) (harg8 : arg8.IsWhole) (arg9 : Memref sig .tc .vmem S128x256 .bf16) (harg9 : arg9.IsWhole) (arg10 : Memref sig .tc .vmem S1x256 .f32) (harg10 : arg10.IsWhole) (arg11 : Memref sig .tc .vmem S512x768 .f32) (harg11 : arg11.IsWhole) (arg12 : Memref sig .tc .vmem S1x8x512x128 .bf16) (harg12 : arg12.IsWhole) (arg13 : Memref sig .tc .vmem S1x8x512x128 .bf16) (harg13 : arg13.IsWhole) (arg14 : Memref sig .tc .vmem S1x4x512x128 .bf16) (harg14 : arg14.IsWhole) (arg15 : Memref sig .tc .vmem S512x256 .f32) (harg15 : arg15.IsWhole) (arg16 : Memref sig .tc .vmem S512x32 .f32) (harg16 : arg16.IsWhole) (arg17 : Memref sig .tc .vmem S512x256 .f32) (harg17 : arg17.IsWhole) (arg18 : Memref sig .tc .vmem S512x256 .f32) (harg18 : arg18.IsWhole) (arg19 : Memref sig .tc .vmem S512x512 .bf16) (harg19 : arg19.IsWhole) (arg20 : Memref sig .tc .vmem S512x256 .f32) (harg20 : arg20.IsWhole) (arg21 : Memref sig .tc .vmem S512x512 .f32) (harg21 : arg21.IsWhole)
    (x0 : Vec F S512x1024 .f32) (x1 : Vec F S1x1x3072 .f32) (x2 : Vec F S1x1024 .f32) (x3 : Vec F S1024x2304 .bf16) (x4 : Vec F S1x384 .f32) (x5 : Vec F S384x1024 .bf16) (x6 : Vec F S1x256 .f32) (x7 : Vec F S256x1536 .bf16) (x8 : Vec F S128x256 .bf16) (x9 : Vec F S1x256 .f32) (x10 : Vec F S512x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10) ∗ owns (c : Thread nD τ) arg13 fullShare (out0_12 x0 x1 x2 x3 x4 x5 x6 x7 x8 x9 x10) ∗ owns (c : Thread nD τ) arg14 fullShare (out0_13 x0 x1 x2 x3 x4 x5 x6 x7 x8 x9 x10) ∗ owns (c : Thread nD τ) arg15 fullShare (out0_14 x0 x1 x2 x3 x4 x5 x6 x7 x8 x9 x10) ∗ owns (c : Thread nD τ) arg16 fullShare (out0_15 x0 x1 x2 x3 x4 x5 x6 x7 x8 x9 x10) ∗ owns (c : Thread nD τ) arg17 fullShare (out0_16 x0 x1 x2 x3 x4 x5 x6 x7 x8 x9 x10) ∗ owns (c : Thread nD τ) arg18 fullShare (out0_17 x0 x1 x2 x3 x4 x5 x6 x7 x8 x9 x10) ∗ owns (c : Thread nD τ) arg19 fullShare (out0_18 x0 x1 x2 x3 x4 x5 x6 x7 x8 x9 x10) ∗ owns (c : Thread nD τ) arg20 fullShare (out0_19 x0 x1 x2 x3 x4 x5 x6 x7 x8 x9 x10) ∗ owns (c : Thread nD τ) arg21 fullShare (out0_20 x0 x1 x2 x3 x4 x5 x6 x7 x8 x9 x10)) -∗ K ⟨⟩))
      ⊢ wp frame (wpE (defs₀ (F := F)) Variants.none c none) E (cc0_mix_in_prompt i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_mix_in_prompt_eq_skeleton]; unfold cc0_mix_in_prompt_skel
  simp only [k0_part8_eq_skeleton, k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover0_11 _ _ _ _ _ _ _ _)).trans ?_
    rfl
  isplitl [H12]
  · iexists _; isplitr
    swap; · iexact H12
    ipureintro
    refine (View.read_writes_eq_canon _ _ _ (cover0_12 _ _ _ _ _ _ _ _)).trans ?_
    rfl
  isplitl [H13]
  · iexists _; isplitr
    swap; · iexact H13
    ipureintro
    refine (View.read_writes_eq_canon _ _ _ (cover0_13 _ _ _ _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  iexists _; isplitr
  swap; · iexact H20
  ipureintro
  refine (View.read_writes_eq_canon _ _ _ (cover0_20 _)).trans ?_
  rfl

/-! ## The pipeline's proof data -/

/-- The proof data of the one pipeline on core `c`: the arrays as the region finds them (`V`); after the body at
    point `t` each input's buffer at its block and each output's at `out0_W` of the input blocks; the invariant the
    class's; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨_ + 21, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel c Set.univ (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 400000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: every run ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v70_0) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v70_1) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v70_2) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v70_3) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v70_4) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v70_5) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v70_6) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v70_7) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v70_8) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v70_9) = (dats m 0 c).arrAt 20 cfg0.N :=
  (h c).1 20

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

set_option maxHeartbeats 340000 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v70_0) = (dats m 0 c).arrAt 11 cfg0.N
      ∧ r.2.mem ((c : Thread nD τ).loc main_v70_1) = (dats m 0 c).arrAt 12 cfg0.N
      ∧ r.2.mem ((c : Thread nD τ).loc main_v70_2) = (dats m 0 c).arrAt 13 cfg0.N
      ∧ r.2.mem ((c : Thread nD τ).loc main_v70_3) = (dats m 0 c).arrAt 14 cfg0.N
      ∧ r.2.mem ((c : Thread nD τ).loc main_v70_4) = (dats m 0 c).arrAt 15 cfg0.N
      ∧ r.2.mem ((c : Thread nD τ).loc main_v70_5) = (dats m 0 c).arrAt 16 cfg0.N
      ∧ r.2.mem ((c : Thread nD τ).loc main_v70_6) = (dats m 0 c).arrAt 17 cfg0.N
      ∧ r.2.mem ((c : Thread nD τ).loc main_v70_7) = (dats m 0 c).arrAt 18 cfg0.N
      ∧ r.2.mem ((c : Thread nD τ).loc main_v70_8) = (dats m 0 c).arrAt 19 cfg0.N
      ∧ r.2.mem ((c : Thread nD τ).loc main_v70_9) = (dats m 0 c).arrAt 20 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post11 m r h c,
      post12 m r h c,
      post13 m r h c,
      post14 m r h c,
      post15 m r h c,
      post16 m r h c,
      post17 m r h c,
      post18 m r h c,
      post19 m r h c,
      post20 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.Kernel4Ideal.Gen

end
-- ==== Proof.ProjSpec.lean ====
/-
  What the mixers read, one row at a time, over the extended reals: the scaled parts of the row's projection, the rotary
  embedding, the heads' columns and the logarithm of the recurrence's gate.
-/
module

public import proofs.«01_k».proof.Proof.FfnSpec

@[expose] public section

set_option maxRecDepth 16384

noncomputable section

namespace Cert.Proj

open Idealize.ShloMosaic Cert.Ffn

/-- The row's projection onto a column of the first matrix. -/
def proj (x g scale shift : Fin 1024 → EReal) (w : Fin 1024 → Fin 2224 → EReal) (c : Fin 2224) : EReal :=
  ∑ i, modulated x g scale shift i * w i c

/-- Where a position of a batch row lies in the flattened prompt. -/
def row (b : Fin 16) (s : Fin 2048) : Fin 32768 := ⟨b.val * 2048 + s.val, by omega⟩

/-- All columns of the projection of a prompt's row: the modulation's fourth and fifth thousand-odd columns are shift and scale. -/
def cols (x : Fin 32768 → Fin 1024 → EReal) (mod : Fin 16 → Fin 9216 → EReal) (g : Fin 1024 → EReal)
    (w : Fin 1024 → Fin 2224 → EReal) (b : Fin 16) (s : Fin 2048) : Fin 2224 → EReal :=
  proj (x (row b s)) g (fun j => mod b ⟨4096 + j.val, by omega⟩) (fun j => mod b ⟨3072 + j.val, by omega⟩) w

/-- Angle `k` of the rotary embedding at position `s`. -/
def angle (s : Fin 2048) (k : Fin 16) : EReal :=
  FloatOps.sitofp (F := Ideal) .f32 (BitVec.ofNat 32 s.val) * Ideal.pow (Ideal.ofBits .f32 0x461C4000#32)
    (Ideal.div (-(Ideal.ofBits .f32 0x40000000#32 * FloatOps.sitofp (F := Ideal) .f32 (BitVec.ofNat 32 k.val)))
      (Ideal.ofBits .f32 0x42000000#32))

/-- The cosines of a position's angles. -/
def cs (s : Fin 2048) (k : Fin 16) : EReal := Ideal.cos (angle s k)

/-- The sines of a position's angles. -/
def sn (s : Fin 2048) (k : Fin 16) : EReal := Ideal.sin (angle s k)

/-- The rotary embedding of 32 columns: the two halves as the coordinates of a plane, turned by the angles. -/
def turned (f : Fin 32 → EReal) (c n : Fin 16 → EReal) (j : Fin 32) : EReal :=
  if h : j.val < 16 then f ⟨j.val, j.isLt⟩ * c ⟨j.val, h⟩ - f ⟨16 + j.val, by omega⟩ * n ⟨j.val, h⟩
  else f ⟨j.val - 16, by omega⟩ * n ⟨j.val - 16, by omega⟩ + f ⟨16 + (j.val - 16), by omega⟩ * c ⟨j.val - 16, by omega⟩

/-- A head's 128 columns: 64 that carry no position, 32 that do, and room. -/
def head (n : Fin 64 → EReal) (r : Fin 32 → EReal) (j : Fin 128) : EReal :=
  if h : j.val < 64 then n ⟨j.val, h⟩ else if h' : j.val - 64 < 32 then r ⟨j.val - 64, h'⟩ else 0

/-- The scaled latent of the queries. -/
def latQ (A : Fin 2224 → EReal) (g : Fin 384 → EReal) : Fin 384 → EReal :=
  scaled 0x43C00000#32 (fun j => A ⟨j.val, by omega⟩) g

/-- The scaled latent of the keys and values, which is cached. -/
def latKV (A : Fin 2224 → EReal) (g : Fin 256 → EReal) : Fin 256 → EReal :=
  scaled 0x43800000#32 (fun j => A ⟨384 + j.val, by omega⟩) g

/-- The key columns that carry the position, which are cached. -/
def keyR (A : Fin 2224 → EReal) (c n : Fin 16 → EReal) : Fin 32 → EReal :=
  turned (fun j => A ⟨640 + j.val, by omega⟩) c n

/-- A head's query. -/
def query (A : Fin 2224 → EReal) (g : Fin 384 → EReal) (w : Fin 384 → Fin 8 → Fin 96 → EReal) (c n : Fin 16 → EReal)
    (h : Fin 8) : Fin 128 → EReal :=
  head (fun j => ∑ i, latQ A g i * w i h ⟨j.val, by omega⟩)
    (turned (fun j => ∑ i, latQ A g i * w i h ⟨64 + j.val, by omega⟩) c n)

/-- A head's key. -/
def key (A : Fin 2224 → EReal) (g : Fin 256 → EReal) (w : Fin 256 → Fin 8 → Fin 128 → EReal) (c n : Fin 16 → EReal)
    (h : Fin 8) : Fin 128 → EReal :=
  head (fun j => ∑ i, latKV A g i * w i h ⟨j.val, by omega⟩) (keyR A c n)

/-- The values of a pair of heads. -/
def value (A : Fin 2224 → EReal) (g : Fin 256 → EReal) (w : Fin 256 → Fin 8 → Fin 128 → EReal) (r : Fin 4) (j : Fin 128) : EReal :=
  ∑ i, latKV A g i * w i ⟨r.val * 2 + j.val / 64, by omega⟩ ⟨64 + j.val % 64, by omega⟩

/-- The logarithm of the sigmoid. -/
def logSig (z : EReal) : EReal := -(max (-z) 0 + Ideal.log1p (Ideal.exp (-(FloatOps.absf (F := Ideal) (φ := .f32) (-z)))))

/-- The logarithm of the recurrence's gate. -/
def logGate (A : Fin 2224 → EReal) (w : Fin 16 → Fin 256 → EReal) (b : Fin 256 → EReal) (c : Fin 256) : EReal :=
  Ideal.div (logSig (∑ i : Fin 16, A ⟨1696 + i.val, by omega⟩ * w i c + b c)) (Ideal.ofBits .f32 0x41800000#32)

end Cert.Proj

end
-- ==== Proof.ProjMath.lean ====
/-
  The arithmetic by which the kernel's projections are the row's: turning lanes by a table instead of two halves, a constant
  factor out of a sum, a sum over padded rows, and the logarithm of the sigmoid in two forms.
-/
module

public import proofs.«01_k».proof.Proof.ProjSpec

@[expose] public section

noncomputable section

namespace Cert.Proj

open Idealize.ShloMosaic Cert.Ffn

variable (x : Fin 128 → EReal) (c n : Fin 16 → EReal)

/-- The same lane. -/
theorem same {a b : Fin 128} (h : a.val = b.val) : x a = x b := by rw [Fin.ext h]

/-- A head's lanes turned by the queries' table. -/
theorem turnQ (j : Fin 128) :
    x j * (if j.val < 64 then 1 else if h : j.val - 64 < 16 then c ⟨j.val - 64, h⟩
        else if h : j.val - 64 - 16 < 16 then c ⟨j.val - 64 - 16, h⟩ else 0)
      + x ⟨(j.val + 128 - 16) % 128, by omega⟩ * (if j.val < 80 then 0 else if h : j.val - 80 < 16 then n ⟨j.val - 80, h⟩ else 0)
      + x ⟨(j.val + 128 - 112) % 128, by omega⟩ * (if j.val < 64 then 0 else if h : j.val - 64 < 16 then -n ⟨j.val - 64, h⟩ else 0)
      = head (fun j => x ⟨j.val, by omega⟩) (turned (fun j => x ⟨64 + j.val, by omega⟩) c n) j := by
  unfold head
  by_cases h : j.val < 64
  · rw [if_pos h, if_pos (by omega), if_pos h, dif_pos h, mul_one, mul_zero, mul_zero, add_zero, add_zero]
  rw [if_neg h, if_neg h, dif_neg h]
  by_cases h1 : j.val - 64 < 16
  · rw [dif_pos h1, if_pos (by omega), dif_pos h1, dif_pos (by omega), mul_zero, add_zero, mul_neg, ← sub_eq_add_neg]
    unfold turned
    rw [dif_pos h1]
    exact congrArg₂ (· - ·) (congrArg (· * _) (same x (by dsimp only; omega))) (congrArg (· * _) (same x (by dsimp only; omega)))
  rw [dif_neg h1, dif_neg h1, mul_zero, add_zero]
  by_cases h2 : j.val - 64 - 16 < 16
  · rw [dif_pos h2, if_neg (by omega), dif_pos (by omega), dif_pos (by omega), add_comm]
    unfold turned
    rw [dif_neg h1]
    exact congrArg₂ (· + ·) (congrArg₂ (· * ·) (same x (by dsimp only; omega)) (congrArg n (Fin.ext (by dsimp only; omega))))
      (congrArg (· * _) (same x (by dsimp only; omega)))
  rw [dif_neg h2, if_neg (by omega), dif_neg (by omega), dif_neg (by omega), mul_zero, mul_zero, add_zero]

/-- The key's lanes turned by the keys' table. -/
theorem turnK (j : Fin 128) :
    x j * (if h : j.val < 16 then c ⟨j.val, h⟩ else if h : j.val - 16 < 16 then c ⟨j.val - 16, h⟩ else 0)
      + x ⟨(j.val + 128 - 16) % 128, by omega⟩ * (if j.val < 16 then 0 else if h : j.val - 16 < 16 then n ⟨j.val - 16, h⟩ else 0)
      + x ⟨(j.val + 128 - 112) % 128, by omega⟩ * (if h : j.val < 16 then -n ⟨j.val, h⟩ else 0)
      = if h : j.val < 32 then turned (fun j => x ⟨j.val, by omega⟩) c n ⟨j.val, h⟩ else 0 := by
  by_cases h1 : j.val < 16
  · rw [dif_pos h1, if_pos h1, dif_pos h1, dif_pos (by omega), mul_zero, add_zero, mul_neg, ← sub_eq_add_neg]
    unfold turned
    rw [dif_pos h1]
    exact congrArg (_ - ·) (congrArg (· * _) (same x (by dsimp only; omega)))
  rw [dif_neg h1, if_neg h1, dif_neg h1, mul_zero, add_zero]
  by_cases h2 : j.val - 16 < 16
  · rw [dif_pos h2, dif_pos h2, dif_pos (by omega), add_comm]
    unfold turned
    rw [dif_neg h1]
    exact congrArg₂ (· + ·) (congrArg (· * _) (same x (by dsimp only; omega))) (congrArg (· * _) (same x (by dsimp only; omega)))
  rw [dif_neg h2, dif_neg h2, dif_neg (by omega), mul_zero, mul_zero, add_zero]

/-- A head's key from its columns without a position and the turned columns moved up by 64 lanes. -/
theorem headK (f : Fin 64 → EReal) (r : Fin 32 → EReal) (j : Fin 128) :
    (if h : j.val < 64 then f ⟨j.val, h⟩ else 0)
      + (if h : (j.val + 128 - 64) % 128 < 32 then r ⟨(j.val + 128 - 64) % 128, h⟩ else 0) = head f r j := by
  unfold head
  by_cases h : j.val < 64
  · rw [dif_pos h, dif_pos h, dif_neg (by omega), add_zero]
  rw [dif_neg h, dif_neg h, zero_add]
  by_cases h1 : j.val - 64 < 32
  · rw [dif_pos h1, dif_pos (by omega)]
    exact congrArg r (Fin.ext (by dsimp only; omega))
  rw [dif_neg h1, dif_neg (by omega)]

/-- A sum over padded rows is the sum over the rows inside. -/
theorem inside (w : Fin 16 → EReal) :
    ∑ i : Fin 128, x i * (if h : 32 ≤ i.val ∧ i.val < 48 then w ⟨i.val - 32, by omega⟩ else 0)
      = ∑ i : Fin 16, x ⟨32 + i.val, by omega⟩ * w i := by
  symm
  refine Finset.sum_of_injOn (fun i : Fin 16 => (⟨32 + i.val, by omega⟩ : Fin 128)) ?_ (fun _ _ => Finset.mem_coe.2 (Finset.mem_univ _)) ?_ ?_
  · intro a _ b _ h
    exact Fin.ext (by have := congrArg Fin.val h; dsimp only at this; omega)
  · intro i _ hi
    rw [dif_neg, mul_zero]
    intro h
    exact hi ⟨⟨i.val - 32, by omega⟩, Finset.mem_coe.2 (Finset.mem_univ _), Fin.ext (by dsimp only; omega)⟩
  · intro i _
    rw [dif_pos (by dsimp only; omega)]
    exact congrArg (_ * ·) (congrArg w (Fin.ext (by dsimp only; omega)))

/-- The recurrence's query scale is an eighth. -/
theorem bits_eighth : Ideal.ofBits .f32 0x3E000000#32 = ((1 / 8 : ℝ) : EReal) := by
  simp [Ideal.ofBits, Ideal.ieee, -EReal.coe_mul]
  norm_num

/-- A factor that is not negative and not infinite comes out of a sum. -/
theorem sum_mul_const {ι : Type} (s : Finset ι) (f : ι → EReal) (k : EReal) (h0 : 0 ≤ k) (ht : k ≠ ⊤) :
    ∑ i ∈ s, f i * k = (∑ i ∈ s, f i) * k := by
  classical
  induction s using Finset.induction_on with
  | empty => rw [Finset.sum_empty, Finset.sum_empty, zero_mul]
  | insert a s ha ih => rw [Finset.sum_insert ha, Finset.sum_insert ha, ih, EReal.right_distrib_of_nonneg_of_ne_top h0 ht]

/-- The scale put into the matrix comes out of the projection. -/
theorem scale_out (f g : Fin 1024 → EReal) :
    ∑ i, f i * (g i * Ideal.ofBits .f32 0x3E000000#32) = (∑ i, f i * g i) * Ideal.ofBits .f32 0x3E000000#32 := by
  rw [← sum_mul_const Finset.univ (fun i => f i * g i) _ (by rw [bits_eighth]; exact_mod_cast (by norm_num : (0 : ℝ) ≤ 1 / 8))
    (by rw [bits_eighth]; exact EReal.coe_ne_top _)]
  exact Finset.sum_congr rfl fun i _ => (mul_assoc _ _ _).symm

/-- The absolute value forgets the sign. -/
theorem abs_neg' (z : EReal) : FloatOps.absf (F := Ideal) (φ := .f32) (-z) = FloatOps.absf (F := Ideal) (φ := .f32) z := by
  show max (-z) (- -z) = max z (-z)
  rw [neg_neg, max_comm]

/-- The exponential is not negative. -/
theorem exp_nonneg (a : EReal) : 0 ≤ Ideal.exp a := by
  induction a with
  | bot => exact le_refl _
  | top => exact le_top
  | coe r => exact EReal.coe_nonneg.2 (Real.exp_pos r).le

/-- One and an exponential have a logarithm above the least value. -/
theorem log1p_ne_bot (a : EReal) : Ideal.log1p (Ideal.exp a) ≠ ⊥ := by
  have h := exp_nonneg a
  generalize Ideal.exp a = e at h
  unfold Ideal.log1p
  induction e with
  | bot => exact absurd h (by decide)
  | top =>
    have : (1 : EReal) + ⊤ = ⊤ := rfl
    rw [this]
    exact top_ne_bot
  | coe r =>
    have : (1 : EReal) + (r : EReal) = ((1 + r : ℝ) : EReal) := rfl
    rw [this]
    have hr : 0 ≤ r := by exact_mod_cast h
    show (if 1 + r ≤ 0 then ⊥ else ((Real.log (1 + r) : ℝ) : EReal)) ≠ ⊥
    rw [if_neg (by linarith)]
    exact EReal.coe_ne_bot _

/-- The two forms of the sigmoid's logarithm. -/
theorem logSig_eq (z : EReal) :
    min z 0 - Ideal.log1p (Ideal.exp (0 - FloatOps.absf (F := Ideal) (φ := .f32) z)) = logSig z := by
  unfold logSig
  rw [abs_neg', zero_sub, EReal.neg_add (.inl ?_) (.inr (log1p_ne_bot _))]
  · refine congrArg (· - _) ?_
    rcases le_total z 0 with h | h
    · rw [min_eq_left h, max_eq_left (by rwa [EReal.neg_nonneg]), neg_neg]
    · rw [min_eq_right h, max_eq_right (EReal.neg_le.2 (by rwa [neg_zero])), neg_zero]
  · exact ne_of_gt (lt_of_lt_of_le (EReal.bot_lt_zero) (le_max_right _ _))

end Cert.Proj

end
-- ==== Proof.ProjBlock.lean ====
module

public import proofs.«01_k».proof.Proof.ProjMath
public import proofs.«01_k».proof.Proof.ProjRunIdeal
public import Idealize.ShloMosaic.Lib.Pipeline.ValueKit

@[expose] public section

/-! What one block of the projections computes, from what its operands hold: the modulated rows times the reordered matrix, and from
    its columns the queries, keys and values of every head, and the recurrence's gate. -/

set_option maxRecDepth 16384

noncomputable section

namespace Cert.Kernel4Ideal.Proj

open Cert.Kernel4Ideal Cert.Kernel4Ideal.Gen Idealize.ShloMosaic Idealize.ShloMosaic.TcCoe Idealize.SL.Sem Cert.Ffn Cert.Proj

/-- The modulated rows times the reordered matrix. -/
theorem pay1_apply (x : FVec Ideal S512x1024 .f32) (sh sc : FVec Ideal S1x1x1024 .f32) (g : FVec Ideal S1x1024 .f32) (w : FVec Ideal S1024x2304 .bf16)
    (p : Fin 512) (j : Fin 2304) : k0_pay1 (F := Ideal) x sh sc g w (ix2 p j)
      = ∑ i, modulated (fun i => x (ix2 p i)) (fun i => g (ix2 0 i)) (fun i => sc (ix3 0 0 i)) (fun i => sh (ix3 0 0 i)) i * w (ix2 i j) := by
  pointwise [k0_pay1]
  rfl

/-- The scaled latent times the queries' matrix. -/
theorem pay8_apply (a : FVec Ideal S512x2304 .f32) (g : FVec Ideal S1x384 .f32) (w : FVec Ideal S384x1024 .bf16) (p : Fin 512) (j : Fin 1024) :
    k0_pay8 (F := Ideal) a g w (ix2 p j) = ∑ i, scaled 0x43C00000#32 (fun i : Fin 384 => a (ix2 p ⟨i.val, by omega⟩)) (fun i => g (ix2 0 i)) i * w (ix2 i j) := by
  pointwise [k0_pay8]
  rfl

/-- The scaled latent of the keys and values. -/
theorem pay20_apply (a : FVec Ideal S512x2304 .f32) (g : FVec Ideal S1x256 .f32) (p : Fin 512) (j : Fin 256) :
    k0_pay20 (F := Ideal) (k0_pay19 (F := Ideal) a) g (ix2 p j) = scaled 0x43800000#32 (fun i : Fin 256 => a (ix2 p ⟨384 + i.val, by omega⟩)) (fun i => g (ix2 0 i)) j := by
  pointwise [k0_pay20, k0_pay19]
  rfl

/-- The scaled latent times the keys' and values' matrix. -/
theorem pay33_apply (a : FVec Ideal S512x256 .f32) (w : FVec Ideal S256x1536 .bf16) (p : Fin 512) (j : Fin 1536) :
    k0_pay33 (F := Ideal) a w (ix2 p j) = ∑ i : Fin 256, a (ix2 p i) * w (ix2 i j) := by
  pointwise [k0_pay33]

/-- The shared key's lanes, turned. -/
theorem pay22_apply (a : FVec Ideal S512x2304 .f32) (c b d : FVec Ideal S512x128 .f32) (p : Fin 512) (j : Fin 128) :
    k0_pay22 (F := Ideal) a c b d (ix2 p j)
      = a (ix2 p ⟨2176 + j.val, by omega⟩) * c (ix2 p j) + a (ix2 p ⟨2176 + (j.val + 128 - 16) % 128, by omega⟩) * b (ix2 p j)
        + a (ix2 p ⟨2176 + (j.val + 128 - 112) % 128, by omega⟩) * d (ix2 p j) := by
  pointwise [k0_pay22, k0_pay21]

/-- The shared key's lanes, moved behind the 64 that carry no position. -/
theorem pay34_apply (a : FVec Ideal S512x128 .f32) (p : Fin 512) (j : Fin 128) :
    k0_pay34 (F := Ideal) a (ix2 p j) = a (ix2 p ⟨(j.val + 128 - 64) % 128, by omega⟩) := by
  pointwise [k0_pay34]

/-- The gate, before the last lanes are chosen. -/
theorem pay54_apply (a : FVec Ideal S512x2304 .f32) (w : FVec Ideal S128x256 .bf16) (b : FVec Ideal S1x256 .f32) (p : Fin 512) (j : Fin 256) :
    k0_pay54 (F := Ideal) (k0_pay21 (F := Ideal) a) w b (ix2 p j)
      = Ideal.div (logSig (∑ i : Fin 128, a (ix2 p ⟨2176 + i.val, by omega⟩) * w (ix2 i j) + b (ix2 0 j))) (Ideal.ofBits .f32 0x41800000#32) := by
  rw [← logSig_eq]
  pointwise [k0_pay54, k0_pay21]

/-- The table's parts pass through. -/
theorem pay2_apply (v : FVec Ideal S512x128 .f32) (p : Fin 512) (j : Fin 128) : k0_pay2 (F := Ideal) v (ix2 p j) = v (ix2 p j) := by
  pointwise [k0_pay2]

section
variable (a : FVec Ideal S512x2304 .f32) (A : Fin 2224 → EReal) (p : Fin 512)
  (c b d : FVec Ideal S512x128 .f32) (cc nn : Fin 16 → EReal)

/-- A query entry before it is turned. -/
theorem q_entry (g : FVec Ideal S1x384 .f32) (w : FVec Ideal S384x1024 .bf16) (gq : Fin 384 → EReal) (WQ : Fin 384 → Fin 8 → Fin 96 → EReal)
    (ha : ∀ j : Fin 640, a (ix2 p ⟨j.val, by omega⟩) = A ⟨j.val, by omega⟩) (hg : ∀ i, g (ix2 0 i) = gq i)
    (hw : ∀ i (r : Fin 8) (j : Fin 128), w (ix2 i ⟨128 * r.val + j.val, by omega⟩) = if h : j.val < 96 then WQ i r ⟨j.val, h⟩ else 0)
    (r : Fin 8) (j : Fin 128) (z : Fin 1024) (hz : z.val = 128 * r.val + j.val) :
    k0_pay8 (F := Ideal) a g w (ix2 p z) = if h : j.val < 96 then ∑ i, latQ A gq i * WQ i r ⟨j.val, h⟩ else 0 := by
  have ez : z = ⟨128 * r.val + j.val, by omega⟩ := Fin.ext hz
  rw [ez, pay8_apply]
  have e : scaled 0x43C00000#32 (fun i : Fin 384 => a (ix2 p ⟨i.val, by omega⟩)) (fun i => g (ix2 0 i)) = latQ A gq :=
    congrArg₂ (scaled 0x43C00000#32) (funext fun i => ha ⟨i.val, by omega⟩) (funext hg)
  rw [e]
  simp only [hw]
  by_cases h : j.val < 96
  · simp only [dif_pos h]
  · simp only [dif_neg h, mul_zero, Finset.sum_const_zero]

/-- A query lane. -/
theorem q_lane (g : FVec Ideal S1x384 .f32) (w : FVec Ideal S384x1024 .bf16) (gq : Fin 384 → EReal) (WQ : Fin 384 → Fin 8 → Fin 96 → EReal)
    (ha : ∀ j : Fin 640, a (ix2 p ⟨j.val, by omega⟩) = A ⟨j.val, by omega⟩) (hg : ∀ i, g (ix2 0 i) = gq i)
    (hw : ∀ i (r : Fin 8) (j : Fin 128), w (ix2 i ⟨128 * r.val + j.val, by omega⟩) = if h : j.val < 96 then WQ i r ⟨j.val, h⟩ else 0)
    (hc : ∀ j : Fin 128, c (ix2 p j) = if j.val < 64 then 1 else if h : j.val - 64 < 16 then cc ⟨j.val - 64, h⟩
      else if h : j.val - 64 - 16 < 16 then cc ⟨j.val - 64 - 16, h⟩ else 0)
    (hb : ∀ j : Fin 128, b (ix2 p j) = if j.val < 80 then 0 else if h : j.val - 80 < 16 then nn ⟨j.val - 80, h⟩ else 0)
    (hd : ∀ j : Fin 128, d (ix2 p j) = if j.val < 64 then 0 else if h : j.val - 64 < 16 then -nn ⟨j.val - 64, h⟩ else 0)
    (r : Fin 8) (j : Fin 128) (z z1 z2 : Fin 1024) (hz : z.val = 128 * r.val + j.val)
    (hz1 : z1.val = 128 * r.val + (j.val + 128 - 16) % 128) (hz2 : z2.val = 128 * r.val + (j.val + 128 - 112) % 128) :
    k0_pay8 (F := Ideal) a g w (ix2 p z) * c (ix2 p j) + k0_pay8 (F := Ideal) a g w (ix2 p z1) * b (ix2 p j)
      + k0_pay8 (F := Ideal) a g w (ix2 p z2) * d (ix2 p j) = query A gq WQ cc nn r j := by
  have e := q_entry a A p g w gq WQ ha hg hw r
  rw [e j z hz, e ⟨(j.val + 128 - 16) % 128, by omega⟩ z1 hz1, e ⟨(j.val + 128 - 112) % 128, by omega⟩ z2 hz2, hc, hb, hd]
  refine (turnQ (fun j : Fin 128 => if h : j.val < 96 then ∑ i, latQ A gq i * WQ i r ⟨j.val, h⟩ else 0) cc nn j).trans ?_
  unfold query
  refine congrArg₂ (fun f g => head f (turned g cc nn) j) (funext fun j => ?_) (funext fun j => ?_)
  · exact dif_pos (show j.val < 96 by omega)
  · exact dif_pos (show 64 + j.val < 96 by omega)

/-- The shared key's lanes. -/
theorem kr_lane (hk : ∀ j : Fin 32, a (ix2 p ⟨2176 + j.val, by omega⟩) = A ⟨640 + j.val, by omega⟩)
    (hc : ∀ j : Fin 128, c (ix2 p j) = if h : j.val < 16 then cc ⟨j.val, h⟩ else if h : j.val - 16 < 16 then cc ⟨j.val - 16, h⟩ else 0)
    (hb : ∀ j : Fin 128, b (ix2 p j) = if j.val < 16 then 0 else if h : j.val - 16 < 16 then nn ⟨j.val - 16, h⟩ else 0)
    (hd : ∀ j : Fin 128, d (ix2 p j) = if h : j.val < 16 then -nn ⟨j.val, h⟩ else 0) (j : Fin 128) :
    k0_pay22 (F := Ideal) a c b d (ix2 p j) = if h : j.val < 32 then keyR A cc nn ⟨j.val, h⟩ else 0 := by
  rw [pay22_apply, hc, hb, hd]
  refine (turnK (fun j : Fin 128 => a (ix2 p ⟨2176 + j.val, by omega⟩)) cc nn j).trans ?_
  have e : (fun j : Fin 32 => a (ix2 p ⟨2176 + j.val, by omega⟩)) = fun j => A ⟨640 + j.val, by omega⟩ := funext hk
  unfold keyR
  rw [← e]

/-- The scaled latent of the keys and values, entry by entry. -/
theorem kv_lat (g : FVec Ideal S1x256 .f32) (gk : Fin 256 → EReal)
    (ha : ∀ j : Fin 640, a (ix2 p ⟨j.val, by omega⟩) = A ⟨j.val, by omega⟩) (hg : ∀ i, g (ix2 0 i) = gk i) (j : Fin 256) :
    k0_pay20 (F := Ideal) (k0_pay19 (F := Ideal) a) g (ix2 p j) = latKV A gk j := by
  rw [pay20_apply]
  exact congrFun (congrArg₂ (scaled 0x43800000#32) (funext fun i : Fin 256 => ha ⟨384 + i.val, by omega⟩) (funext hg)) j

/-- A key entry without position. -/
theorem kv_key (l : FVec Ideal S512x256 .f32) (L : Fin 256 → EReal) (w : FVec Ideal S256x1536 .bf16) (WK : Fin 256 → Fin 8 → Fin 128 → EReal)
    (hl : ∀ i, l (ix2 p i) = L i)
    (hw : ∀ i (r : Fin 8) (j : Fin 128), w (ix2 i ⟨128 * r.val + j.val, by omega⟩) = if h : j.val < 64 then WK i r ⟨j.val, by omega⟩ else 0)
    (r : Fin 8) (j : Fin 128) (z : Fin 1536) (hz : z.val = 128 * r.val + j.val) :
    k0_pay33 (F := Ideal) l w (ix2 p z) = if h : j.val < 64 then ∑ i, L i * WK i r ⟨j.val, by omega⟩ else 0 := by
  have ez : z = ⟨128 * r.val + j.val, by omega⟩ := Fin.ext hz
  rw [ez, pay33_apply]
  simp only [hl, hw]
  by_cases h : j.val < 64
  · simp only [dif_pos h]
  · simp only [dif_neg h, mul_zero, Finset.sum_const_zero]

/-- A key lane. -/
theorem k_lane (l : FVec Ideal S512x256 .f32) (k : FVec Ideal S512x128 .f32) (gk : Fin 256 → EReal) (w : FVec Ideal S256x1536 .bf16)
    (WK : Fin 256 → Fin 8 → Fin 128 → EReal) (hl : ∀ i, l (ix2 p i) = latKV A gk i)
    (hw : ∀ i (r : Fin 8) (j : Fin 128), w (ix2 i ⟨128 * r.val + j.val, by omega⟩) = if h : j.val < 64 then WK i r ⟨j.val, by omega⟩ else 0)
    (hk : ∀ j : Fin 128, k (ix2 p j) = if h : j.val < 32 then keyR A cc nn ⟨j.val, h⟩ else 0)
    (r : Fin 8) (j : Fin 128) (z : Fin 1536) (hz : z.val = 128 * r.val + j.val) :
    k0_pay33 (F := Ideal) l w (ix2 p z) + k0_pay34 (F := Ideal) k (ix2 p j) = key A gk WK cc nn r j := by
  rw [kv_key p l (latKV A gk) w WK hl hw r j z hz, pay34_apply, hk]
  exact headK (fun j : Fin 64 => ∑ i, latKV A gk i * WK i r ⟨j.val, by omega⟩) (keyR A cc nn) j

/-- A value lane. -/
theorem v_lane (l : FVec Ideal S512x256 .f32) (gk : Fin 256 → EReal) (w : FVec Ideal S256x1536 .bf16)
    (WK : Fin 256 → Fin 8 → Fin 128 → EReal) (hl : ∀ i, l (ix2 p i) = latKV A gk i)
    (hw : ∀ i (r : Fin 4) (j : Fin 128), w (ix2 i ⟨1024 + 128 * r.val + j.val, by omega⟩)
      = WK i ⟨r.val * 2 + j.val / 64, by omega⟩ ⟨64 + j.val % 64, by omega⟩)
    (r : Fin 4) (j : Fin 128) (z : Fin 1536) (hz : z.val = 1024 + 128 * r.val + j.val) :
    k0_pay33 (F := Ideal) l w (ix2 p z) = value A gk WK r j := by
  have ez : z = ⟨1024 + 128 * r.val + j.val, by omega⟩ := Fin.ext hz
  rw [ez, pay33_apply]
  simp only [hl, hw]
  rfl

/-- The recurrence's gate. -/
theorem gate_lane (w : FVec Ideal S128x256 .bf16) (g : FVec Ideal S1x256 .f32) (wg : Fin 16 → Fin 256 → EReal) (bg : Fin 256 → EReal)
    (ha : ∀ j : Fin 16, a (ix2 p ⟨2208 + j.val, by omega⟩) = A ⟨1696 + j.val, by omega⟩)
    (hw : ∀ i j, w (ix2 i j) = if h : 32 ≤ i.val ∧ i.val < 48 then wg ⟨i.val - 32, by omega⟩ j else 0) (hg : ∀ j, g (ix2 0 j) = bg j) (j : Fin 256) :
    k0_pay54 (F := Ideal) (k0_pay21 (F := Ideal) a) w g (ix2 p j) = logGate A wg bg j := by
  rw [pay54_apply, hg]
  simp only [hw]
  rw [inside (fun i : Fin 128 => a (ix2 p ⟨2176 + i.val, by omega⟩)) (fun i => wg i j)]
  unfold logGate
  refine congrArg (fun s => Ideal.div (logSig (s + bg j)) _) (Finset.sum_congr rfl fun i _ => ?_)
  rw [← ha i]
  exact congrArg (fun k => a (ix2 p k) * wg i j) (Fin.ext (by dsimp only; omega))
end

/-- A block of rows, whole. -/
theorem ld0 (x : Vec Ideal S512x1024 .f32) (p : Fin 512) (d : Fin 1024) :
    View.ld (Val := Elt Ideal) x r0_0 (ix2 p d) = x (ix2 p d) := by
  refine congrArg x (funext fun a => Fin.ext ?_)
  match a with
  | ⟨0, _⟩ => show 0 + 1 * p.val = p.val; omega
  | ⟨1, _⟩ => show 0 + 1 * d.val = d.val; omega

/-- The shift's columns of the modulation. -/
theorem ld1 (x : Vec Ideal S1x1x3072 .f32) (d : Fin 1024) :
    View.ld (Val := Elt Ideal) x r0_1 (ix3 0 0 d) = x (ix3 0 0 ⟨d.val, by omega⟩) := by
  refine congrArg x (funext fun a => Fin.ext ?_)
  match a with
  | ⟨0, _⟩ => rfl
  | ⟨1, _⟩ => rfl
  | ⟨2, _⟩ => show 0 + 1 * d.val = d.val; omega

/-- The scale's columns of the modulation. -/
theorem ld2 (x : Vec Ideal S1x1x3072 .f32) (d : Fin 1024) :
    View.ld (Val := Elt Ideal) x r0_2 (ix3 0 0 d) = x (ix3 0 0 ⟨1024 + d.val, by omega⟩) := by
  refine congrArg x (funext fun a => Fin.ext ?_)
  match a with
  | ⟨0, _⟩ => rfl
  | ⟨1, _⟩ => rfl
  | ⟨2, _⟩ => show 1024 + 1 * d.val = 1024 + d.val; omega

end Cert.Kernel4Ideal.Proj

end
-- ==== Proof.ProjHost.lean ====
/-
  What the kernel's host lines put into its windows' arrays: the matrices with their columns reordered and padded, and the
  table of the rotary embedding's cosines and sines.
-/
module

public import proofs.«01_k».proof.Proof.ProjSpec
public import proofs.«01_k».proof.Proof.ProjRunIdeal
public import Idealize.ShloMosaic.Lib.Pipeline.ValueKit
public import Idealize.ShloMosaic.Lib.StableHlo.RunRead

@[expose] public section

set_option maxRecDepth 16384
noncomputable section

namespace Cert.Kernel4Ideal.Proj

open Cert.Kernel4Ideal Cert.Kernel4Ideal.Gen Idealize.ShloMosaic Idealize.ShloMosaic.TcCoe Idealize.SL.Sem Cert.Ffn Cert.Proj
open Idealize.ShloMosaic.Pipeline (Dat)

variable (m : (ℓ : Loc nD τ sig) → Buf (Elt Ideal) ℓ)

/-- The integer zero as a real. -/
theorem z32 : FloatOps.sitofp (F := Ideal) .f32 (0#32) = (0 : EReal) := by
  simp [FloatOps.sitofp]

/-- Two columns with the same number are the same. -/
theorem at2 (W : FVec Ideal S1024x2224 .f32) (i : Fin 1024) {a b : Fin 2224} (h : a.val = b.val) : W (ix2 i a) = W (ix2 i b) := by
  rw [Fin.ext h]

/-- Two heads' columns with the same numbers are the same. -/
theorem at3 (W : FVec Ideal S256x8x128 .f32) (i : Fin 256) {r r' : Fin 8} {a b : Fin 128} (hr : r.val = r'.val) (h : a.val = b.val) :
    W (ix3 i r a) = W (ix3 i r' b) := by
  rw [Fin.ext h, Fin.ext hr]

/-- The gate's matrix with room around it. -/
def wGate (W : FVec Ideal S16x256 .f32) : FVec Ideal S128x256 .bf16 :=
  truncf (F := Ideal) .bf16 (pad S128x256 ![32, 0] ![80, 0] ![0, 0] W (sitofp (F := Ideal) .f32 (constantI S_ 32 0#32)) pads_S16x256_S128x256_32800_000 h_S_) bitsLt_bf16_f32

/-- The gate's matrix is made from its argument. -/
theorem V_gate (c : Dev nD) : V m c main_v65 = wGate (m ((c : Thread nD τ).loc main_arg8)) := by
  unfold V
  after_reads_simp
  rfl

/-- An entry of the gate's matrix. -/
theorem wGate_apply (W : FVec Ideal S16x256 .f32) (i : Fin 128) (j : Fin 256) :
    wGate W (ix2 i j) = if h : 32 ≤ i.val ∧ i.val < 48 then W (ix2 ⟨i.val - 32, by omega⟩ j) else 0 := by
  pointwise [wGate]
  rw [z32]
  refine dite_congr (propext (by omega)) (fun _ => rfl) (fun _ => rfl)

/-- The queries' matrix, each head's 96 columns filled up to 128. -/
def wQ (W : FVec Ideal S384x8x96 .f32) : FVec Ideal S384x1024 .bf16 :=
  truncf (F := Ideal) .bf16 (shapeCast S384x1024 (pad S384x8x128 ![0, 0, 0] ![0, 0, 32] ![0, 0, 0] W (sitofp (F := Ideal) .f32 (constantI S_ 32 0#32)) pads_S384x8x96_S384x8x128_000_000_0320 h_S_) shapeCasts_S384x8x128_S384x1024) bitsLt_bf16_f32

/-- The queries' matrix is made from its argument. -/
theorem V_q (c : Dev nD) : V m c main_v56 = wQ (m ((c : Thread nD τ).loc main_arg5)) := by
  unfold V
  after_reads_simp
  rfl

/-- An entry of the queries' matrix. -/
theorem wQ_apply (W : FVec Ideal S384x8x96 .f32) (i : Fin 384) (r : Fin 8) (j : Fin 128) :
    wQ W (ix2 i ⟨128 * r.val + j.val, by omega⟩) = if h : j.val < 96 then W (ix3 i r ⟨j.val, h⟩) else 0 := by
  pointwise [wQ]
  rw [z32]

/-- The keys' and values' matrix: the key columns of each head filled up to 128, then the values. -/
def wKV (W : FVec Ideal S256x8x128 .f32) : FVec Ideal S256x1536 .bf16 :=
  truncf (F := Ideal) .bf16 (concatenate S256x1536 1
    [⟨S256x1024, shapeCast S256x1024 (pad S256x8x128 ![0, 0, 0] ![0, 0, 64] ![0, 0, 0] (extractStridedSlice S256x8x64 ![0, 0, 0] W slices_S256x8x128_S256x8x64_0_0_0)
        (sitofp (F := Ideal) .f32 (constantI S_ 32 0#32)) pads_S256x8x64_S256x8x128_000_000_0640 h_S_) shapeCasts_S256x8x128_S256x1024⟩,
      ⟨S256x512, shapeCast S256x512 (extractStridedSlice S256x8x64 ![0, 0, 64] W slices_S256x8x128_S256x8x64_0_0_64) shapeCasts_S256x8x64_S256x512⟩]
    concatenates_S256x1024_S256x512_S256x1536_d1) bitsLt_bf16_f32

/-- The keys' and values' matrix is made from its argument. -/
theorem V_kv (c : Dev nD) : V m c main_v63 = wKV (m ((c : Thread nD τ).loc main_arg7)) := by
  unfold V
  after_reads_simp
  rfl

/-- A key entry. -/
theorem wKV_key (W : FVec Ideal S256x8x128 .f32) (i : Fin 256) (r : Fin 8) (j : Fin 128) :
    wKV W (ix2 i ⟨128 * r.val + j.val, by omega⟩) = if h : j.val < 64 then W (ix3 i r ⟨j.val, by omega⟩) else 0 := by
  pointwise [wKV]
  rw [z32, dif_pos (by omega)]

/-- A value entry. -/
theorem wKV_value (W : FVec Ideal S256x8x128 .f32) (i : Fin 256) (r : Fin 4) (j : Fin 128) :
    wKV W (ix2 i ⟨1024 + 128 * r.val + j.val, by omega⟩) = W (ix3 i ⟨r.val * 2 + j.val / 64, by omega⟩ ⟨64 + j.val % 64, by omega⟩) := by
  pointwise [wKV]
  rw [dif_neg (by omega)]
  exact at3 W i (by dsimp only; omega) (by dsimp only; omega)

/-- The first matrix with its columns reordered. -/
def wIn (W : FVec Ideal S1024x2224 .f32) : FVec Ideal S1024x2304 .bf16 :=
  truncf (F := Ideal) .bf16 (concatenate S1024x2304 1
    [⟨S1024x384, extractStridedSlice S1024x384 ![0, 0] W slices_S1024x2224_S1024x384_0_0⟩,
      ⟨S1024x256, extractStridedSlice S1024x256 ![0, 384] W slices_S1024x2224_S1024x256_0_384⟩,
      ⟨S1024x256, mulf (F := Ideal) (φ := .f32) (extractStridedSlice S1024x256 ![0, 672] W slices_S1024x2224_S1024x256_0_672)
        (broadcastInDim S1024x256 ![] bcast_S_S1024x256 (constant (F := Ideal) S_ .f32 0x3E000000#32))⟩,
      ⟨S1024x256, extractStridedSlice S1024x256 ![0, 928] W slices_S1024x2224_S1024x256_0_928⟩,
      ⟨S1024x512, extractStridedSlice S1024x512 ![0, 1184] W slices_S1024x2224_S1024x512_0_1184⟩,
      ⟨S1024x512, extractStridedSlice S1024x512 ![0, 1712] W slices_S1024x2224_S1024x512_0_1712⟩,
      ⟨S1024x128, pad S1024x128 ![0, 0] ![0, 80] ![0, 0] (concatenate S1024x48 1
          [⟨S1024x32, extractStridedSlice S1024x32 ![0, 640] W slices_S1024x2224_S1024x32_0_640⟩,
            ⟨S1024x16, extractStridedSlice S1024x16 ![0, 1696] W slices_S1024x2224_S1024x16_0_1696⟩] concatenates_S1024x32_S1024x16_S1024x48_d1)
        (sitofp (F := Ideal) .f32 (constantI S_ 32 0#32)) pads_S1024x48_S1024x128_000_0800 h_S_⟩]
    concatenates_S1024x384_S1024x256_S1024x256_S1024x256_S1024x512_S1024x512_S1024x128_S1024x2304_d1) bitsLt_bf16_f32

/-- The first matrix is made from its argument. -/
theorem V_in (c : Dev nD) : V m c main_v53 = wIn (m ((c : Thread nD τ).loc main_arg3)) := by
  unfold V
  after_reads_simp
  rfl

/-- Of the first 640 columns each is where it was. -/
theorem wIn_low (W : FVec Ideal S1024x2224 .f32) (i : Fin 1024) (j : Fin 640) :
    wIn W (ix2 i ⟨j.val, by omega⟩) = W (ix2 i ⟨j.val, by omega⟩) := by
  pointwise [wIn]
  by_cases h : j.val < 384
  · rw [dif_pos h]
  · rw [dif_neg h, dif_pos (by omega)]
    exact at2 W i (by dsimp only; omega)

/-- The recurrence's query columns carry their scale. -/
theorem wIn_gq (W : FVec Ideal S1024x2224 .f32) (i : Fin 1024) (j : Fin 256) :
    wIn W (ix2 i ⟨640 + j.val, by omega⟩) = W (ix2 i ⟨672 + j.val, by omega⟩) * Ideal.ofBits .f32 0x3E000000#32 := by
  pointwise [wIn]
  rw [dif_neg (by omega), dif_neg (by omega), dif_pos (by omega)]
  exact congrArg (· * _) (at2 W i (by dsimp only; omega))

/-- The recurrence's key columns. -/
theorem wIn_gk (W : FVec Ideal S1024x2224 .f32) (i : Fin 1024) (j : Fin 256) :
    wIn W (ix2 i ⟨896 + j.val, by omega⟩) = W (ix2 i ⟨928 + j.val, by omega⟩) := by
  pointwise [wIn]
  rw [dif_neg (by omega), dif_neg (by omega), dif_neg (by omega), dif_pos (by omega)]
  exact at2 W i (by dsimp only; omega)

/-- The recurrence's value columns. -/
theorem wIn_gv (W : FVec Ideal S1024x2224 .f32) (i : Fin 1024) (j : Fin 512) :
    wIn W (ix2 i ⟨1152 + j.val, by omega⟩) = W (ix2 i ⟨1184 + j.val, by omega⟩) := by
  pointwise [wIn]
  rw [dif_neg (by omega), dif_neg (by omega), dif_neg (by omega), dif_neg (by omega), dif_pos (by omega)]
  exact at2 W i (by dsimp only; omega)

/-- The output gate's columns. -/
theorem wIn_gg (W : FVec Ideal S1024x2224 .f32) (i : Fin 1024) (j : Fin 512) :
    wIn W (ix2 i ⟨1664 + j.val, by omega⟩) = W (ix2 i ⟨1712 + j.val, by omega⟩) := by
  pointwise [wIn]
  rw [dif_neg (by omega), dif_neg (by omega), dif_neg (by omega), dif_neg (by omega), dif_neg (by omega), dif_pos (by omega)]
  exact at2 W i (by dsimp only; omega)

/-- The key's 32 columns that carry the position. -/
theorem wIn_kr (W : FVec Ideal S1024x2224 .f32) (i : Fin 1024) (j : Fin 32) :
    wIn W (ix2 i ⟨2176 + j.val, by omega⟩) = W (ix2 i ⟨640 + j.val, by omega⟩) := by
  pointwise [wIn]
  rw [dif_neg (by omega), dif_neg (by omega), dif_neg (by omega), dif_neg (by omega), dif_neg (by omega), dif_neg (by omega),
    dif_pos (by omega), dif_pos (by omega)]
  exact at2 W i (by dsimp only; omega)

/-- The gate's 16 columns. -/
theorem wIn_ga (W : FVec Ideal S1024x2224 .f32) (i : Fin 1024) (j : Fin 16) :
    wIn W (ix2 i ⟨2208 + j.val, by omega⟩) = W (ix2 i ⟨1696 + j.val, by omega⟩) := by
  pointwise [wIn]
  rw [dif_neg (by omega), dif_neg (by omega), dif_neg (by omega), dif_neg (by omega), dif_neg (by omega), dif_neg (by omega),
    dif_pos (by omega), dif_neg (by omega)]
  exact at2 W i (by dsimp only; omega)

/-- The angles of every position. -/
def angles : FVec Ideal S2048x16 .f32 :=
  mulf (F := Ideal) (φ := .f32)
    (broadcastInDim S2048x16 ![0, 1] bcast_S2048x1_S2048x16_0_1 (broadcastInDim S2048x1 ![0] bcast_S2048_S2048x1_0 (sitofp (F := Ideal) .f32 (iotaInDim S2048 32 0))))
    (broadcastInDim S2048x16 ![0, 1] bcast_S1x16_S2048x16_0_1 (broadcastInDim S1x16 ![1] bcast_S16_S1x16_1
      (Host.powf (F := Ideal) (φ := .f32) (broadcastInDim S16 ![] bcast_S_S16 (constant (F := Ideal) S_ .f32 0x461C4000#32))
        (Host.divf (F := Ideal) (φ := .f32) (Host.negf (F := Ideal) (φ := .f32) (addf (F := Ideal) (φ := .f32)
          (broadcastInDim S16 ![] bcast_S_S16 (constant (F := Ideal) S_ .f32 0x00000000#32))
          (mulf (F := Ideal) (φ := .f32) (broadcastInDim S16 ![] bcast_S_S16 (constant (F := Ideal) S_ .f32 0x40000000#32)) (sitofp (F := Ideal) .f32 (iotaInDim S16 32 0)))))
          (broadcastInDim S16 ![] bcast_S_S16 (constant (F := Ideal) S_ .f32 0x42000000#32))))))

/-- The angle of a position and a plane. -/
theorem angles_apply (s : Fin 2048) (k : Fin 16) : angles (ix2 s k) = angle s k := by
  pointwise [angles]
  rfl

/-- The queries' cosines. -/
def cosQ : FVec Ideal S2048x128 .f32 :=
  concatenate S2048x128 1 [⟨S2048x64, broadcastInDim S2048x64 ![] bcast_S_S2048x64 (constant (F := Ideal) S_ .f32 0x3F800000#32)⟩,
      ⟨S2048x16, (Host.cos (F := Ideal) (φ := .f32) angles)⟩,
      ⟨S2048x16, (Host.cos (F := Ideal) (φ := .f32) angles)⟩,
      ⟨S2048x32, broadcastInDim S2048x32 ![] bcast_S_S2048x32 (constant (F := Ideal) S_ .f32 0x00000000#32)⟩] concatenates_S2048x64_S2048x16_S2048x16_S2048x32_S2048x128_d1

/-- The sines for the queries' second halves. -/
def belowQ : FVec Ideal S2048x128 .f32 :=
  concatenate S2048x128 1 [⟨S2048x80, broadcastInDim S2048x80 ![] bcast_S_S2048x80 (constant (F := Ideal) S_ .f32 0x00000000#32)⟩,
      ⟨S2048x16, (Host.sin (F := Ideal) (φ := .f32) angles)⟩,
      ⟨S2048x32, broadcastInDim S2048x32 ![] bcast_S_S2048x32 (constant (F := Ideal) S_ .f32 0x00000000#32)⟩] concatenates_S2048x80_S2048x16_S2048x32_S2048x128_d1

/-- The sines for the queries' first halves. -/
def aboveQ : FVec Ideal S2048x128 .f32 :=
  concatenate S2048x128 1 [⟨S2048x64, broadcastInDim S2048x64 ![] bcast_S_S2048x64 (constant (F := Ideal) S_ .f32 0x00000000#32)⟩,
      ⟨S2048x16, (Host.negf (F := Ideal) (φ := .f32) (Host.sin (F := Ideal) (φ := .f32) angles))⟩,
      ⟨S2048x48, broadcastInDim S2048x48 ![] bcast_S_S2048x48 (constant (F := Ideal) S_ .f32 0x00000000#32)⟩] concatenates_S2048x64_S2048x16_S2048x48_S2048x128_d1

/-- The keys' cosines. -/
def cosK : FVec Ideal S2048x128 .f32 :=
  concatenate S2048x128 1 [⟨S2048x0, broadcastInDim S2048x0 ![] bcast_S_S2048x0 (constant (F := Ideal) S_ .f32 0x3F800000#32)⟩,
      ⟨S2048x16, (Host.cos (F := Ideal) (φ := .f32) angles)⟩,
      ⟨S2048x16, (Host.cos (F := Ideal) (φ := .f32) angles)⟩,
      ⟨S2048x96, broadcastInDim S2048x96 ![] bcast_S_S2048x96 (constant (F := Ideal) S_ .f32 0x00000000#32)⟩] concatenates_S2048x0_S2048x16_S2048x16_S2048x96_S2048x128_d1

/-- The sines for the keys' second halves. -/
def belowK : FVec Ideal S2048x128 .f32 :=
  concatenate S2048x128 1 [⟨S2048x16, broadcastInDim S2048x16 ![] bcast_S_S2048x16 (constant (F := Ideal) S_ .f32 0x00000000#32)⟩,
      ⟨S2048x16, (Host.sin (F := Ideal) (φ := .f32) angles)⟩,
      ⟨S2048x96, broadcastInDim S2048x96 ![] bcast_S_S2048x96 (constant (F := Ideal) S_ .f32 0x00000000#32)⟩] concatenates_S2048x16_S2048x16_S2048x96_S2048x128_d1

/-- The sines for the keys' first halves. -/
def aboveK : FVec Ideal S2048x128 .f32 :=
  concatenate S2048x128 1 [⟨S2048x0, broadcastInDim S2048x0 ![] bcast_S_S2048x0 (constant (F := Ideal) S_ .f32 0x00000000#32)⟩,
      ⟨S2048x16, (Host.negf (F := Ideal) (φ := .f32) (Host.sin (F := Ideal) (φ := .f32) angles))⟩,
      ⟨S2048x112, broadcastInDim S2048x112 ![] bcast_S_S2048x112 (constant (F := Ideal) S_ .f32 0x00000000#32)⟩] concatenates_S2048x0_S2048x16_S2048x112_S2048x128_d1

/-- The rotary embedding's table. -/
def table : FVec Ideal S2048x768 .f32 :=
  concatenate S2048x768 1 [⟨S2048x128, cosQ⟩, ⟨S2048x128, belowQ⟩, ⟨S2048x128, aboveQ⟩, ⟨S2048x128, cosK⟩, ⟨S2048x128, belowK⟩, ⟨S2048x128, aboveK⟩]
    concatenates_S2048x128_S2048x128_S2048x128_S2048x128_S2048x128_S2048x128_S2048x768_d1

/-- The table is made from no argument. -/
theorem V_tab (c : Dev nD) : V m c main_v38 = table := by
  unfold V
  after_reads_simp
  rfl

/-- The table holds the queries' cosines. -/
theorem table_cosQ (s : Fin 2048) (j : Fin 128) : table (ix2 s ⟨0 + j.val, by omega⟩) = cosQ (ix2 s j) := by
  pointwise [table]

/-- The queries' cosines, lane by lane. -/
theorem cosQ_apply (s : Fin 2048) (j : Fin 128) : cosQ (ix2 s j) = if j.val < 64 then 1 else if h : j.val - 64 < 16 then cs s ⟨j.val - 64, h⟩ else if h : j.val - 64 - 16 < 16 then cs s ⟨j.val - 64 - 16, h⟩ else 0 := by
  pointwise [cosQ]
  simp only [angles_apply, cs, sn]
  rfl

/-- The table holds the sines for the queries' second halves. -/
theorem table_belowQ (s : Fin 2048) (j : Fin 128) : table (ix2 s ⟨128 + j.val, by omega⟩) = belowQ (ix2 s j) := by
  pointwise [table]

/-- The sines for the queries' second halves, lane by lane. -/
theorem belowQ_apply (s : Fin 2048) (j : Fin 128) : belowQ (ix2 s j) = if j.val < 80 then 0 else if h : j.val - 80 < 16 then sn s ⟨j.val - 80, h⟩ else 0 := by
  pointwise [belowQ]
  simp only [angles_apply, cs, sn]
  rfl

/-- The table holds the sines for the queries' first halves. -/
theorem table_aboveQ (s : Fin 2048) (j : Fin 128) : table (ix2 s ⟨256 + j.val, by omega⟩) = aboveQ (ix2 s j) := by
  pointwise [table]
  rw [dif_neg (by omega), dif_neg (by omega), dif_pos (by omega)]
  all_goals exact congrArg (fun k => aboveQ (ix2 s k)) (Fin.ext (by dsimp only; omega))

/-- The sines for the queries' first halves, lane by lane. -/
theorem aboveQ_apply (s : Fin 2048) (j : Fin 128) : aboveQ (ix2 s j) = if j.val < 64 then 0 else if h : j.val - 64 < 16 then -sn s ⟨j.val - 64, h⟩ else 0 := by
  pointwise [aboveQ]
  simp only [angles_apply, cs, sn]
  rfl

/-- The table holds the keys' cosines. -/
theorem table_cosK (s : Fin 2048) (j : Fin 128) : table (ix2 s ⟨384 + j.val, by omega⟩) = cosK (ix2 s j) := by
  pointwise [table]
  rw [dif_neg (by omega), dif_neg (by omega), dif_neg (by omega), dif_pos (by omega)]
  all_goals exact congrArg (fun k => cosK (ix2 s k)) (Fin.ext (by dsimp only; omega))

/-- The keys' cosines, lane by lane. -/
theorem cosK_apply (s : Fin 2048) (j : Fin 128) : cosK (ix2 s j) = if h : j.val < 16 then cs s ⟨j.val, h⟩ else if h : j.val - 16 < 16 then cs s ⟨j.val - 16, h⟩ else 0 := by
  pointwise [cosK]
  simp only [angles_apply, cs, sn]
  rw [dif_neg (Nat.not_lt_zero _)]

/-- The table holds the sines for the keys' second halves. -/
theorem table_belowK (s : Fin 2048) (j : Fin 128) : table (ix2 s ⟨512 + j.val, by omega⟩) = belowK (ix2 s j) := by
  pointwise [table]
  rw [dif_neg (by omega), dif_neg (by omega), dif_neg (by omega), dif_neg (by omega), dif_pos (by omega)]
  all_goals exact congrArg (fun k => belowK (ix2 s k)) (Fin.ext (by dsimp only; omega))

/-- The sines for the keys' second halves, lane by lane. -/
theorem belowK_apply (s : Fin 2048) (j : Fin 128) : belowK (ix2 s j) = if j.val < 16 then 0 else if h : j.val - 16 < 16 then sn s ⟨j.val - 16, h⟩ else 0 := by
  pointwise [belowK]
  simp only [angles_apply, cs, sn]
  rfl

/-- The table holds the sines for the keys' first halves. -/
theorem table_aboveK (s : Fin 2048) (j : Fin 128) : table (ix2 s ⟨640 + j.val, by omega⟩) = aboveK (ix2 s j) := by
  pointwise [table]
  rw [dif_neg (by omega), dif_neg (by omega), dif_neg (by omega), dif_neg (by omega), dif_neg (by omega)]
  all_goals exact congrArg (fun k => aboveK (ix2 s k)) (Fin.ext (by dsimp only; omega))

/-- The sines for the keys' first halves, lane by lane. -/
theorem aboveK_apply (s : Fin 2048) (j : Fin 128) : aboveK (ix2 s j) = if h : j.val < 16 then -sn s ⟨j.val, h⟩ else 0 := by
  pointwise [aboveK]
  simp only [angles_apply, cs, sn]
  rw [dif_neg (Nat.not_lt_zero _)]

end Cert.Kernel4Ideal.Proj

end
-- ==== Proof.ProjReads.lean ====
module

public import proofs.«01_k».proof.Proof.ProjBlock
public import proofs.«01_k».proof.Proof.ProjHost
public import Idealize.ShloMosaic.Lib.Pipeline.ValueKit
public import Idealize.ShloMosaic.Lib.StableHlo.RunRead

@[expose] public section

/-! The projections' results as arrays: what each block of the operands holds, what each grid point stores, and that the stores
    together make the specified arrays. -/

set_option maxRecDepth 16384

noncomputable section

namespace Cert.Kernel4Ideal.Proj

open Cert.Kernel4Ideal Cert.Kernel4Ideal.Gen Idealize.ShloMosaic Idealize.ShloMosaic.TcCoe Idealize.SL.Sem Cert.Ffn Cert.Proj
open Idealize.ShloMosaic.Pipeline (Dat)

variable (m : (ℓ : Loc nD τ sig) → Buf (Elt Ideal) ℓ)

/-- The batch row a grid point works in. -/
def bat (t : Fin cfg0.N) : Fin 16 := ⟨t.val / 4, by have h : t.val < 64 := t.isLt; omega⟩

/-- The position a grid point's row stands for. -/
def pos (t : Fin cfg0.N) (p : Fin 512) : Fin 2048 := ⟨512 * (t.val % 4) + p.val, by omega⟩

/-- Where a grid point's row lies in the flattened prompt. -/
def flat (t : Fin cfg0.N) (p : Fin 512) : Fin 32768 := ⟨512 * t.val + p.val, by have h : t.val < 64 := t.isLt; omega⟩

theorem flat_eq (t : Fin cfg0.N) (p : Fin 512) : flat t p = row (bat t) (pos t p) :=
  Fin.ext (by show 512 * t.val + p.val = t.val / 4 * 2048 + (512 * (t.val % 4) + p.val); omega)

theorem batchOf_flat (t : Fin cfg0.N) (p : Fin 512) : batchOf (flat t p) = bat t :=
  Fin.ext (by show (512 * t.val + p.val) / 2048 = t.val / 4; omega)

theorem posOf_flat (t : Fin cfg0.N) (p : Fin 512) : posOf (flat t p) = pos t p :=
  Fin.ext (by show (512 * t.val + p.val) % 2048 = 512 * (t.val % 4) + p.val; omega)

theorem e0 : ∀ t : Fin cfg0.N, win0_0.index t = ![t.val, 0] := by decide +kernel
theorem e1 : ∀ t : Fin cfg0.N, win0_1.index t = ![t.val / 4, 0, 1] := by decide +kernel
theorem e2 : ∀ t : Fin cfg0.N, win0_2.index t = ![0, 0] := by decide +kernel
theorem e3 : ∀ t : Fin cfg0.N, win0_3.index t = ![0, 0] := by decide +kernel
theorem e4 : ∀ t : Fin cfg0.N, win0_4.index t = ![0, 0] := by decide +kernel
theorem e5 : ∀ t : Fin cfg0.N, win0_5.index t = ![0, 0] := by decide +kernel
theorem e6 : ∀ t : Fin cfg0.N, win0_6.index t = ![0, 0] := by decide +kernel
theorem e7 : ∀ t : Fin cfg0.N, win0_7.index t = ![0, 0] := by decide +kernel
theorem e8 : ∀ t : Fin cfg0.N, win0_8.index t = ![0, 0] := by decide +kernel
theorem e9 : ∀ t : Fin cfg0.N, win0_9.index t = ![0, 0] := by decide +kernel
theorem e10 : ∀ t : Fin cfg0.N, win0_10.index t = ![t.val % 4, 0] := by decide +kernel
theorem e11 : ∀ t : Fin cfg0.N, win0_11.index t = ![t.val / 4, 0, t.val % 4, 0] := by decide +kernel
theorem e12 : ∀ t : Fin cfg0.N, win0_12.index t = ![t.val / 4, 0, t.val % 4, 0] := by decide +kernel
theorem e13 : ∀ t : Fin cfg0.N, win0_13.index t = ![t.val / 4, 0, t.val % 4, 0] := by decide +kernel
theorem e14 : ∀ t : Fin cfg0.N, win0_14.index t = ![t.val, 0] := by decide +kernel
theorem e15 : ∀ t : Fin cfg0.N, win0_15.index t = ![t.val, 0] := by decide +kernel
theorem e16 : ∀ t : Fin cfg0.N, win0_16.index t = ![t.val, 0] := by decide +kernel
theorem e17 : ∀ t : Fin cfg0.N, win0_17.index t = ![t.val, 0] := by decide +kernel
theorem e18 : ∀ t : Fin cfg0.N, win0_18.index t = ![t.val, 0] := by decide +kernel
theorem e19 : ∀ t : Fin cfg0.N, win0_19.index t = ![t.val, 0] := by decide +kernel
theorem e20 : ∀ t : Fin cfg0.N, win0_20.index t = ![t.val, 0] := by decide +kernel

/-- A reshaped operand's array. -/
theorem V_mod (c : Dev nD) : V m c main_v39 = shapeCast S16x1x9216 (m ((c : Thread nD τ).loc main_arg1)) shapeCasts_S16x9216_S16x1x9216 := by
  unfold V; after_reads_simp; rfl

theorem V_g (c : Dev nD) : V m c main_v66 = shapeCast S1x1024 (m ((c : Thread nD τ).loc main_arg2)) shapeCasts_S1024_S1x1024 := by
  unfold V; after_reads_simp; rfl

theorem V_gq (c : Dev nD) : V m c main_v67 = shapeCast S1x384 (m ((c : Thread nD τ).loc main_arg4)) shapeCasts_S384_S1x384 := by
  unfold V; after_reads_simp; rfl

theorem V_gk (c : Dev nD) : V m c main_v68 = shapeCast S1x256 (m ((c : Thread nD τ).loc main_arg6)) shapeCasts_S256_S1x256 := by
  unfold V; after_reads_simp; rfl

theorem V_bg (c : Dev nD) : V m c main_v69 = shapeCast S1x256 (m ((c : Thread nD τ).loc main_arg9)) shapeCasts_S256_S1x256 := by
  unfold V; after_reads_simp; rfl

/-- A block of the prompt's rows. -/
theorem blk0 (c : Dev nD) (t : Fin cfg0.N) (p : Fin 512) (i : Fin 1024) :
    iblk m c 0 t (ix2 p i) = m ((c : Thread nD τ).loc main_arg0) (ix2 (row (bat t) (pos t p)) i) := by
  rw [← flat_eq, ← V_main_arg0 m c]
  unfold iblk flat
  generalize V m c (Pipeline.arrRef spec0 0) = X
  blk_ext [e0 t]

/-- The modulation, reshaped. -/
theorem at_mod (M : FVec Ideal S16x9216 .f32) (b : Fin 16) (j : Fin 9216) :
    shapeCast S16x1x9216 M shapeCasts_S16x9216_S16x1x9216 (ix3 b 0 j) = M (ix2 b j) := by
  pointwise []

/-- A batch row's modulation, its second third. -/
theorem blk1 (c : Dev nD) (t : Fin cfg0.N) (j : Fin 3072) :
    iblk m c 1 t (ix3 0 0 j) = m ((c : Thread nD τ).loc main_arg1) (ix2 (bat t) ⟨3072 + j.val, by omega⟩) := by
  have e : iblk m c 1 t (ix3 0 0 j) = V m c main_v39 (ix3 (bat t) 0 ⟨3072 + j.val, by omega⟩) := by
    unfold iblk bat
    generalize V m c (Pipeline.arrRef spec0 1) = X
    blk_ext [e1 t]
  rw [e, V_mod]
  exact at_mod _ (bat t) _

/-- The gains of the modulated norm. -/
theorem blk2 (c : Dev nD) (t : Fin cfg0.N) (i : Fin 1) (j : Fin 1024) :
    iblk m c 2 t (ix2 i j) = V m c main_v66 (ix2 i j) := by
  unfold iblk
  generalize V m c (Pipeline.arrRef spec0 2) = X
  blk_ext [e2 t]

/-- The reordered matrix. -/
theorem blk3 (c : Dev nD) (t : Fin cfg0.N) (i : Fin 1024) (j : Fin 2304) :
    iblk m c 3 t (ix2 i j) = V m c main_v53 (ix2 i j) := by
  unfold iblk
  generalize V m c (Pipeline.arrRef spec0 3) = X
  blk_ext [e3 t]

/-- The gains of the queries' norm. -/
theorem blk4 (c : Dev nD) (t : Fin cfg0.N) (i : Fin 1) (j : Fin 384) :
    iblk m c 4 t (ix2 i j) = V m c main_v67 (ix2 i j) := by
  unfold iblk
  generalize V m c (Pipeline.arrRef spec0 4) = X
  blk_ext [e4 t]

/-- The queries' matrix. -/
theorem blk5 (c : Dev nD) (t : Fin cfg0.N) (i : Fin 384) (j : Fin 1024) :
    iblk m c 5 t (ix2 i j) = V m c main_v56 (ix2 i j) := by
  unfold iblk
  generalize V m c (Pipeline.arrRef spec0 5) = X
  blk_ext [e5 t]

/-- The gains of the keys' and values' norm. -/
theorem blk6 (c : Dev nD) (t : Fin cfg0.N) (i : Fin 1) (j : Fin 256) :
    iblk m c 6 t (ix2 i j) = V m c main_v68 (ix2 i j) := by
  unfold iblk
  generalize V m c (Pipeline.arrRef spec0 6) = X
  blk_ext [e6 t]

/-- The keys' and values' matrix. -/
theorem blk7 (c : Dev nD) (t : Fin cfg0.N) (i : Fin 256) (j : Fin 1536) :
    iblk m c 7 t (ix2 i j) = V m c main_v63 (ix2 i j) := by
  unfold iblk
  generalize V m c (Pipeline.arrRef spec0 7) = X
  blk_ext [e7 t]

/-- The gate's matrix. -/
theorem blk8 (c : Dev nD) (t : Fin cfg0.N) (i : Fin 128) (j : Fin 256) :
    iblk m c 8 t (ix2 i j) = V m c main_v65 (ix2 i j) := by
  unfold iblk
  generalize V m c (Pipeline.arrRef spec0 8) = X
  blk_ext [e8 t]

/-- The gate's bias. -/
theorem blk9 (c : Dev nD) (t : Fin cfg0.N) (i : Fin 1) (j : Fin 256) :
    iblk m c 9 t (ix2 i j) = V m c main_v69 (ix2 i j) := by
  unfold iblk
  generalize V m c (Pipeline.arrRef spec0 9) = X
  blk_ext [e9 t]

/-- A block of the table's rows. -/
theorem blk10 (c : Dev nD) (t : Fin cfg0.N) (p : Fin 512) (j : Fin 768) :
    iblk m c 10 t (ix2 p j) = table (ix2 (pos t p) j) := by
  rw [← V_tab m c]
  unfold iblk pos
  generalize V m c (Pipeline.arrRef spec0 10) = X
  blk_ext [e10 t]

/-- The gains of the modulated norm, by column. -/
theorem g_at (c : Dev nD) (t : Fin cfg0.N) (j : Fin 1024) : iblk m c 2 t (ix2 0 j) = m ((c : Thread nD τ).loc main_arg2) (ix1 j) := by
  rw [blk2, V_g]; pointwise []

theorem gq_at (c : Dev nD) (t : Fin cfg0.N) (j : Fin 384) : iblk m c 4 t (ix2 0 j) = m ((c : Thread nD τ).loc main_arg4) (ix1 j) := by
  rw [blk4, V_gq]; pointwise []

theorem gk_at (c : Dev nD) (t : Fin cfg0.N) (j : Fin 256) : iblk m c 6 t (ix2 0 j) = m ((c : Thread nD τ).loc main_arg6) (ix1 j) := by
  rw [blk6, V_gk]; pointwise []

theorem bg_at (c : Dev nD) (t : Fin cfg0.N) (j : Fin 256) : iblk m c 9 t (ix2 0 j) = m ((c : Thread nD τ).loc main_arg9) (ix1 j) := by
  rw [blk9, V_bg]; pointwise []

end Cert.Kernel4Ideal.Proj

end
-- ==== Proof.ProjRows.lean ====
module

public import proofs.«01_k».proof.Proof.ProjReads

@[expose] public section

/-! What a grid point's body computes for its rows, from the arguments: the columns of the projection, and each result's lanes. -/

set_option maxRecDepth 16384

noncomputable section

namespace Cert.Kernel4Ideal.Proj

open Cert.Kernel4Ideal Cert.Kernel4Ideal.Gen Idealize.ShloMosaic Idealize.ShloMosaic.TcCoe Idealize.SL.Sem Cert.Ffn Cert.Proj
open Idealize.ShloMosaic.Pipeline (Dat)

variable (m : (ℓ : Loc nD τ sig) → Buf (Elt Ideal) ℓ)

/-- A row's projections. -/
abbrev rowCols (X : FVec Ideal S32768x1024 .f32) (M : FVec Ideal S16x9216 .f32) (G : FVec Ideal S1024 .f32)
    (W : FVec Ideal S1024x2224 .f32) (b : Fin 16) (s : Fin 2048) : Fin 2224 → EReal :=
  cols (fun n j => X (ix2 n j)) (fun b j => M (ix2 b j)) (fun j => G (ix1 j)) (fun i c => W (ix2 i c)) b s

/-- The projections of a grid point's row. -/
abbrev A (c : Dev nD) (t : Fin cfg0.N) (p : Fin 512) : Fin 2224 → EReal :=
  rowCols (m ((c : Thread nD τ).loc main_arg0)) (m ((c : Thread nD τ).loc main_arg1)) (m ((c : Thread nD τ).loc main_arg2))
    (m ((c : Thread nD τ).loc main_arg3)) (bat t) (pos t p)

/-- The modulated row of a grid point. -/
abbrev U (c : Dev nD) (t : Fin cfg0.N) (p : Fin 512) : Fin 1024 → EReal :=
  modulated (fun j => m ((c : Thread nD τ).loc main_arg0) (ix2 (row (bat t) (pos t p)) j)) (fun j => m ((c : Thread nD τ).loc main_arg2) (ix1 j))
    (fun j => m ((c : Thread nD τ).loc main_arg1) (ix2 (bat t) ⟨4096 + j.val, by omega⟩))
    (fun j => m ((c : Thread nD τ).loc main_arg1) (ix2 (bat t) ⟨3072 + j.val, by omega⟩))

/-- The columns the body works on. -/
abbrev a (c : Dev nD) (t : Fin cfg0.N) : FVec Ideal S512x2304 .f32 :=
  k0_pay55 (F := Ideal) (iblk m c 0 t) (iblk m c 1 t) (iblk m c 2 t) (iblk m c 3 t) (iblk m c 4 t) (iblk m c 5 t) (iblk m c 6 t) (iblk m c 7 t)
    (iblk m c 8 t) (iblk m c 9 t) (iblk m c 10 t)

/-- Columns of a two-dimensional block are read at their offset. -/
theorem ld_cols {n k l : Nat} {e : EltTy} (o : Nat) (x : Vec Ideal ⟨2, ![n, k]⟩ e)
    (inb : ∀ a, (![0, o] : Fin 2 → Nat) a + (![n, l] : Fin 2 → Nat) a ≤ (⟨2, ![n, k]⟩ : Shape).size a)
    (p : Fin n) (d : Fin l) (z : Fin k) (hz : z.val = o + d.val) :
    View.ld (Val := Elt Ideal) x (Rect.unit (s := ⟨2, ![n, k]⟩) ![0, o] ![n, l] inb) (ix2 p d) = x (ix2 p z) := by
  refine congrArg x (funext fun a => Fin.ext ?_)
  match a with
  | ⟨0, _⟩ => show 0 + 1 * p.val = p.val; omega
  | ⟨1, _⟩ => show o + 1 * d.val = z.val; omega

theorem modulated_congr {x x' g g' s s' h h' : Fin 1024 → EReal} (hx : ∀ i, x i = x' i) (hg : ∀ i, g i = g' i) (hs : ∀ i, s i = s' i)
    (hh : ∀ i, h i = h' i) : modulated x g s h = modulated x' g' s' h' := by
  rw [funext hx, funext hg, funext hs, funext hh]

/-- A column the body works on. -/
theorem a_apply (c : Dev nD) (t : Fin cfg0.N) (p : Fin 512) (j : Fin 2304) :
    a m c t (ix2 p j) = ∑ i, U m c t p i * wIn (m ((c : Thread nD τ).loc main_arg3)) (ix2 i j) := by
  unfold a k0_pay55
  rw [pay1_apply]
  refine Finset.sum_congr rfl fun i _ => congrArg₂ (· * ·) (congrFun (modulated_congr (fun i => ?_) (fun i => ?_) (fun i => ?_) (fun i => ?_)) i) ?_
  · exact (ld0 _ p i).trans (blk0 m c t p i)
  · exact (ld_cols (n := 1) (k := 1024) (l := 1024) 0 _ _ 0 i i (by omega)).trans (g_at m c t i)
  · refine (ld2 _ i).trans ((blk1 m c t _).trans ?_)
    exact congrArg (fun k => m ((c : Thread nD τ).loc main_arg1) (ix2 (bat t) k)) (Fin.ext (by dsimp only; omega))
  · exact (ld1 _ i).trans (blk1 m c t _)
  · refine (ld_cols (n := 1024) (k := 2304) (l := 2304) 0 _ _ i j j (by omega)).trans ((blk3 m c t i j).trans ?_)
    rw [V_in]

/-- The latents' columns. -/
theorem a_low (c : Dev nD) (t : Fin cfg0.N) (p : Fin 512) (j : Fin 640) :
    a m c t (ix2 p ⟨j.val, by omega⟩) = A m c t p ⟨j.val, by omega⟩ := by
  rw [a_apply]
  exact Finset.sum_congr rfl fun i _ => congrArg (_ * ·) (wIn_low _ i j)

/-- The recurrence's query columns. -/
theorem a_gq (c : Dev nD) (t : Fin cfg0.N) (p : Fin 512) (j : Fin 256) :
    a m c t (ix2 p ⟨640 + j.val, by omega⟩) = A m c t p ⟨672 + j.val, by omega⟩ * Ideal.ofBits .f32 0x3E000000#32 := by
  rw [a_apply]
  exact (Finset.sum_congr rfl fun i _ => congrArg (_ * ·) (wIn_gq _ i j)).trans (scale_out _ _)

/-- The recurrence's key columns. -/
theorem a_gk (c : Dev nD) (t : Fin cfg0.N) (p : Fin 512) (j : Fin 256) :
    a m c t (ix2 p ⟨896 + j.val, by omega⟩) = A m c t p ⟨928 + j.val, by omega⟩ := by
  rw [a_apply]
  exact Finset.sum_congr rfl fun i _ => congrArg (_ * ·) (wIn_gk _ i j)

/-- The recurrence's value columns. -/
theorem a_gv (c : Dev nD) (t : Fin cfg0.N) (p : Fin 512) (j : Fin 512) :
    a m c t (ix2 p ⟨1152 + j.val, by omega⟩) = A m c t p ⟨1184 + j.val, by omega⟩ := by
  rw [a_apply]
  exact Finset.sum_congr rfl fun i _ => congrArg (_ * ·) (wIn_gv _ i j)

/-- The output gate's columns. -/
theorem a_gg (c : Dev nD) (t : Fin cfg0.N) (p : Fin 512) (j : Fin 512) :
    a m c t (ix2 p ⟨1664 + j.val, by omega⟩) = A m c t p ⟨1712 + j.val, by omega⟩ := by
  rw [a_apply]
  exact Finset.sum_congr rfl fun i _ => congrArg (_ * ·) (wIn_gg _ i j)

/-- The shared key's columns. -/
theorem a_kr (c : Dev nD) (t : Fin cfg0.N) (p : Fin 512) (j : Fin 32) :
    a m c t (ix2 p ⟨2176 + j.val, by omega⟩) = A m c t p ⟨640 + j.val, by omega⟩ := by
  rw [a_apply]
  exact Finset.sum_congr rfl fun i _ => congrArg (_ * ·) (wIn_kr _ i j)

/-- The recurrence gate's columns. -/
theorem a_ga (c : Dev nD) (t : Fin cfg0.N) (p : Fin 512) (j : Fin 16) :
    a m c t (ix2 p ⟨2208 + j.val, by omega⟩) = A m c t p ⟨1696 + j.val, by omega⟩ := by
  rw [a_apply]
  exact Finset.sum_congr rfl fun i _ => congrArg (_ * ·) (wIn_ga _ i j)

/-- A part of the table, as the body reads it. -/
theorem tab_at (c : Dev nD) (t : Fin cfg0.N) (o : Nat) (inb) (p : Fin 512) (j : Fin 128) (z : Fin 768) (hz : z.val = o + j.val) :
    k0_pay2 (F := Ideal) (View.ld (Val := Elt Ideal) (iblk m c 10 t) (Rect.unit (s := S512x768) ![0, o] S512x128.size inb)) (ix2 p j)
      = table (ix2 (pos t p) z) := by
  rw [pay2_apply]
  exact (ld_cols (n := 512) (k := 768) (l := 128) o _ _ p j z hz).trans (blk10 m c t p z)

section
variable (c : Dev nD) (t : Fin cfg0.N) (p : Fin 512)

/-- A query lane of a grid point. -/
theorem q_at (r : Fin 8) (j : Fin 128) (z z1 z2 : Fin 1024) (hz : z.val = 128 * r.val + j.val)
    (hz1 : z1.val = 128 * r.val + (j.val + 128 - 16) % 128) (hz2 : z2.val = 128 * r.val + (j.val + 128 - 112) % 128) :
    k0_pay8 (F := Ideal) (a m c t) (View.ld (Val := Elt Ideal) (iblk m c 4 t) r0_11) (View.ld (Val := Elt Ideal) (iblk m c 5 t) r0_12) (ix2 p z)
        * k0_pay2 (F := Ideal) (View.ld (Val := Elt Ideal) (iblk m c 10 t) r0_5) (ix2 p j)
      + k0_pay8 (F := Ideal) (a m c t) (View.ld (Val := Elt Ideal) (iblk m c 4 t) r0_11) (View.ld (Val := Elt Ideal) (iblk m c 5 t) r0_12) (ix2 p z1)
        * k0_pay3 (F := Ideal) (View.ld (Val := Elt Ideal) (iblk m c 10 t) r0_6) (ix2 p j)
      + k0_pay8 (F := Ideal) (a m c t) (View.ld (Val := Elt Ideal) (iblk m c 4 t) r0_11) (View.ld (Val := Elt Ideal) (iblk m c 5 t) r0_12) (ix2 p z2)
        * k0_pay4 (F := Ideal) (View.ld (Val := Elt Ideal) (iblk m c 10 t) r0_7) (ix2 p j)
      = query (A m c t p) (fun i => m ((c : Thread nD τ).loc main_arg4) (ix1 i)) (fun i h j => m ((c : Thread nD τ).loc main_arg5) (ix3 i h j))
          (cs (pos t p)) (sn (pos t p)) r j := by
  refine q_lane (a m c t) (A m c t p) p _ _ _ (cs (pos t p)) (sn (pos t p)) _ _ _ _ (a_low m c t p) (fun i => ?_) (fun i r j => ?_)
    (fun j => ?_) (fun j => ?_) (fun j => ?_) r j z z1 z2 hz hz1 hz2
  · exact (ld_cols (n := 1) (k := 384) (l := 384) 0 _ _ 0 i i (by omega)).trans (gq_at m c t i)
  · refine (ld_cols (n := 384) (k := 1024) (l := 1024) 0 _ _ i _ _ (Nat.zero_add _).symm).trans ((blk5 m c t i _).trans ?_)
    rw [V_q, wQ_apply]
  · exact (tab_at m c t 0 _ p j _ rfl).trans ((table_cosQ _ j).trans (cosQ_apply _ j))
  · exact (tab_at m c t 128 _ p j _ rfl).trans ((table_belowQ _ j).trans (belowQ_apply _ j))
  · exact (tab_at m c t 256 _ p j _ rfl).trans ((table_aboveQ _ j).trans (aboveQ_apply _ j))

/-- The shared key's lanes of a grid point. -/
theorem kr_at (j : Fin 128) :
    k0_pay22 (F := Ideal) (a m c t) (k0_pay5 (F := Ideal) (View.ld (Val := Elt Ideal) (iblk m c 10 t) r0_8))
        (k0_pay6 (F := Ideal) (View.ld (Val := Elt Ideal) (iblk m c 10 t) r0_9))
        (k0_pay7 (F := Ideal) (View.ld (Val := Elt Ideal) (iblk m c 10 t) r0_10)) (ix2 p j)
      = if h : j.val < 32 then keyR (A m c t p) (cs (pos t p)) (sn (pos t p)) ⟨j.val, h⟩ else 0 := by
  refine kr_lane (a m c t) (A m c t p) p _ _ _ (cs (pos t p)) (sn (pos t p)) (a_kr m c t p) (fun j => ?_) (fun j => ?_) (fun j => ?_) j
  · exact (tab_at m c t 384 _ p j _ rfl).trans ((table_cosK _ j).trans (cosK_apply _ j))
  · exact (tab_at m c t 512 _ p j _ rfl).trans ((table_belowK _ j).trans (belowK_apply _ j))
  · exact (tab_at m c t 640 _ p j _ rfl).trans ((table_aboveK _ j).trans (aboveK_apply _ j))

/-- The keys' and values' latent of a grid point. -/
theorem lat_at (j : Fin 256) :
    k0_pay20 (F := Ideal) (k0_pay19 (F := Ideal) (a m c t)) (View.ld (Val := Elt Ideal) (iblk m c 6 t) r0_13) (ix2 p j)
      = latKV (A m c t p) (fun i => m ((c : Thread nD τ).loc main_arg6) (ix1 i)) j :=
  kv_lat (a m c t) (A m c t p) p _ _ (a_low m c t p)
    (fun i => (ld_cols (n := 1) (k := 256) (l := 256) 0 _ _ 0 i i (by omega)).trans (gk_at m c t i)) j

/-- A key lane of a grid point. -/
theorem k_at (r : Fin 8) (j : Fin 128) (z : Fin 1536) (hz : z.val = 128 * r.val + j.val) :
    k0_pay33 (F := Ideal) (k0_pay20 (F := Ideal) (k0_pay19 (F := Ideal) (a m c t)) (View.ld (Val := Elt Ideal) (iblk m c 6 t) r0_13))
        (View.ld (Val := Elt Ideal) (iblk m c 7 t) r0_24) (ix2 p z)
      + k0_pay34 (F := Ideal) (k0_pay22 (F := Ideal) (a m c t) (k0_pay5 (F := Ideal) (View.ld (Val := Elt Ideal) (iblk m c 10 t) r0_8))
          (k0_pay6 (F := Ideal) (View.ld (Val := Elt Ideal) (iblk m c 10 t) r0_9))
          (k0_pay7 (F := Ideal) (View.ld (Val := Elt Ideal) (iblk m c 10 t) r0_10))) (ix2 p j)
      = key (A m c t p) (fun i => m ((c : Thread nD τ).loc main_arg6) (ix1 i)) (fun i h j => m ((c : Thread nD τ).loc main_arg7) (ix3 i h j))
          (cs (pos t p)) (sn (pos t p)) r j := by
  refine k_lane (A m c t p) p (cs (pos t p)) (sn (pos t p)) _ _ _ _ _ (lat_at m c t p) (fun i r j => ?_) (kr_at m c t p) r j z hz
  refine (ld_cols (n := 256) (k := 1536) (l := 1536) 0 _ _ i _ _ (Nat.zero_add _).symm).trans ((blk7 m c t i _).trans ?_)
  rw [V_kv, wKV_key]

/-- A value lane of a grid point. -/
theorem v_at (r : Fin 4) (j : Fin 128) (z : Fin 1536) (hz : z.val = 1024 + 128 * r.val + j.val) :
    k0_pay33 (F := Ideal) (k0_pay20 (F := Ideal) (k0_pay19 (F := Ideal) (a m c t)) (View.ld (Val := Elt Ideal) (iblk m c 6 t) r0_13))
        (View.ld (Val := Elt Ideal) (iblk m c 7 t) r0_24) (ix2 p z)
      = value (A m c t p) (fun i => m ((c : Thread nD τ).loc main_arg6) (ix1 i)) (fun i h j => m ((c : Thread nD τ).loc main_arg7) (ix3 i h j)) r j := by
  refine v_lane (A m c t p) p _ _ _ _ (lat_at m c t p) (fun i r j => ?_) r j z hz
  refine (ld_cols (n := 256) (k := 1536) (l := 1536) 0 _ _ i _ _ (Nat.zero_add _).symm).trans ((blk7 m c t i _).trans ?_)
  rw [V_kv, wKV_value]

/-- The recurrence's gate of a grid point. -/
theorem gate_at (j : Fin 256) :
    k0_pay54 (F := Ideal) (k0_pay21 (F := Ideal) (a m c t)) (View.ld (Val := Elt Ideal) (iblk m c 8 t) r0_30)
        (View.ld (Val := Elt Ideal) (iblk m c 9 t) r0_13) (ix2 p j)
      = logGate (A m c t p) (fun i j => m ((c : Thread nD τ).loc main_arg8) (ix2 i j)) (fun j => m ((c : Thread nD τ).loc main_arg9) (ix1 j)) j := by
  refine gate_lane (a m c t) (A m c t p) p _ _ _ _ (a_ga m c t p) (fun i j => ?_) (fun i => ?_) j
  · refine (ld_cols (n := 128) (k := 256) (l := 256) 0 _ _ i j j (by omega)).trans ((blk8 m c t i j).trans ?_)
    rw [V_gate, wGate_apply]
  · exact (ld_cols (n := 1) (k := 256) (l := 256) 0 _ _ 0 i i (by omega)).trans (bg_at m c t i)
end

end Cert.Kernel4Ideal.Proj

end
-- ==== Proof.Projections.lean ====
module

public import proofs.«01_k».proof.Proof.ProjRows

@[expose] public section

/-! The projections' ten results as arrays: the stores of all grid points together make the specified arrays. -/

set_option maxRecDepth 16384

noncomputable section

namespace Cert.Kernel4Ideal.Proj

open Cert.Kernel4Ideal Cert.Kernel4Ideal.Gen Idealize.ShloMosaic Idealize.ShloMosaic.TcCoe Idealize.SL.Sem Cert.Ffn Cert.Proj
open Idealize.ShloMosaic.Pipeline (Dat)

variable (m : (ℓ : Loc nD τ sig) → Buf (Elt Ideal) ℓ)

section
variable (X : FVec Ideal S32768x1024 .f32) (M : FVec Ideal S16x9216 .f32) (G : FVec Ideal S1024 .f32)
  (W : FVec Ideal S1024x2224 .f32) (GQ : FVec Ideal S384 .f32) (WQ : FVec Ideal S384x8x96 .f32) (GK : FVec Ideal S256 .f32)
  (WK : FVec Ideal S256x8x128 .f32) (WG : FVec Ideal S16x256 .f32) (BG : FVec Ideal S256 .f32)

/-- A column counted from an offset. -/
abbrev shifted (n o : Nat) (h : o + n ≤ 2224) (j : Fin n) : Fin 2224 := ⟨o + j.val, by omega⟩

/-- The queries. -/
def R11 : FVec Ideal S16x8x2048x128 .bf16 := fun y =>
  query (rowCols X M G W (y 0) (y 2)) (fun i => GQ (ix1 i)) (fun i h j => WQ (ix3 i h j)) (cs (y 2)) (sn (y 2)) (y 1) (y 3)

/-- The keys. -/
def R12 : FVec Ideal S16x8x2048x128 .bf16 := fun y =>
  key (rowCols X M G W (y 0) (y 2)) (fun i => GK (ix1 i)) (fun i h j => WK (ix3 i h j)) (cs (y 2)) (sn (y 2)) (y 1) (y 3)

/-- The values. -/
def R13 : FVec Ideal S16x4x2048x128 .bf16 := fun y =>
  value (rowCols X M G W (y 0) (y 2)) (fun i => GK (ix1 i)) (fun i h j => WK (ix3 i h j)) (y 1) (y 3)

/-- The cached latent. -/
def R14 : FVec Ideal S32768x256 .f32 := fun y =>
  latKV (rowCols X M G W (batchOf (y 0)) (posOf (y 0))) (fun i => GK (ix1 i)) (y 1)

/-- The cached key columns. -/
def R15 : FVec Ideal S32768x32 .f32 := fun y =>
  keyR (rowCols X M G W (batchOf (y 0)) (posOf (y 0))) (cs (posOf (y 0))) (sn (posOf (y 0))) (y 1)

/-- The recurrence's queries. -/
def R16 : FVec Ideal S32768x256 .f32 := fun y =>
  rowCols X M G W (batchOf (y 0)) (posOf (y 0)) (shifted 256 672 (by omega) (y 1)) * Ideal.ofBits .f32 0x3E000000#32

/-- The recurrence's keys. -/
def R17 : FVec Ideal S32768x256 .f32 := fun y =>
  rowCols X M G W (batchOf (y 0)) (posOf (y 0)) (shifted 256 928 (by omega) (y 1))

/-- The recurrence's values. -/
def R18 : FVec Ideal S32768x512 .f32 := fun y =>
  rowCols X M G W (batchOf (y 0)) (posOf (y 0)) (shifted 512 1184 (by omega) (y 1))

/-- The logarithm of the recurrence's gate. -/
def R19 : FVec Ideal S32768x256 .f32 := fun y =>
  logGate (rowCols X M G W (batchOf (y 0)) (posOf (y 0))) (fun i j => WG (ix2 i j)) (fun j => BG (ix1 j)) (y 1)

/-- The output gate. -/
def R20 : FVec Ideal S32768x512 .f32 := fun y =>
  rowCols X M G W (batchOf (y 0)) (posOf (y 0)) (shifted 512 1712 (by omega) (y 1))

theorem R14_flat (t : Fin cfg0.N) (p : Fin 512) (d : Fin 256) :
    R14 X M G W GK (ix2 (flat t p) d) = latKV (rowCols X M G W (bat t) (pos t p)) (fun i => GK (ix1 i)) d := by
  show latKV (rowCols X M G W (batchOf (flat t p)) (posOf (flat t p))) (fun i => GK (ix1 i)) d = _
  rw [batchOf_flat, posOf_flat]

theorem R15_flat (t : Fin cfg0.N) (p : Fin 512) (d : Fin 32) :
    R15 X M G W (ix2 (flat t p) d) = keyR (rowCols X M G W (bat t) (pos t p)) (cs (pos t p)) (sn (pos t p)) d := by
  show keyR (rowCols X M G W (batchOf (flat t p)) (posOf (flat t p))) (cs (posOf (flat t p))) (sn (posOf (flat t p))) d = _
  rw [batchOf_flat, posOf_flat]

theorem R16_flat (t : Fin cfg0.N) (p : Fin 512) (d : Fin 256) :
    R16 X M G W (ix2 (flat t p) d) = rowCols X M G W (bat t) (pos t p) ⟨672 + d.val, by omega⟩ * Ideal.ofBits .f32 0x3E000000#32 := by
  show rowCols X M G W (batchOf (flat t p)) (posOf (flat t p)) ⟨672 + d.val, by omega⟩ * Ideal.ofBits .f32 0x3E000000#32 = _
  rw [batchOf_flat, posOf_flat]

theorem R17_flat (t : Fin cfg0.N) (p : Fin 512) (d : Fin 256) :
    R17 X M G W (ix2 (flat t p) d) = rowCols X M G W (bat t) (pos t p) ⟨928 + d.val, by omega⟩ := by
  show rowCols X M G W (batchOf (flat t p)) (posOf (flat t p)) ⟨928 + d.val, by omega⟩ = _
  rw [batchOf_flat, posOf_flat]

theorem R18_flat (t : Fin cfg0.N) (p : Fin 512) (d : Fin 512) :
    R18 X M G W (ix2 (flat t p) d) = rowCols X M G W (bat t) (pos t p) ⟨1184 + d.val, by omega⟩ := by
  show rowCols X M G W (batchOf (flat t p)) (posOf (flat t p)) ⟨1184 + d.val, by omega⟩ = _
  rw [batchOf_flat, posOf_flat]

theorem R19_flat (t : Fin cfg0.N) (p : Fin 512) (d : Fin 256) :
    R19 X M G W WG BG (ix2 (flat t p) d) = logGate (rowCols X M G W (bat t) (pos t p)) (fun i j => WG (ix2 i j)) (fun j => BG (ix1 j)) d := by
  show logGate (rowCols X M G W (batchOf (flat t p)) (posOf (flat t p))) (fun i j => WG (ix2 i j)) (fun j => BG (ix1 j)) d = _
  rw [batchOf_flat, posOf_flat]

theorem R20_flat (t : Fin cfg0.N) (p : Fin 512) (d : Fin 512) :
    R20 X M G W (ix2 (flat t p) d) = rowCols X M G W (bat t) (pos t p) ⟨1712 + d.val, by omega⟩ := by
  show rowCols X M G W (batchOf (flat t p)) (posOf (flat t p)) ⟨1712 + d.val, by omega⟩ = _
  rw [batchOf_flat, posOf_flat]

end

/-- Where a head's rows are stored. -/
theorem put8 (t : Fin cfg0.N) (X : FVec Ideal S16x8x2048x128 .bf16) (r : Fin 8) (p : Fin 512) (d : Fin 128)
    (y : ((cfg0.win 11).xblock (cfg0.grid.coords t)).Idx) (h1 : (y 1).val = r.val) (h2 : (y 2).val = p.val) (h3 : (y 3).val = d.val) :
    X ((win0_11.blk t).view.emb y) = X (ix4 (bat t) r (pos t p) d) := by
  have h0 : (y 0).val = 0 := Nat.lt_one_iff.1 (y 0).isLt
  unfold bat pos
  blk_ext [e11 t]

/-- Where a head's key rows are stored. -/
theorem put8k (t : Fin cfg0.N) (X : FVec Ideal S16x8x2048x128 .bf16) (r : Fin 8) (p : Fin 512) (d : Fin 128)
    (y : ((cfg0.win 12).xblock (cfg0.grid.coords t)).Idx) (h1 : (y 1).val = r.val) (h2 : (y 2).val = p.val) (h3 : (y 3).val = d.val) :
    X ((win0_12.blk t).view.emb y) = X (ix4 (bat t) r (pos t p) d) := by
  have h0 : (y 0).val = 0 := Nat.lt_one_iff.1 (y 0).isLt
  unfold bat pos
  blk_ext [e12 t]

/-- Where a pair's value rows are stored. -/
theorem put4 (t : Fin cfg0.N) (X : FVec Ideal S16x4x2048x128 .bf16) (r : Fin 4) (p : Fin 512) (d : Fin 128)
    (y : ((cfg0.win 13).xblock (cfg0.grid.coords t)).Idx) (h1 : (y 1).val = r.val) (h2 : (y 2).val = p.val) (h3 : (y 3).val = d.val) :
    X ((win0_13.blk t).view.emb y) = X (ix4 (bat t) r (pos t p) d) := by
  have h0 : (y 0).val = 0 := Nat.lt_one_iff.1 (y 0).isLt
  unfold bat pos
  blk_ext [e13 t]

/-- A head's stored block is entered by row and lane. -/
theorem eq_lane (x : S1x1x512x128.Idx) : x = ix4 (0 : Fin 1) (0 : Fin 1) (x 2 : Fin 512) (x 3 : Fin 128) := by
  have h0 : x 0 = (0 : Fin 1) := Subsingleton.elim (α := Fin 1) _ _
  have h1 : x 1 = (0 : Fin 1) := Subsingleton.elim (α := Fin 1) _ _
  refine (eq_ix4 x).trans ?_
  rw [h0, h1]
  rfl

set_option maxHeartbeats 2000000 in
/-- The queries. -/
theorem arr11 (c : Dev nD) : (dats m 0 c).arrAt 11 cfg0.N
    = R11 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 11 _ (by decide +kernel) fun t hf y => ?_
  blk_simp
  rw [after0_11]
  unfold out0_11 k0_pay62 k0_pay58 k0_pay57 k0_pay56
  canon_tiles x h
  all_goals
    obtain ⟨r, hr⟩ : ∃ r : Fin 8, r.val = (y 1).val := ⟨⟨(y 1).val, (y 1).isLt⟩, rfl⟩
    obtain ⟨p, hp⟩ : ∃ p : Fin 512, p = x 2 := ⟨_, rfl⟩
    obtain ⟨d, hd⟩ : ∃ d : Fin 128, d = x 3 := ⟨_, rfl⟩
    have hx : x = ix4 (0 : Fin 1) (0 : Fin 1) p d := by rw [hp, hd]; exact eq_lane x
    refine Eq.trans ?_ (put8 t (R11 _ _ _ _ _ _) r p d y (by omega) (by rw [hp]; omega) (by rw [hd]; omega)).symm
    rw [hx]
    pointwise [k0_pay32, k0_pay18, k0_pay31, k0_pay17, k0_pay30, k0_pay16, k0_pay29, k0_pay15, k0_pay28, k0_pay14, k0_pay27, k0_pay26,
      k0_pay13, k0_pay12, k0_pay11, k0_pay25, k0_pay10, k0_pay24, k0_pay9]
    exact q_at m c t p r d _ _ _ (by dsimp only; omega) (by dsimp only; omega) (by dsimp only; omega)

/-- The keys. -/
theorem arr12 (c : Dev nD) : (dats m 0 c).arrAt 12 cfg0.N
    = R12 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  refine (dats m 0 c).arrAt_eq_of_covers 12 _ (by decide +kernel) fun t hf y => ?_
  blk_simp
  rw [after0_12]
  unfold out0_12 k0_pay66 k0_pay67 k0_pay64 k0_pay63 k0_pay65 k0_pay61 k0_pay60 k0_pay59
  canon_tiles x h
  all_goals
    obtain ⟨r, hr⟩ : ∃ r : Fin 8, r.val = (y 1).val := ⟨⟨(y 1).val, (y 1).isLt⟩, rfl⟩
    obtain ⟨p, hp⟩ : ∃ p : Fin 512, p = x 2 := ⟨_, rfl⟩
    obtain ⟨d, hd⟩ : ∃ d : Fin 128, d = x 3 := ⟨_, rfl⟩
    have hx : x = ix4 (0 : Fin 1) (0 : Fin 1) p d := by rw [hp, hd]; exact eq_lane x
    refine Eq.trans ?_ (put8k t (R12 _ _ _ _ _ _ ) r p d y (by omega) (by rw [hp]; omega) (by rw [hd]; omega)).symm
    rw [hx]
    pointwise [k0_pay44, k0_pay43, k0_pay42, k0_pay41, k0_pay40, k0_pay39, k0_pay38, k0_pay37, k0_pay36, k0_pay35]
    exact k_at m c t p r d _ (by dsimp only; omega)

/-- The values. -/
theorem arr13 (c : Dev nD) : (dats m 0 c).arrAt 13 cfg0.N
    = R13 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  refine (dats m 0 c).arrAt_eq_of_covers 13 _ (by decide +kernel) fun t hf y => ?_
  blk_simp
  rw [after0_13]
  unfold out0_13 k0_pay66 k0_pay64 k0_pay63
  canon_tiles x h
  all_goals
    obtain ⟨r, hr⟩ : ∃ r : Fin 4, r.val = (y 1).val := ⟨⟨(y 1).val, (y 1).isLt⟩, rfl⟩
    obtain ⟨p, hp⟩ : ∃ p : Fin 512, p = x 2 := ⟨_, rfl⟩
    obtain ⟨d, hd⟩ : ∃ d : Fin 128, d = x 3 := ⟨_, rfl⟩
    have hx : x = ix4 (0 : Fin 1) (0 : Fin 1) p d := by rw [hp, hd]; exact eq_lane x
    refine Eq.trans ?_ (put4 t (R13 _ _ _ _ _ _ ) r p d y (by omega) (by rw [hp]; omega) (by rw [hd]; omega)).symm
    rw [hx]
    pointwise [k0_pay49, k0_pay48, k0_pay47, k0_pay46, k0_pay45]
    exact v_at m c t p r d _ (by dsimp only; omega)

/-- Where rows are stored. -/
theorem put14 (t : Fin cfg0.N) (X : FVec Ideal S32768x256 .f32) (p : Fin 512) (d : Fin 256)
    (y : ((cfg0.win 14).xblock (cfg0.grid.coords t)).Idx) (h0 : (y 0).val = p.val) (h1 : (y 1).val = d.val) :
    X ((win0_14.blk t).view.emb y) = X (ix2 (flat t p) d) := by
  unfold flat
  blk_ext [e14 t]

/-- The cached latent. -/
theorem arr14 (c : Dev nD) : (dats m 0 c).arrAt 14 cfg0.N
    = R14 (m ((c : Thread nD τ).loc main_arg0)) (m ((c : Thread nD τ).loc main_arg1)) (m ((c : Thread nD τ).loc main_arg2)) (m ((c : Thread nD τ).loc main_arg3)) (m ((c : Thread nD τ).loc main_arg6)) := by
  refine (dats m 0 c).arrAt_eq_of_covers 14 _ (by decide +kernel) fun t hf y => ?_
  blk_simp
  rw [after0_14]
  unfold out0_14 k0_pay63
  canon_tiles x h
  obtain ⟨p, hp⟩ : ∃ p : Fin 512, p = x 0 := ⟨_, rfl⟩
  obtain ⟨d, hd⟩ : ∃ d : Fin 256, d = x 1 := ⟨_, rfl⟩
  have hx : x = ix2 p d := by rw [eq_ix2 x, hp, hd]
  refine Eq.trans ?_ (put14 t (R14 _ _ _ _ _ ) p d y (by rw [hp]; omega) (by rw [hd]; omega)).symm
  rw [hx]
  rw [R14_flat]
  exact lat_at m c t p d

/-- Where rows are stored. -/
theorem put15 (t : Fin cfg0.N) (X : FVec Ideal S32768x32 .f32) (p : Fin 512) (d : Fin 32)
    (y : ((cfg0.win 15).xblock (cfg0.grid.coords t)).Idx) (h0 : (y 0).val = p.val) (h1 : (y 1).val = d.val) :
    X ((win0_15.blk t).view.emb y) = X (ix2 (flat t p) d) := by
  unfold flat
  blk_ext [e15 t]

/-- The cached key columns. -/
theorem arr15 (c : Dev nD) : (dats m 0 c).arrAt 15 cfg0.N
    = R15 (m ((c : Thread nD τ).loc main_arg0)) (m ((c : Thread nD τ).loc main_arg1)) (m ((c : Thread nD τ).loc main_arg2)) (m ((c : Thread nD τ).loc main_arg3)) := by
  refine (dats m 0 c).arrAt_eq_of_covers 15 _ (by decide +kernel) fun t hf y => ?_
  blk_simp
  rw [after0_15]
  unfold out0_15 k0_pay61 k0_pay60 k0_pay59
  canon_tiles x h
  obtain ⟨p, hp⟩ : ∃ p : Fin 512, p = x 0 := ⟨_, rfl⟩
  obtain ⟨d, hd⟩ : ∃ d : Fin 32, d = x 1 := ⟨_, rfl⟩
  have hx : x = ix2 p d := by rw [eq_ix2 x, hp, hd]
  refine Eq.trans ?_ (put15 t (R15 _ _ _ _ ) p d y (by rw [hp]; omega) (by rw [hd]; omega)).symm
  rw [hx]
  rw [R15_flat]
  refine Eq.trans ?_ ((kr_at m c t p ⟨d.val, by omega⟩).trans (dif_pos d.isLt))
  pointwise [k0_pay23]
  rfl

/-- Where rows are stored. -/
theorem put16 (t : Fin cfg0.N) (X : FVec Ideal S32768x256 .f32) (p : Fin 512) (d : Fin 256)
    (y : ((cfg0.win 16).xblock (cfg0.grid.coords t)).Idx) (h0 : (y 0).val = p.val) (h1 : (y 1).val = d.val) :
    X ((win0_16.blk t).view.emb y) = X (ix2 (flat t p) d) := by
  unfold flat
  blk_ext [e16 t]

/-- The recurrence's queries. -/
theorem arr16 (c : Dev nD) : (dats m 0 c).arrAt 16 cfg0.N
    = R16 (m ((c : Thread nD τ).loc main_arg0)) (m ((c : Thread nD τ).loc main_arg1)) (m ((c : Thread nD τ).loc main_arg2)) (m ((c : Thread nD τ).loc main_arg3)) := by
  refine (dats m 0 c).arrAt_eq_of_covers 16 _ (by decide +kernel) fun t hf y => ?_
  blk_simp
  rw [after0_16]
  unfold out0_16
  canon_tiles x h
  obtain ⟨p, hp⟩ : ∃ p : Fin 512, p = x 0 := ⟨_, rfl⟩
  obtain ⟨d, hd⟩ : ∃ d : Fin 256, d = x 1 := ⟨_, rfl⟩
  have hx : x = ix2 p d := by rw [eq_ix2 x, hp, hd]
  refine Eq.trans ?_ (put16 t (R16 _ _ _ _ ) p d y (by rw [hp]; omega) (by rw [hd]; omega)).symm
  rw [hx]
  rw [R16_flat]
  refine Eq.trans ?_ (a_gq m c t p d)
  pointwise [k0_pay50]

/-- Where rows are stored. -/
theorem put17 (t : Fin cfg0.N) (X : FVec Ideal S32768x256 .f32) (p : Fin 512) (d : Fin 256)
    (y : ((cfg0.win 17).xblock (cfg0.grid.coords t)).Idx) (h0 : (y 0).val = p.val) (h1 : (y 1).val = d.val) :
    X ((win0_17.blk t).view.emb y) = X (ix2 (flat t p) d) := by
  unfold flat
  blk_ext [e17 t]

/-- The recurrence's keys. -/
theorem arr17 (c : Dev nD) : (dats m 0 c).arrAt 17 cfg0.N
    = R17 (m ((c : Thread nD τ).loc main_arg0)) (m ((c : Thread nD τ).loc main_arg1)) (m ((c : Thread nD τ).loc main_arg2)) (m ((c : Thread nD τ).loc main_arg3)) := by
  refine (dats m 0 c).arrAt_eq_of_covers 17 _ (by decide +kernel) fun t hf y => ?_
  blk_simp
  rw [after0_17]
  unfold out0_17
  canon_tiles x h
  obtain ⟨p, hp⟩ : ∃ p : Fin 512, p = x 0 := ⟨_, rfl⟩
  obtain ⟨d, hd⟩ : ∃ d : Fin 256, d = x 1 := ⟨_, rfl⟩
  have hx : x = ix2 p d := by rw [eq_ix2 x, hp, hd]
  refine Eq.trans ?_ (put17 t (R17 _ _ _ _ ) p d y (by rw [hp]; omega) (by rw [hd]; omega)).symm
  rw [hx]
  rw [R17_flat]
  refine Eq.trans ?_ (a_gk m c t p d)
  pointwise [k0_pay51]

/-- Where rows are stored. -/
theorem put18 (t : Fin cfg0.N) (X : FVec Ideal S32768x512 .f32) (p : Fin 512) (d : Fin 512)
    (y : ((cfg0.win 18).xblock (cfg0.grid.coords t)).Idx) (h0 : (y 0).val = p.val) (h1 : (y 1).val = d.val) :
    X ((win0_18.blk t).view.emb y) = X (ix2 (flat t p) d) := by
  unfold flat
  blk_ext [e18 t]

/-- The recurrence's values. -/
theorem arr18 (c : Dev nD) : (dats m 0 c).arrAt 18 cfg0.N
    = R18 (m ((c : Thread nD τ).loc main_arg0)) (m ((c : Thread nD τ).loc main_arg1)) (m ((c : Thread nD τ).loc main_arg2)) (m ((c : Thread nD τ).loc main_arg3)) := by
  refine (dats m 0 c).arrAt_eq_of_covers 18 _ (by decide +kernel) fun t hf y => ?_
  blk_simp
  rw [after0_18]
  unfold out0_18
  canon_tiles x h
  obtain ⟨p, hp⟩ : ∃ p : Fin 512, p = x 0 := ⟨_, rfl⟩
  obtain ⟨d, hd⟩ : ∃ d : Fin 512, d = x 1 := ⟨_, rfl⟩
  have hx : x = ix2 p d := by rw [eq_ix2 x, hp, hd]
  refine Eq.trans ?_ (put18 t (R18 _ _ _ _ ) p d y (by rw [hp]; omega) (by rw [hd]; omega)).symm
  rw [hx]
  rw [R18_flat]
  refine Eq.trans ?_ (a_gv m c t p d)
  pointwise [k0_pay52]

/-- Where rows are stored. -/
theorem put19 (t : Fin cfg0.N) (X : FVec Ideal S32768x256 .f32) (p : Fin 512) (d : Fin 256)
    (y : ((cfg0.win 19).xblock (cfg0.grid.coords t)).Idx) (h0 : (y 0).val = p.val) (h1 : (y 1).val = d.val) :
    X ((win0_19.blk t).view.emb y) = X (ix2 (flat t p) d) := by
  unfold flat
  blk_ext [e19 t]

/-- The logarithm of the recurrence's gate. -/
theorem arr19 (c : Dev nD) : (dats m 0 c).arrAt 19 cfg0.N
    = R19 (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) := by
  refine (dats m 0 c).arrAt_eq_of_covers 19 _ (by decide +kernel) fun t hf y => ?_
  blk_simp
  rw [after0_19]
  unfold out0_19
  canon_tiles x h
  obtain ⟨p, hp⟩ : ∃ p : Fin 512, p = x 0 := ⟨_, rfl⟩
  obtain ⟨d, hd⟩ : ∃ d : Fin 256, d = x 1 := ⟨_, rfl⟩
  have hx : x = ix2 p d := by rw [eq_ix2 x, hp, hd]
  refine Eq.trans ?_ (put19 t (R19 _ _ _ _ _ _ ) p d y (by rw [hp]; omega) (by rw [hd]; omega)).symm
  rw [hx]
  rw [R19_flat]
  exact gate_at m c t p d

/-- Where rows are stored. -/
theorem put20 (t : Fin cfg0.N) (X : FVec Ideal S32768x512 .f32) (p : Fin 512) (d : Fin 512)
    (y : ((cfg0.win 20).xblock (cfg0.grid.coords t)).Idx) (h0 : (y 0).val = p.val) (h1 : (y 1).val = d.val) :
    X ((win0_20.blk t).view.emb y) = X (ix2 (flat t p) d) := by
  unfold flat
  blk_ext [e20 t]

/-- The output gate. -/
theorem arr20 (c : Dev nD) : (dats m 0 c).arrAt 20 cfg0.N
    = R20 (m ((c : Thread nD τ).loc main_arg0)) (m ((c : Thread nD τ).loc main_arg1)) (m ((c : Thread nD τ).loc main_arg2)) (m ((c : Thread nD τ).loc main_arg3)) := by
  refine (dats m 0 c).arrAt_eq_of_covers 20 _ (by decide +kernel) fun t hf y => ?_
  blk_simp
  rw [after0_20]
  unfold out0_20
  canon_tiles x h
  obtain ⟨p, hp⟩ : ∃ p : Fin 512, p = x 0 := ⟨_, rfl⟩
  obtain ⟨d, hd⟩ : ∃ d : Fin 512, d = x 1 := ⟨_, rfl⟩
  have hx : x = ix2 p d := by rw [eq_ix2 x, hp, hd]
  refine Eq.trans ?_ (put20 t (R20 _ _ _ _ ) p d y (by rw [hp]; omega) (by rw [hd]; omega)).symm
  rw [hx]
  rw [R20_flat]
  refine Eq.trans ?_ (a_gg m c t p d)
  pointwise [k0_pay53]

end Cert.Kernel4Ideal.Proj

end
-- ==== Proof.RefProj.lean ====
/-
  The reference of the prompt's projections before the mixers, at an index.
-/
module

public import proofs.«01_k».proof.Proof.ProjSpec
public import proofs.«01_k».proof.Proof.Gen.Reference4Ideal.Run
public import proofs.«01_k».proof.Proof.Gen.Reference4Ideal.Read
public import Idealize.ShloMosaic.Lib.Pointwise

@[expose] public section

set_option maxRecDepth 16384

noncomputable section

namespace Cert.Reference4Ideal.Proj

open Cert.Reference4Ideal Cert.Reference4Ideal.Gen Cert.Reference4Ideal.Read Idealize.ShloMosaic Idealize.ShloMosaic.TcCoe Idealize.SL.Sem
open Cert.Ffn Cert.Proj

variable (X : FVec Ideal S32768x1024 .f32) (M : FVec Ideal S16x9216 .f32) (G : FVec Ideal S1024 .f32)
  (W : FVec Ideal S1024x2224 .f32) (GQ : FVec Ideal S384 .f32) (WQ : FVec Ideal S384x8x96 .f32) (GK : FVec Ideal S256 .f32)
  (WK : FVec Ideal S256x8x128 .f32) (WG : FVec Ideal S16x256 .f32) (BG : FVec Ideal S256 .f32)

/-- The row's projections. -/
abbrev A (b : Fin 16) (s : Fin 2048) : Fin 2224 → EReal :=
  cols (fun n j => X (ix2 n j)) (fun b j => M (ix2 b j)) (fun j => G (ix1 j)) (fun i c => W (ix2 i c)) b s

/-- The modulated row. -/
theorem v30_apply (b : Fin 16) (s : Fin 2048) (i : Fin 1024) :
    val_main_v30 (F := Ideal) X M G (ix3 b s i)
      = modulated (fun j => X (ix2 (row b s) j)) (fun j => G (ix1 j)) (fun j => M (ix2 b ⟨4096 + j.val, by omega⟩))
          (fun j => M (ix2 b ⟨3072 + j.val, by omega⟩)) i := by
  pointwise [val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v13, val_main_v12, val_main_v11, val_main_cst, val_main_cst_0, val_main_cst_1, val_main_cst_2, val_main_v6,
    val_main_v5, val_main_v1]
  rfl

/-- The row's projection. -/
theorem v31_apply (b : Fin 16) (s : Fin 2048) (c : Fin 2224) :
    val_main_v31 (F := Ideal) X M G W (ix3 b s c) = A X M G W b s c := by
  unfold val_main_v31
  have e := v30_apply X M G b s
  generalize val_main_v30 (F := Ideal) X M G = h at e ⊢
  pointwise []
  simp only [e]
  rfl

/-- The angles for the shared key. -/
theorem v81_apply (s : Fin 2048) (k : Fin 16) : val_main_v81 (F := Ideal) (ix2 s k) = angle s k := by
  pointwise [val_main_v81, val_main_v80, val_main_v79, val_main_v78, val_main_v77, val_main_v76, val_main_v75, val_main_v74,
    val_main_v73, val_main_v72, val_main_v71, val_main_v70, val_main_v69, val_main_v68, val_main_v67, val_main_cst_9,
    val_main_cst_10, val_main_cst_11, val_main_cst_12, val_main_v0]
  rfl

/-- The angles for the queries. -/
theorem v122_apply (s : Fin 2048) (k : Fin 16) : val_main_v122 (F := Ideal) (ix3 s 0 k) = angle s k := by
  have e : val_main_v121 (F := Ideal) (ix2 s k) = angle s k := v81_apply s k
  unfold val_main_v122
  generalize val_main_v121 (F := Ideal) = h at e ⊢
  pointwise []
  exact e

/-- The turned key columns. -/
theorem v102_apply (b : Fin 16) (s : Fin 2048) (j : Fin 32) :
    val_main_v102 (F := Ideal) X M G W (ix3 b s j) = keyR (A X M G W b s) (cs s) (sn s) j := by
  have e := v31_apply X M G W b s
  unfold val_main_v102 val_main_v101 val_main_v100 val_main_v96 val_main_v92 val_main_v91 val_main_v87 val_main_v83 val_main_v82 val_main_v34
  generalize val_main_v31 (F := Ideal) X M G W = h at e ⊢
  pointwise [val_main_v99, val_main_v98, val_main_v97, val_main_v95, val_main_v94, val_main_v93, val_main_v90, val_main_v89,
    val_main_v88, val_main_v86, val_main_v85, val_main_v84]
  simp only [e, v81_apply]
  rfl

/-- The scaled latent of the queries. -/
theorem v52_apply (b : Fin 16) (s : Fin 2048) (j : Fin 384) :
    val_main_v52 (F := Ideal) X M G W GQ (ix3 b s j) = latQ (A X M G W b s) (fun i => GQ (ix1 i)) j := by
  have e := v31_apply X M G W b s
  unfold val_main_v52 val_main_v49 val_main_v48 val_main_v47 val_main_v46 val_main_v44 val_main_v42 val_main_v41 val_main_v40 val_main_v32
  generalize val_main_v31 (F := Ideal) X M G W = h at e ⊢
  pointwise [val_main_v51, val_main_v50, val_main_v45, val_main_v43, val_main_cst_3, val_main_cst_4, val_main_cst_5]
  simp only [e]
  rfl

/-- The scaled latent of the keys and values. -/
theorem v66_apply (b : Fin 16) (s : Fin 2048) (j : Fin 256) :
    val_main_v66 (F := Ideal) X M G W GK (ix3 b s j) = latKV (A X M G W b s) (fun i => GK (ix1 i)) j := by
  have e := v31_apply X M G W b s
  unfold val_main_v66 val_main_v63 val_main_v62 val_main_v61 val_main_v60 val_main_v58 val_main_v56 val_main_v55 val_main_v54 val_main_v33
  generalize val_main_v31 (F := Ideal) X M G W = h at e ⊢
  pointwise [val_main_v65, val_main_v64, val_main_v59, val_main_v57, val_main_cst_6, val_main_cst_7, val_main_cst_8]
  simp only [e]
  rfl

/-- The heads' query columns before they are turned. -/
theorem v53_apply (b : Fin 16) (s : Fin 2048) (h : Fin 8) (j : Fin 96) :
    val_main_v53 (F := Ideal) X M G W GQ WQ (ix4 b s h j)
      = ∑ i, latQ (A X M G W b s) (fun i => GQ (ix1 i)) i * WQ (ix3 i h j) := by
  have e := v52_apply X M G W GQ b s
  unfold val_main_v53
  generalize val_main_v52 (F := Ideal) X M G W GQ = u at e ⊢
  pointwise []
  simp only [e]

/-- The heads' key and value columns. -/
theorem v103_apply (b : Fin 16) (s : Fin 2048) (h : Fin 8) (j : Fin 128) :
    val_main_v103 (F := Ideal) X M G W GK WK (ix4 b s h j)
      = ∑ i, latKV (A X M G W b s) (fun i => GK (ix1 i)) i * WK (ix3 i h j) := by
  have e := v66_apply X M G W GK b s
  unfold val_main_v103
  generalize val_main_v66 (F := Ideal) X M G W GK = u at e ⊢
  pointwise []
  simp only [e]

/-- The queries. -/
theorem v159_apply (b : Fin 16) (h : Fin 8) (s : Fin 2048) (j : Fin 128) :
    val_main_v159 (F := Ideal) X M G W GQ WQ (ix4 b h s j)
      = query (A X M G W b s) (fun i => GQ (ix1 i)) (fun i h j => WQ (ix3 i h j)) (cs s) (sn s) h j := by
  have e := v53_apply X M G W GQ WQ b s
  unfold val_main_v159 val_main_v158 val_main_v144 val_main_v143 val_main_v142 val_main_v141 val_main_v137 val_main_v133 val_main_v132
    val_main_v128 val_main_v124 val_main_v123 val_main_v106 val_main_v105
  generalize val_main_v53 (F := Ideal) X M G W GQ WQ = u at e ⊢
  pointwise [val_main_v140, val_main_v139, val_main_v138, val_main_v136, val_main_v135, val_main_v134, val_main_v131, val_main_v130,
    val_main_v129, val_main_v127, val_main_v126, val_main_v125, val_main_v104, val_main_cst_13]
  simp only [e, v122_apply]
  rfl

/-- The keys. -/
theorem v161_apply (b : Fin 16) (h : Fin 8) (s : Fin 2048) (j : Fin 128) :
    val_main_v161 (F := Ideal) X M G W GK WK (ix4 b h s j)
      = key (A X M G W b s) (fun i => GK (ix1 i)) (fun i h j => WK (ix3 i h j)) (cs s) (sn s) h j := by
  have e := v103_apply X M G W GK WK b s
  have e' := v102_apply X M G W b s
  unfold val_main_v161 val_main_v160 val_main_v148 val_main_v147 val_main_v146 val_main_v145
  generalize val_main_v103 (F := Ideal) X M G W GK WK = u at e ⊢
  generalize val_main_v102 (F := Ideal) X M G W = u' at e' ⊢
  pointwise [val_main_v104, val_main_cst_13]
  simp only [e, e']
  rfl

/-- The values. -/
theorem v163_apply (b : Fin 16) (r : Fin 4) (s : Fin 2048) (j : Fin 128) :
    val_main_v163 (F := Ideal) X M G W GK WK (ix4 b r s j)
      = value (A X M G W b s) (fun i => GK (ix1 i)) (fun i h j => WK (ix3 i h j)) r j := by
  have e := v103_apply X M G W GK WK b s
  unfold val_main_v163 val_main_v162 val_main_v150 val_main_v149
  generalize val_main_v103 (F := Ideal) X M G W GK WK = u at e ⊢
  pointwise []
  simp only [e]
  rfl

/-- The cached latent. -/
theorem v164_apply (n : Fin 32768) (j : Fin 256) :
    val_main_v164 (F := Ideal) X M G W GK (ix2 n j) = latKV (A X M G W (batchOf n) (posOf n)) (fun i => GK (ix1 i)) j := by
  rw [← v66_apply]
  unfold val_main_v164
  generalize val_main_v66 (F := Ideal) X M G W GK = u
  pointwise []
  rfl

/-- The cached key columns. -/
theorem v165_apply (n : Fin 32768) (j : Fin 32) :
    val_main_v165 (F := Ideal) X M G W (ix2 n j) = keyR (A X M G W (batchOf n) (posOf n)) (cs (posOf n)) (sn (posOf n)) j := by
  rw [← v102_apply]
  unfold val_main_v165
  generalize val_main_v102 (F := Ideal) X M G W = u
  pointwise []
  rfl

/-- The recurrence's queries. -/
theorem v168_apply (n : Fin 32768) (j : Fin 256) :
    val_main_v168 (F := Ideal) X M G W (ix2 n j)
      = A X M G W (batchOf n) (posOf n) ⟨672 + j.val, by omega⟩ * Ideal.ofBits .f32 0x3E000000#32 := by
  rw [← v31_apply]
  unfold val_main_v168 val_main_v167 val_main_v35
  generalize val_main_v31 (F := Ideal) X M G W = u
  pointwise [val_main_v166, val_main_cst_19]
  rfl

/-- The recurrence's keys. -/
theorem v169_apply (n : Fin 32768) (j : Fin 256) :
    val_main_v169 (F := Ideal) X M G W (ix2 n j) = A X M G W (batchOf n) (posOf n) ⟨928 + j.val, by omega⟩ := by
  rw [← v31_apply]
  unfold val_main_v169 val_main_v36
  generalize val_main_v31 (F := Ideal) X M G W = u
  pointwise []
  rfl

/-- The recurrence's values. -/
theorem v171_apply (n : Fin 32768) (j : Fin 512) :
    val_main_v171 (F := Ideal) X M G W (ix2 n j) = A X M G W (batchOf n) (posOf n) ⟨1184 + j.val, by omega⟩ := by
  rw [← v31_apply]
  unfold val_main_v171 val_main_v170 val_main_v37
  generalize val_main_v31 (F := Ideal) X M G W = u
  pointwise []
  rfl

/-- The output gates. -/
theorem v173_apply (n : Fin 32768) (j : Fin 512) :
    val_main_v173 (F := Ideal) X M G W (ix2 n j) = A X M G W (batchOf n) (posOf n) ⟨1712 + j.val, by omega⟩ := by
  rw [← v31_apply]
  unfold val_main_v173 val_main_v39
  generalize val_main_v31 (F := Ideal) X M G W = u
  pointwise []
  rfl

/-- The gate's argument. -/
theorem v154_apply (b : Fin 16) (s : Fin 2048) (c : Fin 256) :
    val_main_v154 (F := Ideal) X M G W WG BG (ix3 b s c)
      = ∑ i : Fin 16, A X M G W b s ⟨1696 + i.val, by omega⟩ * WG (ix2 i c) + BG (ix1 c) := by
  have e := v31_apply X M G W b s
  unfold val_main_v154 val_main_v151 val_main_v38
  generalize val_main_v31 (F := Ideal) X M G W = u at e ⊢
  pointwise [val_main_v153, val_main_v152]
  simp only [e]

/-- The logarithm of the gate. -/
theorem v172_apply (n : Fin 32768) (c : Fin 256) :
    val_main_v172 (F := Ideal) X M G W WG BG (ix2 n c)
      = logGate (A X M G W (batchOf n) (posOf n)) (fun i c => WG (ix2 i c)) (fun c => BG (ix1 c)) c := by
  unfold logGate
  rw [← v154_apply]
  unfold val_main_v172 val_main_v157 val_main_v155 val_main_call0_v1 val_main_call0_call0_v11 val_main_call0_call0_v10
    val_main_call0_call0_v9 val_main_call0_call0_v8 val_main_call0_call0_v7 val_main_call0_call0_v6 val_main_call0_call0_v4
    val_main_call0_call0_v3 val_main_call0_call0_v1 val_main_call0_v0
  generalize val_main_v154 (F := Ideal) X M G W WG BG = h
  pointwise [val_main_v156, val_main_cst_18, val_main_call0_call0_v5, val_main_call0_call0_v2, val_main_call0_call0_v0,
    val_main_call0_call0_cst]
  rw [if_neg (fun hh => hh rfl)]
  rfl

end Cert.Reference4Ideal.Proj

end
-- ==== Proof.ProjEq.lean ====
module

public import proofs.«01_k».proof.Proof.Projections
public import proofs.«01_k».proof.Proof.RefProj

@[expose] public section

/-! The projections' ten arrays are the reference's. -/

noncomputable section

namespace Cert.Reference4Ideal.Proj

open Cert.Reference4Ideal Cert.Reference4Ideal.Gen Cert.Reference4Ideal.Read Idealize.ShloMosaic Idealize.ShloMosaic.TcCoe
open Cert.Ffn Cert.Proj

variable (X : FVec Ideal S32768x1024 .f32) (M : FVec Ideal S16x9216 .f32) (G : FVec Ideal S1024 .f32)
  (W : FVec Ideal S1024x2224 .f32) (GQ : FVec Ideal S384 .f32) (WQ : FVec Ideal S384x8x96 .f32) (GK : FVec Ideal S256 .f32)
  (WK : FVec Ideal S256x8x128 .f32) (WG : FVec Ideal S16x256 .f32) (BG : FVec Ideal S256 .f32)

theorem ref11 : val_main_v159 (F := Ideal) X M G W GQ WQ = Cert.Kernel4Ideal.Proj.R11 X M G W GQ WQ := by
  funext y
  rw [eq_ix4 y]
  exact v159_apply X M G W GQ WQ _ _ _ _

theorem ref12 : val_main_v161 (F := Ideal) X M G W GK WK = Cert.Kernel4Ideal.Proj.R12 X M G W GK WK := by
  funext y
  rw [eq_ix4 y]
  exact v161_apply X M G W GK WK _ _ _ _

theorem ref13 : val_main_v163 (F := Ideal) X M G W GK WK = Cert.Kernel4Ideal.Proj.R13 X M G W GK WK := by
  funext y
  rw [eq_ix4 y]
  exact v163_apply X M G W GK WK _ _ _ _

theorem ref14 : val_main_v164 (F := Ideal) X M G W GK = Cert.Kernel4Ideal.Proj.R14 X M G W GK := by
  funext y
  rw [eq_ix2 y]
  exact v164_apply X M G W GK _ _

theorem ref15 : val_main_v165 (F := Ideal) X M G W = Cert.Kernel4Ideal.Proj.R15 X M G W := by
  funext y
  rw [eq_ix2 y]
  exact v165_apply X M G W _ _

theorem ref16 : val_main_v168 (F := Ideal) X M G W = Cert.Kernel4Ideal.Proj.R16 X M G W := by
  funext y
  rw [eq_ix2 y]
  exact v168_apply X M G W _ _

theorem ref17 : val_main_v169 (F := Ideal) X M G W = Cert.Kernel4Ideal.Proj.R17 X M G W := by
  funext y
  rw [eq_ix2 y]
  exact v169_apply X M G W _ _

theorem ref18 : val_main_v171 (F := Ideal) X M G W = Cert.Kernel4Ideal.Proj.R18 X M G W := by
  funext y
  rw [eq_ix2 y]
  exact v171_apply X M G W _ _

theorem ref19 : val_main_v172 (F := Ideal) X M G W WG BG = Cert.Kernel4Ideal.Proj.R19 X M G W WG BG := by
  funext y
  rw [eq_ix2 y]
  exact v172_apply X M G W WG BG _ _

theorem ref20 : val_main_v173 (F := Ideal) X M G W = Cert.Kernel4Ideal.Proj.R20 X M G W := by
  funext y
  rw [eq_ix2 y]
  exact v173_apply X M G W _ _

end Cert.Reference4Ideal.Proj

end
-- ==== Proof.lean ====
/-
  The claims about the prompt's projections, its attention, its first feed-forward step and its last part: the frames, the named constants, and
  that each kernel's result is its reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.KernelValue
public import proofs.«01_k».proof.Proof.RefValue
public import proofs.«01_k».proof.Proof.FfnFirst
public import proofs.«01_k».proof.Proof.RefFirst
public import proofs.«01_k».proof.Proof.LastPart
public import proofs.«01_k».proof.Proof.RefLast
public import proofs.«01_k».proof.Proof.ProjRun
public import proofs.«01_k».proof.Proof.ProjRunIdeal
public import proofs.«01_k».proof.Proof.ProjEq
public import Idealize.ShloMosaic.Adequacy
public import Idealize.ShloMosaic.Init

@[expose] public section

noncomputable section

namespace Cert.Proof

open Idealize.ShloMosaic Idealize.SL.Sem

/-- The side conditions the precondition's operations state. -/
theorem pre_facts : Cert.Pre_finite_scores.Facts where
  bitsLt_bf16_f32 := by decide
  bcast_S_S16x8x2048x128 := by decide

/-- A number whose absolute value is below `+∞` is neither infinity. -/
theorem finite_of_abs (x : EReal) (h : FloatOps.cmpf (F := Ideal) (φ := .f32) .olt (max x (-x)) (Ideal.ofBits .f32 0x7F800000#32) = 1#1) :
    x ≠ ⊤ ∧ x ≠ ⊥ := by
  have ht : Ideal.ofBits .f32 0x7F800000#32 = ⊤ := by simp [Ideal.ofBits, Ideal.ieee]
  rw [ht] at h
  constructor
  · rintro rfl
    simp [FloatOps.cmpf, Idealize.ShloMosaic.Ideal.cmp] at h
  · rintro rfl
    simp [FloatOps.cmpf, Idealize.ShloMosaic.Ideal.cmp] at h

/-- The precondition says that the queries and the keys are finite. -/
theorem finite_args (m : (ℓ : Loc Cert.KernelIdeal.nD Cert.KernelIdeal.τ Cert.KernelIdeal.sig) → Buf (Elt Ideal) ℓ)
    (h : Cert.Pre_KernelIdeal_finite_scores (hPre_finite_scores := pre_facts) m) (c : Dev Cert.KernelIdeal.nD) :
    Cert.Attn.Finite (m ((c.tc : Thread Cert.KernelIdeal.nD Cert.KernelIdeal.τ).loc Cert.KernelIdeal.main_arg0))
      ∧ Cert.Attn.Finite (m ((c.tc : Thread Cert.KernelIdeal.nD Cert.KernelIdeal.τ).loc Cert.KernelIdeal.main_arg1)) :=
  ⟨fun i => finite_of_abs _ (congrFun (h c).1 i), fun i => finite_of_abs _ (congrFun (h c).2 i)⟩

/-- The kernel's result is the reference's. -/
theorem algebraic : Cert.algebraic_KernelIdeal_ReferenceIdeal_pre_finite_scores (hKernelIdeal := Cert.KernelIdeal.Gen.facts)
    (hReferenceIdeal := Cert.ReferenceIdeal.Gen.facts) (hPre_finite_scores := pre_facts) := by
  intro m g m' g' hpre hargs
  refine ⟨fun c => Cert.Attn.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run _ _ _).mono (fun r h c => ⟨(h c).1.trans ?_, (h c).2⟩) (Cert.KernelIdeal.Value.run_blocks m g)
    exact Cert.KernelIdeal.Attn.arr m c (finite_args m hpre c).1 (finite_args m hpre c).2
  · refine (θ_run _ _ _).mono (fun r h c => ⟨(h c).1.trans ?_, (h c).2⟩) (Cert.ReferenceIdeal.Value.run m' g')
    refine (Cert.ReferenceIdeal.Read.val_main_v31_eq m' c).trans ?_
    obtain ⟨h0, h1, h2⟩ := hargs c
    rw [h0, h1, h2]
    exact Cert.ReferenceIdeal.Attn.ref_eq _ _ _ (finite_args m hpre c).1 (finite_args m hpre c).2

/-- The reference runs, keeps its arguments and leaves every counter at zero: it has no counters. -/
theorem frame_ref (m : (ℓ : Loc Cert.ReferenceIdeal.nD Cert.ReferenceIdeal.τ Cert.ReferenceIdeal.sig) → Buf (Elt Ideal) ℓ)
    (g : Dev Cert.ReferenceIdeal.nD → PrngReg) : Cert.Pre_ReferenceIdeal m →
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) := fun _ =>
  (θ_run Cert.ReferenceIdeal.defs _ _).mono (fun r h => ⟨fun c => (h c).2, sem_eq_zero_of_no_sems (by decide) r.2⟩)
    (Cert.ReferenceIdeal.Value.run (F := Ideal) m g)

/-- The last part's result is its reference's. -/
theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Last.R (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4))
    (m ((c.tc : Thread Cert.Kernel2Ideal.nD Cert.Kernel2Ideal.τ).loc Cert.Kernel2Ideal.main_arg5))
    (m ((c.tc : Thread Cert.Kernel2Ideal.nD Cert.Kernel2Ideal.τ).loc Cert.Kernel2Ideal.main_arg7))
    (m ((c.tc : Thread Cert.Kernel2Ideal.nD Cert.Kernel2Ideal.τ).loc Cert.Kernel2Ideal.main_arg8))
    (m ((c.tc : Thread Cert.Kernel2Ideal.nD Cert.Kernel2Ideal.τ).loc Cert.Kernel2Ideal.main_arg9))
    (m ((c.tc : Thread Cert.Kernel2Ideal.nD Cert.Kernel2Ideal.τ).loc Cert.Kernel2Ideal.main_arg10))
    (m ((c.tc : Thread Cert.Kernel2Ideal.nD Cert.Kernel2Ideal.τ).loc Cert.Kernel2Ideal.main_arg11))
    (m ((c.tc : Thread Cert.Kernel2Ideal.nD Cert.Kernel2Ideal.τ).loc Cert.Kernel2Ideal.main_arg12)), ?_, ?_⟩
  · refine (θ_run _ _ _).mono (fun r h c => ⟨(h c).1.trans ?_, (h c).2⟩) (Cert.Kernel2Ideal.Value.run_blocks m g)
    exact Cert.Kernel2Ideal.Last.arr m c
  · refine (θ_run _ _ _).mono (fun r h c => ⟨(h c).1.trans ?_, (h c).2⟩) (Cert.Reference2Ideal.Value.run m' g')
    refine (Cert.Reference2Ideal.Read.val_main_v78_eq m' c).trans ?_
    obtain ⟨h0, h1, h2, h3, h4, h5, h6, h7, h8, h9, h10, h11, h12⟩ := hargs c
    rw [h0, h1, h2, h3, h4, h5, h7, h8, h9, h10, h11, h12]
    funext y
    rw [Idealize.ShloMosaic.eq_ix2 y]
    exact Cert.Reference2Ideal.Last.v78_apply _ _ _ _ _ _ _ _ _ _ _ _ _ _

/-- The first feed-forward step's result is its reference's. -/
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.First.R (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1))
    (m ((c.tc : Thread Cert.Kernel3Ideal.nD Cert.Kernel3Ideal.τ).loc Cert.Kernel3Ideal.main_arg2))
    (m ((c.tc : Thread Cert.Kernel3Ideal.nD Cert.Kernel3Ideal.τ).loc Cert.Kernel3Ideal.main_arg3))
    (m ((c.tc : Thread Cert.Kernel3Ideal.nD Cert.Kernel3Ideal.τ).loc Cert.Kernel3Ideal.main_arg4))
    (m ((c.tc : Thread Cert.Kernel3Ideal.nD Cert.Kernel3Ideal.τ).loc Cert.Kernel3Ideal.main_arg5)), ?_, ?_⟩
  · refine (θ_run _ _ _).mono (fun r h c => ⟨(h c).1.trans ?_, (h c).2⟩) (Cert.Kernel3Ideal.Value.run_blocks m g)
    exact Cert.Kernel3Ideal.First.arr m c
  · refine (θ_run _ _ _).mono (fun r h c => ⟨(h c).1.trans ?_, (h c).2⟩) (Cert.Reference3Ideal.Value.run m' g')
    refine (Cert.Reference3Ideal.Read.val_main_v39_eq m' c).trans ?_
    obtain ⟨h0, h1, h2, h3, h4, h5⟩ := hargs c
    rw [h0, h1, h2, h3, h4, h5]
    funext y
    rw [Idealize.ShloMosaic.eq_ix2 y]
    exact Cert.Reference3Ideal.First.v39_apply _ _ _ _ _ _ _ _

set_option maxHeartbeats 1000000 in
/-- The projections' ten results are their reference's. -/
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Proj.R11 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)),
    fun c => Cert.Kernel4Ideal.Proj.R12 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)),
    fun c => Cert.Kernel4Ideal.Proj.R13 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)),
    fun c => Cert.Kernel4Ideal.Proj.R14 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg6)),
    fun c => Cert.Kernel4Ideal.Proj.R15 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    fun c => Cert.Kernel4Ideal.Proj.R16 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    fun c => Cert.Kernel4Ideal.Proj.R17 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    fun c => Cert.Kernel4Ideal.Proj.R18 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    fun c => Cert.Kernel4Ideal.Proj.R19 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)),
    fun c => Cert.Kernel4Ideal.Proj.R20 (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)), ?_, ?_⟩
  · refine (θ_run _ _ _).mono (fun r h c => ?_) (Cert.Kernel4Ideal.Gen.run_blocks m g)
    obtain ⟨r11, r12, r13, r14, r15, r16, r17, r18, r19, r20, kept⟩ := h c
    exact ⟨r11.trans (Cert.Kernel4Ideal.Proj.arr11 m c), r12.trans (Cert.Kernel4Ideal.Proj.arr12 m c), r13.trans (Cert.Kernel4Ideal.Proj.arr13 m c), r14.trans (Cert.Kernel4Ideal.Proj.arr14 m c), r15.trans (Cert.Kernel4Ideal.Proj.arr15 m c), r16.trans (Cert.Kernel4Ideal.Proj.arr16 m c), r17.trans (Cert.Kernel4Ideal.Proj.arr17 m c), r18.trans (Cert.Kernel4Ideal.Proj.arr18 m c), r19.trans (Cert.Kernel4Ideal.Proj.arr19 m c), r20.trans (Cert.Kernel4Ideal.Proj.arr20 m c), kept⟩
  · refine (θ_run _ _ _).mono (fun r h c => ?_) (Cert.Reference4Ideal.Value.run m' g')
    obtain ⟨r11, r12, r13, r14, r15, r16, r17, r18, r19, r20, kept⟩ := h c
    obtain ⟨h0, h1, h2, h3, h4, h5, h6, h7, h8, h9⟩ := hargs c
    refine ⟨r11.trans ?_, r12.trans ?_, r13.trans ?_, r14.trans ?_, r15.trans ?_, r16.trans ?_, r17.trans ?_, r18.trans ?_, r19.trans ?_, r20.trans ?_, kept⟩
    all_goals beta_reduce
    · rw [← h0, ← h1, ← h2, ← h3, ← h4, ← h5]
      exact (Cert.Reference4Ideal.Read.val_main_v159_eq (StableHlo.launchContents m' c)).trans (Cert.Reference4Ideal.Proj.ref11 _ _ _ _ _ _)
    · rw [← h0, ← h1, ← h2, ← h3, ← h6, ← h7]
      exact (Cert.Reference4Ideal.Read.val_main_v161_eq (StableHlo.launchContents m' c)).trans (Cert.Reference4Ideal.Proj.ref12 _ _ _ _ _ _)
    · rw [← h0, ← h1, ← h2, ← h3, ← h6, ← h7]
      exact (Cert.Reference4Ideal.Read.val_main_v163_eq (StableHlo.launchContents m' c)).trans (Cert.Reference4Ideal.Proj.ref13 _ _ _ _ _ _)
    · rw [← h0, ← h1, ← h2, ← h3, ← h6]
      exact (Cert.Reference4Ideal.Read.val_main_v164_eq (StableHlo.launchContents m' c)).trans (Cert.Reference4Ideal.Proj.ref14 _ _ _ _ _)
    · rw [← h0, ← h1, ← h2, ← h3]
      exact (Cert.Reference4Ideal.Read.val_main_v165_eq (StableHlo.launchContents m' c)).trans (Cert.Reference4Ideal.Proj.ref15 _ _ _ _)
    · rw [← h0, ← h1, ← h2, ← h3]
      exact (Cert.Reference4Ideal.Read.val_main_v168_eq (StableHlo.launchContents m' c)).trans (Cert.Reference4Ideal.Proj.ref16 _ _ _ _)
    · rw [← h0, ← h1, ← h2, ← h3]
      exact (Cert.Reference4Ideal.Read.val_main_v169_eq (StableHlo.launchContents m' c)).trans (Cert.Reference4Ideal.Proj.ref17 _ _ _ _)
    · rw [← h0, ← h1, ← h2, ← h3]
      exact (Cert.Reference4Ideal.Read.val_main_v171_eq (StableHlo.launchContents m' c)).trans (Cert.Reference4Ideal.Proj.ref18 _ _ _ _)
    · rw [← h0, ← h1, ← h2, ← h3, ← h8, ← h9]
      exact (Cert.Reference4Ideal.Read.val_main_v172_eq (StableHlo.launchContents m' c)).trans (Cert.Reference4Ideal.Proj.ref19 _ _ _ _ _ _)
    · rw [← h0, ← h1, ← h2, ← h3]
      exact (Cert.Reference4Ideal.Read.val_main_v173_eq (StableHlo.launchContents m' c)).trans (Cert.Reference4Ideal.Proj.ref20 _ _ _ _)

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, pre_facts,
    fun m ρ _ => Cert.Kernel.Gen.frame m ρ, fun m ρ _ => Cert.KernelIdeal.Gen.frame m ρ, fun m ρ _ => Cert.KernelIdeal.Gen.frame m ρ,
    fun m ρ _ => frame_ref m ρ trivial, fun m ρ _ => frame_ref m ρ trivial,
    fun m ρ _ => Cert.Kernel2.Gen.frame m ρ, fun m ρ _ => Cert.Kernel2Ideal.Gen.frame m ρ,
    fun m ρ _ => (θ_run Cert.Reference2Ideal.defs _ _).mono (fun r h => ⟨fun c => (h c).2, sem_eq_zero_of_no_sems (by decide) r.2⟩)
      (Cert.Reference2Ideal.Value.run (F := Ideal) m ρ),
    fun m ρ _ => Cert.Kernel3.Gen.frame m ρ, fun m ρ _ => Cert.Kernel3Ideal.Gen.frame m ρ,
    fun m ρ _ => (θ_run Cert.Reference3Ideal.defs _ _).mono (fun r h => ⟨fun c => (h c).2, sem_eq_zero_of_no_sems (by decide) r.2⟩)
      (Cert.Reference3Ideal.Value.run (F := Ideal) m ρ),
    fun m ρ _ => Cert.Kernel4.Gen.frame m ρ, fun m ρ _ => Cert.Kernel4Ideal.Gen.frame m ρ,
    fun m ρ _ => (θ_run Cert.Reference4Ideal.defs _ _).mono (fun r h => ⟨fun c => (h c).2.2.2.2.2.2.2.2.2.2, sem_eq_zero_of_no_sems (by decide) r.2⟩)
      (Cert.Reference4Ideal.Value.run (F := Ideal) m ρ),
    ⟨IdealRules.named_const.statement Cert.KernelIdeal.κ "qscale" .f32 0x3E16C740#32 _ rfl,
      IdealRules.named_const.statement Cert.KernelIdeal.κ "mask" .f32 0xFF7F0000#32 _ rfl⟩,
    algebraic, trivial, algebraic2, trivial, algebraic3, trivial, algebraic4⟩

end Cert.Proof

end
